-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Recv (m : (ℓ : Loc Cert.Recv.nD Cert.Recv.τ Cert.Recv.sig) → Buf (Elt Bits) ℓ) : Prop :=
  True

def Pre_RecvIdeal (m : (ℓ : Loc Cert.RecvIdeal.nD Cert.RecvIdeal.τ Cert.RecvIdeal.sig) → Buf (Elt Ideal) ℓ) : Prop :=
  True

def Pre_RecvReferenceIdeal (m : (ℓ : Loc Cert.RecvReferenceIdeal.nD Cert.RecvReferenceIdeal.τ Cert.RecvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_Recv [hRecv : Cert.Recv.Facts] : Prop :=
  ∀ (m : (ℓ : Loc Cert.Recv.nD Cert.Recv.τ Cert.Recv.sig) → Buf (Elt Bits) ℓ) (g : Dev Cert.Recv.nD → PrngReg), Pre_Recv m →
    θ_run (Cert.Recv.defs (F := Bits)) (onTc (τ := Cert.Recv.τ) (Cert.Recv.main (F := Bits))) ⟨m, fun _ => 0, g⟩ (fun r => (∀ c : Dev Cert.Recv.nD,
      r.2.mem ((c.tc : Thread Cert.Recv.nD Cert.Recv.τ).loc Cert.Recv.main_arg0) = m ((c.tc : Thread Cert.Recv.nD Cert.Recv.τ).loc Cert.Recv.main_arg0)
      ∧ r.2.mem ((c.tc : Thread Cert.Recv.nD Cert.Recv.τ).loc Cert.Recv.main_arg1) = m ((c.tc : Thread Cert.Recv.nD Cert.Recv.τ).loc Cert.Recv.main_arg1)
      ∧ r.2.mem ((c.tc : Thread Cert.Recv.nD Cert.Recv.τ).loc Cert.Recv.main_arg2) = m ((c.tc : Thread Cert.Recv.nD Cert.Recv.τ).loc Cert.Recv.main_arg2)
      ∧ r.2.mem ((c.tc : Thread Cert.Recv.nD Cert.Recv.τ).loc Cert.Recv.main_arg3) = m ((c.tc : Thread Cert.Recv.nD Cert.Recv.τ).loc Cert.Recv.main_arg3))
      ∧ r.2.sem = fun _ => 0)

def quiescent_RecvIdeal [hRecvIdeal : Cert.RecvIdeal.Facts] : Prop :=
  ∀ (m : (ℓ : Loc Cert.RecvIdeal.nD Cert.RecvIdeal.τ Cert.RecvIdeal.sig) → Buf (Elt Ideal) ℓ) (g : Dev Cert.RecvIdeal.nD → PrngReg), Pre_RecvIdeal m →
    θ_run (Cert.RecvIdeal.defs (F := Ideal)) (onTc (τ := Cert.RecvIdeal.τ) (Cert.RecvIdeal.main (F := Ideal))) ⟨m, fun _ => 0, g⟩ (fun r => (∀ c : Dev Cert.RecvIdeal.nD,
      r.2.mem ((c.tc : Thread Cert.RecvIdeal.nD Cert.RecvIdeal.τ).loc Cert.RecvIdeal.main_arg0) = m ((c.tc : Thread Cert.RecvIdeal.nD Cert.RecvIdeal.τ).loc Cert.RecvIdeal.main_arg0)
      ∧ r.2.mem ((c.tc : Thread Cert.RecvIdeal.nD Cert.RecvIdeal.τ).loc Cert.RecvIdeal.main_arg1) = m ((c.tc : Thread Cert.RecvIdeal.nD Cert.RecvIdeal.τ).loc Cert.RecvIdeal.main_arg1)
      ∧ r.2.mem ((c.tc : Thread Cert.RecvIdeal.nD Cert.RecvIdeal.τ).loc Cert.RecvIdeal.main_arg2) = m ((c.tc : Thread Cert.RecvIdeal.nD Cert.RecvIdeal.τ).loc Cert.RecvIdeal.main_arg2)
      ∧ r.2.mem ((c.tc : Thread Cert.RecvIdeal.nD Cert.RecvIdeal.τ).loc Cert.RecvIdeal.main_arg3) = m ((c.tc : Thread Cert.RecvIdeal.nD Cert.RecvIdeal.τ).loc Cert.RecvIdeal.main_arg3))
      ∧ r.2.sem = fun _ => 0)

def quiescent_RecvReferenceIdeal [hRecvReferenceIdeal : Cert.RecvReferenceIdeal.Facts] : Prop :=
  ∀ (m : (ℓ : Loc Cert.RecvReferenceIdeal.nD Cert.RecvReferenceIdeal.τ Cert.RecvReferenceIdeal.sig) → Buf (Elt Ideal) ℓ) (g : Dev Cert.RecvReferenceIdeal.nD → PrngReg), Pre_RecvReferenceIdeal m →
    θ_run (Cert.RecvReferenceIdeal.defs (F := Ideal)) (onTc (τ := Cert.RecvReferenceIdeal.τ) (Cert.RecvReferenceIdeal.main (F := Ideal))) ⟨m, fun _ => 0, g⟩ (fun r => (∀ c : Dev Cert.RecvReferenceIdeal.nD,
      r.2.mem ((c.tc : Thread Cert.RecvReferenceIdeal.nD Cert.RecvReferenceIdeal.τ).loc Cert.RecvReferenceIdeal.main_arg0) = m ((c.tc : Thread Cert.RecvReferenceIdeal.nD Cert.RecvReferenceIdeal.τ).loc Cert.RecvReferenceIdeal.main_arg0)
      ∧ r.2.mem ((c.tc : Thread Cert.RecvReferenceIdeal.nD Cert.RecvReferenceIdeal.τ).loc Cert.RecvReferenceIdeal.main_arg1) = m ((c.tc : Thread Cert.RecvReferenceIdeal.nD Cert.RecvReferenceIdeal.τ).loc Cert.RecvReferenceIdeal.main_arg1)
      ∧ r.2.mem ((c.tc : Thread Cert.RecvReferenceIdeal.nD Cert.RecvReferenceIdeal.τ).loc Cert.RecvReferenceIdeal.main_arg2) = m ((c.tc : Thread Cert.RecvReferenceIdeal.nD Cert.RecvReferenceIdeal.τ).loc Cert.RecvReferenceIdeal.main_arg2)
      ∧ r.2.mem ((c.tc : Thread Cert.RecvReferenceIdeal.nD Cert.RecvReferenceIdeal.τ).loc Cert.RecvReferenceIdeal.main_arg3) = m ((c.tc : Thread Cert.RecvReferenceIdeal.nD Cert.RecvReferenceIdeal.τ).loc Cert.RecvReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v1_0) = v0 c
          ∧ r.2.mem ((c.tc : Thread Cert.DownReferenceIdeal.nD Cert.DownReferenceIdeal.τ).loc Cert.DownReferenceIdeal.main_v1_1) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_Recv_RecvIdeal : Prop :=
  True

def algebraic_RecvIdeal_RecvReferenceIdeal [hRecvIdeal : Cert.RecvIdeal.Facts] [hRecvReferenceIdeal : Cert.RecvReferenceIdeal.Facts] : Prop :=
  ∀ (m : (ℓ : Loc Cert.RecvIdeal.nD Cert.RecvIdeal.τ Cert.RecvIdeal.sig) → Buf (Elt Ideal) ℓ) (g : Dev Cert.RecvIdeal.nD → PrngReg)
    (m' : (ℓ : Loc Cert.RecvReferenceIdeal.nD Cert.RecvReferenceIdeal.τ Cert.RecvReferenceIdeal.sig) → Buf (Elt Ideal) ℓ) (g' : Dev Cert.RecvReferenceIdeal.nD → PrngReg), Pre_RecvIdeal m →
    (∀ c : Dev Cert.RecvIdeal.nD,
      m' ((c.tc : Thread Cert.RecvReferenceIdeal.nD Cert.RecvReferenceIdeal.τ).loc Cert.RecvReferenceIdeal.main_arg0) = m ((c.tc : Thread Cert.RecvIdeal.nD Cert.RecvIdeal.τ).loc Cert.RecvIdeal.main_arg0)
      ∧ m' ((c.tc : Thread Cert.RecvReferenceIdeal.nD Cert.RecvReferenceIdeal.τ).loc Cert.RecvReferenceIdeal.main_arg1) = m ((c.tc : Thread Cert.RecvIdeal.nD Cert.RecvIdeal.τ).loc Cert.RecvIdeal.main_arg1)
      ∧ m' ((c.tc : Thread Cert.RecvReferenceIdeal.nD Cert.RecvReferenceIdeal.τ).loc Cert.RecvReferenceIdeal.main_arg2) = m ((c.tc : Thread Cert.RecvIdeal.nD Cert.RecvIdeal.τ).loc Cert.RecvIdeal.main_arg2)
      ∧ m' ((c.tc : Thread Cert.RecvReferenceIdeal.nD Cert.RecvReferenceIdeal.τ).loc Cert.RecvReferenceIdeal.main_arg3) = m ((c.tc : Thread Cert.RecvIdeal.nD Cert.RecvIdeal.τ).loc Cert.RecvIdeal.main_arg3)) →
    ∃ (v0 : (c : Dev Cert.RecvIdeal.nD) → Buf (Elt Ideal) ((c.tc : Thread Cert.RecvIdeal.nD Cert.RecvIdeal.τ).loc Cert.RecvIdeal.main_v0_0)) (v1 : (c : Dev Cert.RecvIdeal.nD) → Buf (Elt Ideal) ((c.tc : Thread Cert.RecvIdeal.nD Cert.RecvIdeal.τ).loc Cert.RecvIdeal.main_v0_1)) (v2 : (c : Dev Cert.RecvIdeal.nD) → Buf (Elt Ideal) ((c.tc : Thread Cert.RecvIdeal.nD Cert.RecvIdeal.τ).loc Cert.RecvIdeal.main_v0_2)),
      θ_run (Cert.RecvIdeal.defs (F := Ideal)) (onTc (τ := Cert.RecvIdeal.τ) (Cert.RecvIdeal.main (F := Ideal))) ⟨m, fun _ => 0, g⟩ (fun r => ∀ c : Dev Cert.RecvIdeal.nD,
          r.2.mem ((c.tc : Thread Cert.RecvIdeal.nD Cert.RecvIdeal.τ).loc Cert.RecvIdeal.main_v0_0) = v0 c
          ∧ r.2.mem ((c.tc : Thread Cert.RecvIdeal.nD Cert.RecvIdeal.τ).loc Cert.RecvIdeal.main_v0_1) = v1 c
          ∧ r.2.mem ((c.tc : Thread Cert.RecvIdeal.nD Cert.RecvIdeal.τ).loc Cert.RecvIdeal.main_v0_2) = v2 c
          ∧ r.2.mem ((c.tc : Thread Cert.RecvIdeal.nD Cert.RecvIdeal.τ).loc Cert.RecvIdeal.main_arg0) = m ((c.tc : Thread Cert.RecvIdeal.nD Cert.RecvIdeal.τ).loc Cert.RecvIdeal.main_arg0)
          ∧ r.2.mem ((c.tc : Thread Cert.RecvIdeal.nD Cert.RecvIdeal.τ).loc Cert.RecvIdeal.main_arg1) = m ((c.tc : Thread Cert.RecvIdeal.nD Cert.RecvIdeal.τ).loc Cert.RecvIdeal.main_arg1)
          ∧ r.2.mem ((c.tc : Thread Cert.RecvIdeal.nD Cert.RecvIdeal.τ).loc Cert.RecvIdeal.main_arg2) = m ((c.tc : Thread Cert.RecvIdeal.nD Cert.RecvIdeal.τ).loc Cert.RecvIdeal.main_arg2)
          ∧ r.2.mem ((c.tc : Thread Cert.RecvIdeal.nD Cert.RecvIdeal.τ).loc Cert.RecvIdeal.main_arg3) = m ((c.tc : Thread Cert.RecvIdeal.nD Cert.RecvIdeal.τ).loc Cert.RecvIdeal.main_arg3))
      ∧ θ_run (Cert.RecvReferenceIdeal.defs (F := Ideal)) (onTc (τ := Cert.RecvReferenceIdeal.τ) (Cert.RecvReferenceIdeal.main (F := Ideal))) ⟨m', fun _ => 0, g'⟩ (fun r => ∀ c : Dev Cert.RecvReferenceIdeal.nD,
          r.2.mem ((c.tc : Thread Cert.RecvReferenceIdeal.nD Cert.RecvReferenceIdeal.τ).loc Cert.RecvReferenceIdeal.main_v0_0) = v0 c
          ∧ r.2.mem ((c.tc : Thread Cert.RecvReferenceIdeal.nD Cert.RecvReferenceIdeal.τ).loc Cert.RecvReferenceIdeal.main_v0_1) = v1 c
          ∧ r.2.mem ((c.tc : Thread Cert.RecvReferenceIdeal.nD Cert.RecvReferenceIdeal.τ).loc Cert.RecvReferenceIdeal.main_v0_2) = v2 c
          ∧ r.2.mem ((c.tc : Thread Cert.RecvReferenceIdeal.nD Cert.RecvReferenceIdeal.τ).loc Cert.RecvReferenceIdeal.main_arg0) = m' ((c.tc : Thread Cert.RecvReferenceIdeal.nD Cert.RecvReferenceIdeal.τ).loc Cert.RecvReferenceIdeal.main_arg0)
          ∧ r.2.mem ((c.tc : Thread Cert.RecvReferenceIdeal.nD Cert.RecvReferenceIdeal.τ).loc Cert.RecvReferenceIdeal.main_arg1) = m' ((c.tc : Thread Cert.RecvReferenceIdeal.nD Cert.RecvReferenceIdeal.τ).loc Cert.RecvReferenceIdeal.main_arg1)
          ∧ r.2.mem ((c.tc : Thread Cert.RecvReferenceIdeal.nD Cert.RecvReferenceIdeal.τ).loc Cert.RecvReferenceIdeal.main_arg2) = m' ((c.tc : Thread Cert.RecvReferenceIdeal.nD Cert.RecvReferenceIdeal.τ).loc Cert.RecvReferenceIdeal.main_arg2)
          ∧ r.2.mem ((c.tc : Thread Cert.RecvReferenceIdeal.nD Cert.RecvReferenceIdeal.τ).loc Cert.RecvReferenceIdeal.main_arg3) = m' ((c.tc : Thread Cert.RecvReferenceIdeal.nD Cert.RecvReferenceIdeal.τ).loc Cert.RecvReferenceIdeal.main_arg3))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts) (hRecv : Cert.Recv.Facts) (hRecvIdeal : Cert.RecvIdeal.Facts) (hRecvReferenceIdeal : Cert.RecvReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Down (hDown := hDown)
    ∧ quiescent_DownIdeal (hDownIdeal := hDownIdeal)
    ∧ quiescent_DownReferenceIdeal (hDownReferenceIdeal := hDownReferenceIdeal)
    ∧ quiescent_Recv (hRecv := hRecv)
    ∧ quiescent_RecvIdeal (hRecvIdeal := hRecvIdeal)
    ∧ quiescent_RecvReferenceIdeal (hRecvReferenceIdeal := hRecvReferenceIdeal)
    ∧ preserves_Kernel_KernelIdeal
    ∧ algebraic_KernelIdeal_ReferenceIdeal (hKernelIdeal := hKernelIdeal) (hReferenceIdeal := hReferenceIdeal)
    ∧ preserves_Down_DownIdeal
    ∧ algebraic_DownIdeal_DownReferenceIdeal (hDownIdeal := hDownIdeal) (hDownReferenceIdeal := hDownReferenceIdeal)
    ∧ preserves_Recv_RecvIdeal
    ∧ algebraic_RecvIdeal_RecvReferenceIdeal (hRecvIdeal := hRecvIdeal) (hRecvReferenceIdeal := hRecvReferenceIdeal)
-- ==== Kernel.lean ====
abbrev S1280x16384 : Shape := ⟨2, ![1280, 16384]⟩
abbrev S1280x128 : Shape := ⟨2, ![1280, 128]⟩
abbrev S16384x6656 : Shape := ⟨2, ![16384, 6656]⟩
abbrev S6656 : Shape := ⟨1, ![6656]⟩
abbrev S1x6656 : Shape := ⟨2, ![1, 6656]⟩
abbrev S1280x6656 : Shape := ⟨2, ![1280, 6656]⟩
abbrev S16384x256 : Shape := ⟨2, ![16384, 256]⟩
abbrev S1x256 : Shape := ⟨2, ![1, 256]⟩
abbrev S1280x256 : Shape := ⟨2, ![1280, 256]⟩
abbrev S640x16384 : Shape := ⟨2, ![640, 16384]⟩
abbrev S640x1 : Shape := ⟨2, ![640, 1]⟩
abbrev S640x256 : Shape := ⟨2, ![640, 256]⟩
abbrev S640x128 : Shape := ⟨2, ![640, 128]⟩
abbrev S64x6656 : Shape := ⟨2, ![64, 6656]⟩
abbrev S64x128 : Shape := ⟨2, ![64, 128]⟩
abbrev S64 : Shape := ⟨1, ![64]⟩
abbrev S64x1 : Shape := ⟨2, ![64, 1]⟩

abbrev nBuf : Space → Nat
  | .hbm => 12
  | .vmem => 21
  | .smem => 0
  | _ => 0

abbrev bufTy : (tb : Table) → Fin (tcTables nBuf tb) → BufTy
  | .hbm, ⟨0, _⟩ => ⟨S1280x16384, .fp8e4m3⟩
  | .hbm, ⟨1, _⟩ => ⟨S1280x128, .f32⟩
  | .hbm, ⟨2, _⟩ => ⟨S16384x6656, .fp8e4m3⟩
  | .hbm, ⟨3, _⟩ => ⟨S6656, .f32⟩
  | .hbm, ⟨4, _⟩ => ⟨S16384x6656, .fp8e4m3⟩
  | .hbm, ⟨5, _⟩ => ⟨S6656, .f32⟩
  | .hbm, ⟨6, _⟩ => ⟨S1x6656, .f32⟩
  | .hbm, ⟨7, _⟩ => ⟨S1x6656, .f32⟩
  | .hbm, ⟨8, _⟩ => ⟨S1280x6656, .f32⟩
  | .hbm, ⟨9, _⟩ => ⟨S1280x128, .f32⟩
  | .hbm, ⟨10, _⟩ => ⟨S1280x6656, .fp8e4m3⟩
  | .hbm, ⟨11, _⟩ => ⟨S1280x128, .f32⟩
  | .local _ .vmem, ⟨0, _⟩ => ⟨S1280x16384, .fp8e4m3⟩
  | .local _ .vmem, ⟨1, _⟩ => ⟨S1280x128, .f32⟩
  | .local _ .vmem, ⟨2, _⟩ => ⟨S16384x256, .fp8e4m3⟩
  | .local _ .vmem, ⟨3, _⟩ => ⟨S16384x256, .fp8e4m3⟩
  | .local _ .vmem, ⟨4, _⟩ => ⟨S16384x256, .fp8e4m3⟩
  | .local _ .vmem, ⟨5, _⟩ => ⟨S16384x256, .fp8e4m3⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1280x256, .f32⟩
  | .local _ .vmem, ⟨11, _⟩ => ⟨S1280x256, .f32⟩
  | .local _ .vmem, ⟨12, _⟩ => ⟨S1280x128, .f32⟩
  | .local _ .vmem, ⟨13, _⟩ => ⟨S64x6656, .f32⟩
  | .local _ .vmem, ⟨14, _⟩ => ⟨S64x6656, .f32⟩
  | .local _ .vmem, ⟨15, _⟩ => ⟨S64x128, .f32⟩
  | .local _ .vmem, ⟨16, _⟩ => ⟨S64x128, .f32⟩
  | .local _ .vmem, ⟨17, _⟩ => ⟨S64x6656, .fp8e4m3⟩
  | .local _ .vmem, ⟨18, _⟩ => ⟨S64x6656, .fp8e4m3⟩
  | .local _ .vmem, ⟨19, _⟩ => ⟨S64x128, .f32⟩
  | .local _ .vmem, ⟨20, _⟩ => ⟨S64x128, .f32⟩
  | _, _ => ⟨S1280x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1280x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1280x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16384x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1280x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1280x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x6656 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x6656 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S1280x16384 : Shape := ⟨2, ![1280, 16384]⟩
abbrev S1280x128 : Shape := ⟨2, ![1280, 128]⟩
abbrev S16384x6656 : Shape := ⟨2, ![16384, 6656]⟩
abbrev S6656 : Shape := ⟨1, ![6656]⟩
abbrev S1x6656 : Shape := ⟨2, ![1, 6656]⟩
abbrev S1280x6656 : Shape := ⟨2, ![1280, 6656]⟩
abbrev S1280x1 : Shape := ⟨2, ![1280, 1]⟩
abbrev S1280 : Shape := ⟨1, ![1280]⟩

abbrev nBuf : Space → Nat
  | .hbm => 10
  | .vmem => 8
  | .smem => 0
  | _ => 0

abbrev bufTy : (tb : Table) → Fin (tcTables nBuf tb) → BufTy
  | .hbm, ⟨0, _⟩ => ⟨S1280x16384, .fp8e4m3⟩
  | .hbm, ⟨1, _⟩ => ⟨S1280x128, .f32⟩
  | .hbm, ⟨2, _⟩ => ⟨S16384x6656, .fp8e4m3⟩
  | .hbm, ⟨3, _⟩ => ⟨S6656, .f32⟩
  | .hbm, ⟨4, _⟩ => ⟨S16384x6656, .fp8e4m3⟩
  | .hbm, ⟨5, _⟩ => ⟨S6656, .f32⟩
  | .hbm, ⟨6, _⟩ => ⟨S1x6656, .f32⟩
  | .hbm, ⟨7, _⟩ => ⟨S1x6656, .f32⟩
  | .hbm, ⟨8, _⟩ => ⟨S1280x6656, .fp8e4m3⟩
  | .hbm, ⟨9, _⟩ => ⟨S1280x128, .f32⟩
  | .local _ .vmem, ⟨0, _⟩ => ⟨S1280x16384, .fp8e4m3⟩
  | .local _ .vmem, ⟨1, _⟩ => ⟨S1280x128, .f32⟩
  | .local _ .vmem, ⟨2, _⟩ => ⟨S16384x6656, .fp8e4m3⟩
  | .local _ .vmem, ⟨3, _⟩ => ⟨S1x6656, .f32⟩
  | .local _ .vmem, ⟨4, _⟩ => ⟨S16384x6656, .fp8e4m3⟩
  | .local _ .vmem, ⟨5, _⟩ => ⟨S1x6656, .f32⟩
  | .local _ .vmem, ⟨6, _⟩ => ⟨S1280x6656, .fp8e4m3⟩
  | .local _ .vmem, ⟨7, _⟩ => ⟨S1280x128, .f32⟩
  | _, _ => ⟨S1280x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1280x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x6656 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x6656 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x6656 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x6656 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1280x6656 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1280x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Down.lean ====
abbrev S1280x6656 : Shape := ⟨2, ![1280, 6656]⟩
abbrev S1280x128 : Shape := ⟨2, ![1280, 128]⟩
abbrev S6656x16384 : Shape := ⟨2, ![6656, 16384]⟩
abbrev S16384 : Shape := ⟨1, ![16384]⟩
abbrev S1x16384 : Shape := ⟨2, ![1, 16384]⟩
abbrev S1280x16384 : Shape := ⟨2, ![1280, 16384]⟩
abbrev S6656x512 : Shape := ⟨2, ![6656, 512]⟩
abbrev S1x512 : Shape := ⟨2, ![1, 512]⟩
abbrev S1280x512 : Shape := ⟨2, ![1280, 512]⟩
abbrev S640x128 : Shape := ⟨2, ![640, 128]⟩
abbrev S640x6656 : Shape := ⟨2, ![640, 6656]⟩
abbrev S640x512 : Shape := ⟨2, ![640, 512]⟩
abbrev S640x1 : Shape := ⟨2, ![640, 1]⟩
abbrev S640 : Shape := ⟨1, ![640]⟩

abbrev nBuf : Space → Nat
  | .hbm => 7
  | .vmem => 9
  | .smem => 0
  | _ => 0

abbrev bufTy : (tb : Table) → Fin (tcTables nBuf tb) → BufTy
  | .hbm, ⟨0, _⟩ => ⟨S1280x6656, .fp8e4m3⟩
  | .hbm, ⟨1, _⟩ => ⟨S1280x128, .f32⟩
  | .hbm, ⟨2, _⟩ => ⟨S6656x16384, .fp8e4m3⟩
  | .hbm, ⟨3, _⟩ => ⟨S16384, .f32⟩
  | .hbm, ⟨4, _⟩ => ⟨S1x16384, .f32⟩
  | .hbm, ⟨5, _⟩ => ⟨S1280x16384, .fp8e4m3⟩
  | .hbm, ⟨6, _⟩ => ⟨S1280x128, .f32⟩
  | .local _ .vmem, ⟨0, _⟩ => ⟨S1280x6656, .fp8e4m3⟩
  | .local _ .vmem, ⟨1, _⟩ => ⟨S1280x128, .f32⟩
  | .local _ .vmem, ⟨2, _⟩ => ⟨S6656x512, .fp8e4m3⟩
  | .local _ .vmem, ⟨3, _⟩ => ⟨S6656x512, .fp8e4m3⟩
  | .local _ .vmem, ⟨4, _⟩ => ⟨S1x512, .f32⟩
  | .local _ .vmem, ⟨5, _⟩ => ⟨S1x512, .f32⟩
  | .local _ .vmem, ⟨6, _⟩ => ⟨S1280x512, .fp8e4m3⟩
  | .local _ .vmem, ⟨7, _⟩ => ⟨S1280x512, .fp8e4m3⟩
  | .local _ .vmem, ⟨8, _⟩ => ⟨S1280x128, .f32⟩
  | _, _ => ⟨S1280x6656, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1280x6656 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1280x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6656x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1280x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1280x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== DownReferenceIdeal.lean ====
abbrev S1280x6656 : Shape := ⟨2, ![1280, 6656]⟩
abbrev S1280x128 : Shape := ⟨2, ![1280, 128]⟩
abbrev S6656x16384 : Shape := ⟨2, ![6656, 16384]⟩
abbrev S16384 : Shape := ⟨1, ![16384]⟩
abbrev S1x16384 : Shape := ⟨2, ![1, 16384]⟩
abbrev S1280x16384 : Shape := ⟨2, ![1280, 16384]⟩
abbrev S1280x1 : Shape := ⟨2, ![1280, 1]⟩
abbrev S1280x128x128 : Shape := ⟨3, ![1280, 128, 128]⟩
abbrev S1280x128x1 : Shape := ⟨3, ![1280, 128, 1]⟩

abbrev nBuf : Space → Nat
  | .hbm => 7
  | .vmem => 6
  | .smem => 0
  | _ => 0

abbrev bufTy : (tb : Table) → Fin (tcTables nBuf tb) → BufTy
  | .hbm, ⟨0, _⟩ => ⟨S1280x6656, .fp8e4m3⟩
  | .hbm, ⟨1, _⟩ => ⟨S1280x128, .f32⟩
  | .hbm, ⟨2, _⟩ => ⟨S6656x16384, .fp8e4m3⟩
  | .hbm, ⟨3, _⟩ => ⟨S16384, .f32⟩
  | .hbm, ⟨4, _⟩ => ⟨S1x16384, .f32⟩
  | .hbm, ⟨5, _⟩ => ⟨S1280x16384, .fp8e4m3⟩
  | .hbm, ⟨6, _⟩ => ⟨S1280x128, .f32⟩
  | .local _ .vmem, ⟨0, _⟩ => ⟨S1280x6656, .fp8e4m3⟩
  | .local _ .vmem, ⟨1, _⟩ => ⟨S1280x128, .f32⟩
  | .local _ .vmem, ⟨2, _⟩ => ⟨S6656x16384, .fp8e4m3⟩
  | .local _ .vmem, ⟨3, _⟩ => ⟨S1x16384, .f32⟩
  | .local _ .vmem, ⟨4, _⟩ => ⟨S1280x16384, .fp8e4m3⟩
  | .local _ .vmem, ⟨5, _⟩ => ⟨S1280x128, .f32⟩
  | _, _ => ⟨S1280x6656, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1280x6656 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6656x16384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x16384 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1280x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Recv.lean ====
abbrev S8x1280x8192 : Shape := ⟨3, ![8, 1280, 8192]⟩
abbrev S8x1280x512 : Shape := ⟨3, ![8, 1280, 512]⟩
abbrev S1280x16384 : Shape := ⟨2, ![1280, 16384]⟩
abbrev S1x16384 : Shape := ⟨2, ![1, 16384]⟩
abbrev S1280x128 : Shape := ⟨2, ![1280, 128]⟩
abbrev S8x32x8192 : Shape := ⟨3, ![8, 32, 8192]⟩
abbrev S8x32x512 : Shape := ⟨3, ![8, 32, 512]⟩
abbrev S32x16384 : Shape := ⟨2, ![32, 16384]⟩
abbrev S32x128 : Shape := ⟨2, ![32, 128]⟩
abbrev S1x32x128 : Shape := ⟨3, ![1, 32, 128]⟩
abbrev S8x128 : Shape := ⟨2, ![8, 128]⟩
abbrev S32x128x1 : Shape := ⟨3, ![32, 128, 1]⟩
abbrev S1x128 : Shape := ⟨2, ![1, 128]⟩
abbrev S32 : Shape := ⟨1, ![32]⟩
abbrev S32x1 : Shape := ⟨2, ![32, 1]⟩

abbrev nBuf : Space → Nat
  | .hbm => 7
  | .vmem => 14
  | .smem => 0
  | _ => 0

abbrev bufTy : (tb : Table) → Fin (tcTables nBuf tb) → BufTy
  | .hbm, ⟨0, _⟩ => ⟨S8x1280x8192, .i8⟩
  | .hbm, ⟨1, _⟩ => ⟨S8x1280x512, .f32⟩
  | .hbm, ⟨2, _⟩ => ⟨S1280x16384, .bf16⟩
  | .hbm, ⟨3, _⟩ => ⟨S1x16384, .f32⟩
  | .hbm, ⟨4, _⟩ => ⟨S1280x16384, .bf16⟩
  | .hbm, ⟨5, _⟩ => ⟨S1280x16384, .fp8e4m3⟩
  | .hbm, ⟨6, _⟩ => ⟨S1280x128, .f32⟩
  | .local _ .vmem, ⟨0, _⟩ => ⟨S8x32x8192, .i8⟩
  | .local _ .vmem, ⟨1, _⟩ => ⟨S8x32x8192, .i8⟩
  | .local _ .vmem, ⟨2, _⟩ => ⟨S8x32x512, .f32⟩
  | .local _ .vmem, ⟨3, _⟩ => ⟨S8x32x512, .f32⟩
  | .local _ .vmem, ⟨4, _⟩ => ⟨S32x16384, .bf16⟩
  | .local _ .vmem, ⟨5, _⟩ => ⟨S32x16384, .bf16⟩
  | .local _ .vmem, ⟨6, _⟩ => ⟨S1x16384, .f32⟩
  | .local _ .vmem, ⟨7, _⟩ => ⟨S32x16384, .bf16⟩
  | .local _ .vmem, ⟨8, _⟩ => ⟨S32x16384, .bf16⟩
  | .local _ .vmem, ⟨9, _⟩ => ⟨S32x16384, .fp8e4m3⟩
  | .local _ .vmem, ⟨10, _⟩ => ⟨S32x16384, .fp8e4m3⟩
  | .local _ .vmem, ⟨11, _⟩ => ⟨S32x128, .f32⟩
  | .local _ .vmem, ⟨12, _⟩ => ⟨S32x128, .f32⟩
  | .local _ .vmem, ⟨13, _⟩ => ⟨S32x16384, .f32⟩
  | _, _ => ⟨S8x1280x8192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![40], ![false]⟩

@[reducible] def k0_t1_loop : Scf.Loop 32 :=
  let c0_i32_6 : BitVec 32 := 0#32
  let c4_i32 : BitVec 32 := 4#32
  let v22 : BitVec 32 := Scalar.addi c0_i32_6 c4_i32
  let c1_i32_7 : BitVec 32 := 1#32
  ⟨c0_i32_6, v22, c1_i32_7⟩
def k0_mult1 (k0_t1 : Fin k0_t1_loop.trips) : BitVec 32 :=
  let c0_i32_6 : BitVec 32 := 0#32
  let c1_i32_7 : BitVec 32 := 1#32
  let arg9 : BitVec 32 := Scf.iv c0_i32_6 c1_i32_7 k0_t1
  let c128_i32 : BitVec 32 := 128#32
  let v47 : BitVec 32 := Scalar.muli arg9 c128_i32
  v47
def k0_off1 (k0_t1 : Fin k0_t1_loop.trips) : Fin 3 → Nat :=
  let c0_21 : Index := 0#32
  let c0_22 : Index := 0#32
  let c0_i32_6 : BitVec 32 := 0#32
  let c1_i32_7 : BitVec 32 := 1#32
  let arg9 : BitVec 32 := Scf.iv c0_i32_6 c1_i32_7 k0_t1
  let c128_i32 : BitVec 32 := 128#32
  let v47 : BitVec 32 := Scalar.muli arg9 c128_i32
  let v48 : BitVec 32 := v47
  let v49 : Index := Scalar.indexCast v48
  ![0, 0, v49.toNat]
def k0_mult2 (k0_t1 : Fin k0_t1_loop.trips) : BitVec 32 :=
  let c0_i32_6 : BitVec 32 := 0#32
  let c1_i32_7 : BitVec 32 := 1#32
  let arg9 : BitVec 32 := Scf.iv c0_i32_6 c1_i32_7 k0_t1
  let c128_i32_24 : BitVec 32 := 128#32
  let v54 : BitVec 32 := Scalar.muli arg9 c128_i32_24
  v54
def k0_off2 (k0_t1 : Fin k0_t1_loop.trips) : Fin 3 → Nat :=
  let c1 : Index := 1#32
  let c0_25 : Index := 0#32
  let c0_i32_6 : BitVec 32 := 0#32
  let c1_i32_7 : BitVec 32 := 1#32
  let arg9 : BitVec 32 := Scf.iv c0_i32_6 c1_i32_7 k0_t1
  let c128_i32_24 : BitVec 32 := 128#32
  let v54 : BitVec 32 := Scalar.muli arg9 c128_i32_24
  let v55 : BitVec 32 := v54
  let v56 : Index := Scalar.indexCast v55
  ![1, 0, v56.toNat]
def k0_mult3 (k0_t1 : Fin k0_t1_loop.trips) : BitVec 32 :=
  let c0_i32_6 : BitVec 32 := 0#32
  let c1_i32_7 : BitVec 32 := 1#32
  let arg9 : BitVec 32 := Scf.iv c0_i32_6 c1_i32_7 k0_t1
  let c128_i32_27 : BitVec 32 := 128#32
  let v61 : BitVec 32 := Scalar.muli arg9 c128_i32_27
  v61
def k0_off3 (k0_t1 : Fin k0_t1_loop.trips) : Fin 3 → Nat :=
  let c2 : Index := 2#32
  let c0_28 : Index := 0#32
  let c0_i32_6 : BitVec 32 := 0#32
  let c1_i32_7 : BitVec 32 := 1#32
  let arg9 : BitVec 32 := Scf.iv c0_i32_6 c1_i32_7 k0_t1
  let c128_i32_27 : BitVec 32 := 128#32
  let v61 : BitVec 32 := Scalar.muli arg9 c128_i32_27
  let v62 : BitVec 32 := v61
  let v63 : Index := Scalar.indexCast v62
  ![2, 0, v63.toNat]
def k0_mult4 (k0_t1 : Fin k0_t1_loop.trips) : BitVec 32 :=
  let c0_i32_6 : BitVec 32 := 0#32
  let c1_i32_7 : BitVec 32 := 1#32
  let arg9 : BitVec 32 := Scf.iv c0_i32_6 c1_i32_7 k0_t1
  let c128_i32_30 : BitVec 32 := 128#32
  let v68 : BitVec 32 := Scalar.muli arg9 c128_i32_30
  v68
def k0_off4 (k0_t1 : Fin k0_t1_loop.trips) : Fin 3 → Nat :=
  let c3 : Index := 3#32
  let c0_31 : Index := 0#32
  let c0_i32_6 : BitVec 32 := 0#32
  let c1_i32_7 : BitVec 32 := 1#32
  let arg9 : BitVec 32 := Scf.iv c0_i32_6 c1_i32_7 k0_t1
  let c128_i32_30 : BitVec 32 := 128#32
  let v68 : BitVec 32 := Scalar.muli arg9 c128_i32_30
  let v69 : BitVec 32 := v68
  let v70 : Index := Scalar.indexCast v69
  ![3, 0, v70.toNat]
def k0_mult5 (k0_t1 : Fin k0_t1_loop.trips) : BitVec 32 :=
  let c0_i32_6 : BitVec 32 := 0#32
  let c1_i32_7 : BitVec 32 := 1#32
  let arg9 : BitVec 32 := Scf.iv c0_i32_6 c1_i32_7 k0_t1
  let c128_i32_33 : BitVec 32 := 128#32
  let v75 : BitVec 32 := Scalar.muli arg9 c128_i32_33
  v75
def k0_off5 (k0_t1 : Fin k0_t1_loop.trips) : Fin 3 → Nat :=
  let c4 : Index := 4#32
  let c0_34 : Index := 0#32
  let c0_i32_6 : BitVec 32 := 0#32
  let c1_i32_7 : BitVec 32 := 1#32
  let arg9 : BitVec 32 := Scf.iv c0_i32_6 c1_i32_7 k0_t1
  let c128_i32_33 : BitVec 32 := 128#32
  let v75 : BitVec 32 := Scalar.muli arg9 c128_i32_33
  let v76 : BitVec 32 := v75
  let v77 : Index := Scalar.indexCast v76
  ![4, 0, v77.toNat]
def k0_mult6 (k0_t1 : Fin k0_t1_loop.trips) : BitVec 32 :=
  let c0_i32_6 : BitVec 32 := 0#32
  let c1_i32_7 : BitVec 32 := 1#32
  let arg9 : BitVec 32 := Scf.iv c0_i32_6 c1_i32_7 k0_t1
  let c128_i32_36 : BitVec 32 := 128#32
  let v82 : BitVec 32 := Scalar.muli arg9 c128_i32_36
  v82
def k0_off6 (k0_t1 : Fin k0_t1_loop.trips) : Fin 3 → Nat :=
  let c5 : Index := 5#32
  let c0_37 : Index := 0#32
  let c0_i32_6 : BitVec 32 := 0#32
  let c1_i32_7 : BitVec 32 := 1#32
  let arg9 : BitVec 32 := Scf.iv c0_i32_6 c1_i32_7 k0_t1
  let c128_i32_36 : BitVec 32 := 128#32
  let v82 : BitVec 32 := Scalar.muli arg9 c128_i32_36
  let v83 : BitVec 32 := v82
  let v84 : Index := Scalar.indexCast v83
  ![5, 0, v84.toNat]
def k0_mult7 (k0_t1 : Fin k0_t1_loop.trips) : BitVec 32 :=
  let c0_i32_6 : BitVec 32 := 0#32
  let c1_i32_7 : BitVec 32 := 1#32
  let arg9 : BitVec 32 := Scf.iv c0_i32_6 c1_i32_7 k0_t1
  let c128_i32_39 : BitVec 32 := 128#32
  let v89 : BitVec 32 := Scalar.muli arg9 c128_i32_39
  v89
def k0_off7 (k0_t1 : Fin k0_t1_loop.trips) : Fin 3 → Nat :=
  let c6 : Index := 6#32
  let c0_40 : Index := 0#32
  let c0_i32_6 : BitVec 32 := 0#32
  let c1_i32_7 : BitVec 32 := 1#32
  let arg9 : BitVec 32 := Scf.iv c0_i32_6 c1_i32_7 k0_t1
  let c128_i32_39 : BitVec 32 := 128#32
  let v89 : BitVec 32 := Scalar.muli arg9 c128_i32_39
  let v90 : BitVec 32 := v89
  let v91 : Index := Scalar.indexCast v90
  ![6, 0, v91.toNat]
def k0_mult8 (k0_t1 : Fin k0_t1_loop.trips) : BitVec 32 :=
  let c0_i32_6 : BitVec 32 := 0#32
  let c1_i32_7 : BitVec 32 := 1#32
  let arg9 : BitVec 32 := Scf.iv c0_i32_6 c1_i32_7 k0_t1
  let c128_i32_42 : BitVec 32 := 128#32
  let v96 : BitVec 32 := Scalar.muli arg9 c128_i32_42
  v96
def k0_off8 (k0_t1 : Fin k0_t1_loop.trips) : Fin 3 → Nat :=
  let c7 : Index := 7#32
  let c0_43 : Index := 0#32
  let c0_i32_6 : BitVec 32 := 0#32
  let c1_i32_7 : BitVec 32 := 1#32
  let arg9 : BitVec 32 := Scf.iv c0_i32_6 c1_i32_7 k0_t1
  let c128_i32_42 : BitVec 32 := 128#32
  let v96 : BitVec 32 := Scalar.muli arg9 c128_i32_42
  let v97 : BitVec 32 := v96
  let v98 : Index := Scalar.indexCast v97
  ![7, 0, v98.toNat]
def k0_mult9 (k0_t1 : Fin k0_t1_loop.trips) : BitVec 32 :=
  let c0_i32_6 : BitVec 32 := 0#32
  let c1_i32_7 : BitVec 32 := 1#32
  let arg9 : BitVec 32 := Scf.iv c0_i32_6 c1_i32_7 k0_t1
  let c16_i32_47 : BitVec 32 := 16#32
  let v107 : BitVec 32 := Scalar.muli arg9 c16_i32_47
  let c0_i32_48 : BitVec 32 := 0#32
  let v108 : BitVec 32 := Scalar.addi v107 c0_i32_48
  let c128_i32_49 : BitVec 32 := 128#32
  let v109 : BitVec 32 := Scalar.muli v108 c128_i32_49
  v109
def k0_off9 (k0_t1 : Fin k0_t1_loop.trips) (c0_i32_48 : BitVec 32) : Fin 3 → Nat :=
  let c0_50 : Index := 0#32
  let c0_51 : Index := 0#32
  let c0_i32_6 : BitVec 32 := 0#32
  let c1_i32_7 : BitVec 32 := 1#32
  let arg9 : BitVec 32 := Scf.iv c0_i32_6 c1_i32_7 k0_t1
  let c16_i32_47 : BitVec 32 := 16#32
  let v107 : BitVec 32 := Scalar.muli arg9 c16_i32_47
  let v108 : BitVec 32 := Scalar.addi v107 c0_i32_48
  let c128_i32_49 : BitVec 32 := 128#32
  let v109 : BitVec 32 := Scalar.muli v108 c128_i32_49
  let v110 : BitVec 32 := v109
  let v111 : Index := Scalar.indexCast v110
  ![0, 0, v111.toNat]
def k0_off10 (k0_t1 : Fin k0_t1_loop.trips) (c0_i32_48 : BitVec 32) : Fin 3 → Nat :=
  let c1_55 : Index := 1#32
  let c0_56 : Index := 0#32
  let c0_i32_6 : BitVec 32 := 0#32
  let c1_i32_7 : BitVec 32 := 1#32
  let arg9 : BitVec 32 := Scf.iv c0_i32_6 c1_i32_7 k0_t1
  let c16_i32_47 : BitVec 32 := 16#32
  let v107 : BitVec 32 := Scalar.muli arg9 c16_i32_47
  let v108 : BitVec 32 := Scalar.addi v107 c0_i32_48
  let c128_i32_49 : BitVec 32 := 128#32
  let v109 : BitVec 32 := Scalar.muli v108 c128_i32_49
  let v110 : BitVec 32 := v109
  let v137 : Index := Scalar.indexCast v110
  ![1, 0, v137.toNat]
def k0_off11 (k0_t1 : Fin k0_t1_loop.trips) (c0_i32_48 : BitVec 32) : Fin 3 → Nat :=
  let c2_60 : Index := 2#32
  let c0_61 : Index := 0#32
  let c0_i32_6 : BitVec 32 := 0#32
  let c1_i32_7 : BitVec 32 := 1#32
  let arg9 : BitVec 32 := Scf.iv c0_i32_6 c1_i32_7 k0_t1
  let c16_i32_47 : BitVec 32 := 16#32
  let v107 : BitVec 32 := Scalar.muli arg9 c16_i32_47
  let v108 : BitVec 32 := Scalar.addi v107 c0_i32_48
  let c128_i32_49 : BitVec 32 := 128#32
  let v109 : BitVec 32 := Scalar.muli v108 c128_i32_49
  let v110 : BitVec 32 := v109
  let v165 : Index := Scalar.indexCast v110
  ![2, 0, v165.toNat]
def k0_off12 (k0_t1 : Fin k0_t1_loop.trips) (c0_i32_48 : BitVec 32) : Fin 3 → Nat :=
  let c3_65 : Index := 3#32
  let c0_66 : Index := 0#32
  let c0_i32_6 : BitVec 32 := 0#32
  let c1_i32_7 : BitVec 32 := 1#32
  let arg9 : BitVec 32 := Scf.iv c0_i32_6 c1_i32_7 k0_t1
  let c16_i32_47 : BitVec 32 := 16#32
  let v107 : BitVec 32 := Scalar.muli arg9 c16_i32_47
  let v108 : BitVec 32 := Scalar.addi v107 c0_i32_48
  let c128_i32_49 : BitVec 32 := 128#32
  let v109 : BitVec 32 := Scalar.muli v108 c128_i32_49
  let v110 : BitVec 32 := v109
  let v193 : Index := Scalar.indexCast v110
  ![3, 0, v193.toNat]
def k0_off13 (k0_t1 : Fin k0_t1_loop.trips) (c0_i32_48 : BitVec 32) : Fin 3 → Nat :=
  let c4_70 : Index := 4#32
  let c0_71 : Index := 0#32
  let c0_i32_6 : BitVec 32 := 0#32
  let c1_i32_7 : BitVec 32 := 1#32
  let arg9 : BitVec 32 := Scf.iv c0_i32_6 c1_i32_7 k0_t1
  let c16_i32_47 : BitVec 32 := 16#32
  let v107 : BitVec 32 := Scalar.muli arg9 c16_i32_47
  let v108 : BitVec 32 := Scalar.addi v107 c0_i32_48
  let c128_i32_49 : BitVec 32 := 128#32
  let v109 : BitVec 32 := Scalar.muli v108 c128_i32_49
  let v110 : BitVec 32 := v109
  let v221 : Index := Scalar.indexCast v110
  ![4, 0, v221.toNat]
def k0_off14 (k0_t1 : Fin k0_t1_loop.trips) (c0_i32_48 : BitVec 32) : Fin 3 → Nat :=
  let c5_75 : Index := 5#32
  let c0_76 : Index := 0#32
  let c0_i32_6 : BitVec 32 := 0#32
  let c1_i32_7 : BitVec 32 := 1#32
  let arg9 : BitVec 32 := Scf.iv c0_i32_6 c1_i32_7 k0_t1
  let c16_i32_47 : BitVec 32 := 16#32
  let v107 : BitVec 32 := Scalar.muli arg9 c16_i32_47
  let v108 : BitVec 32 := Scalar.addi v107 c0_i32_48
  let c128_i32_49 : BitVec 32 := 128#32
  let v109 : BitVec 32 := Scalar.muli v108 c128_i32_49
  let v110 : BitVec 32 := v109
  let v249 : Index := Scalar.indexCast v110
  ![5, 0, v249.toNat]
def k0_off15 (k0_t1 : Fin k0_t1_loop.trips) (c0_i32_48 : BitVec 32) : Fin 3 → Nat :=
  let c6_80 : Index := 6#32
  let c0_81 : Index := 0#32
  let c0_i32_6 : BitVec 32 := 0#32
  let c1_i32_7 : BitVec 32 := 1#32
  let arg9 : BitVec 32 := Scf.iv c0_i32_6 c1_i32_7 k0_t1
  let c16_i32_47 : BitVec 32 := 16#32
  let v107 : BitVec 32 := Scalar.muli arg9 c16_i32_47
  let v108 : BitVec 32 := Scalar.addi v107 c0_i32_48
  let c128_i32_49 : BitVec 32 := 128#32
  let v109 : BitVec 32 := Scalar.muli v108 c128_i32_49
  let v110 : BitVec 32 := v109
  let v277 : Index := Scalar.indexCast v110
  ![6, 0, v277.toNat]
def k0_off16 (k0_t1 : Fin k0_t1_loop.trips) (c0_i32_48 : BitVec 32) : Fin 3 → Nat :=
  let c7_85 : Index := 7#32
  let c0_86 : Index := 0#32
  let c0_i32_6 : BitVec 32 := 0#32
  let c1_i32_7 : BitVec 32 := 1#32
  let arg9 : BitVec 32 := Scf.iv c0_i32_6 c1_i32_7 k0_t1
  let c16_i32_47 : BitVec 32 := 16#32
  let v107 : BitVec 32 := Scalar.muli arg9 c16_i32_47
  let v108 : BitVec 32 := Scalar.addi v107 c0_i32_48
  let c128_i32_49 : BitVec 32 := 128#32
  let v109 : BitVec 32 := Scalar.muli v108 c128_i32_49
  let v110 : BitVec 32 := v109
  let v305 : Index := Scalar.indexCast v110
  ![7, 0, v305.toNat]
def k0_mult10 (k0_t1 : Fin k0_t1_loop.trips) : BitVec 32 :=
  let c2_i32 : BitVec 32 := 2#32
  let c0_i32_6 : BitVec 32 := 0#32
  let c1_i32_7 : BitVec 32 := 1#32
  let arg9 : BitVec 32 := Scf.iv c0_i32_6 c1_i32_7 k0_t1
  let c16_i32_47 : BitVec 32 := 16#32
  let v107 : BitVec 32 := Scalar.muli arg9 c16_i32_47
  let c0_i32_48 : BitVec 32 := 0#32
  let v108 : BitVec 32 := Scalar.addi v107 c0_i32_48
  let c128_i32_49 : BitVec 32 := 128#32
  let v109 : BitVec 32 := Scalar.muli v108 c128_i32_49
  let v110 : BitVec 32 := v109
  let v351 : BitVec 32 := Scalar.muli c2_i32 v110
  let c0_i32_94 : BitVec 32 := 0#32
  let v352 : BitVec 32 := Scalar.addi v351 c0_i32_94
  v352
def k0_off17 (k0_t1 : Fin k0_t1_loop.trips) (c0_i32_48 : BitVec 32) (c0_i32_94 : BitVec 32) : Fin 2 → Nat :=
  let c0_95 : Index := 0#32
  let c2_i32 : BitVec 32 := 2#32
  let c0_i32_6 : BitVec 32 := 0#32
  let c1_i32_7 : BitVec 32 := 1#32
  let arg9 : BitVec 32 := Scf.iv c0_i32_6 c1_i32_7 k0_t1
  let c16_i32_47 : BitVec 32 := 16#32
  let v107 : BitVec 32 := Scalar.muli arg9 c16_i32_47
  let v108 : BitVec 32 := Scalar.addi v107 c0_i32_48
  let c128_i32_49 : BitVec 32 := 128#32
  let v109 : BitVec 32 := Scalar.muli v108 c128_i32_49
  let v110 : BitVec 32 := v109
  let v351 : BitVec 32 := Scalar.muli c2_i32 v110
  let v352 : BitVec 32 := Scalar.addi v351 c0_i32_94
  let v353 : BitVec 32 := v352
  let v355 : Index := Scalar.indexCast v353
  ![0, v355.toNat]
def k0_off18 (k0_t1 : Fin k0_t1_loop.trips) (c0_i32_48 : BitVec 32) (c0_i32_94 : BitVec 32) : Fin 2 → Nat :=
  let c0_97 : Index := 0#32
  let c2_i32 : BitVec 32 := 2#32
  let c0_i32_6 : BitVec 32 := 0#32
  let c1_i32_7 : BitVec 32 := 1#32
  let arg9 : BitVec 32 := Scf.iv c0_i32_6 c1_i32_7 k0_t1
  let c16_i32_47 : BitVec 32 := 16#32
  let v107 : BitVec 32 := Scalar.muli arg9 c16_i32_47
  let v108 : BitVec 32 := Scalar.addi v107 c0_i32_48
  let c128_i32_49 : BitVec 32 := 128#32
  let v109 : BitVec 32 := Scalar.muli v108 c128_i32_49
  let v110 : BitVec 32 := v109
  let v351 : BitVec 32 := Scalar.muli c2_i32 v110
  let v352 : BitVec 32 := Scalar.addi v351 c0_i32_94
  let v353 : BitVec 32 := v352
  let v364 : Index := Scalar.indexCast v353
  ![0, v364.toNat]
def k0_mult11 (k0_t1 : Fin k0_t1_loop.trips) : BitVec 32 :=
  let c2_i32_99 : BitVec 32 := 2#32
  let c0_i32_6 : BitVec 32 := 0#32
  let c1_i32_7 : BitVec 32 := 1#32
  let arg9 : BitVec 32 := Scf.iv c0_i32_6 c1_i32_7 k0_t1
  let c16_i32_47 : BitVec 32 := 16#32
  let v107 : BitVec 32 := Scalar.muli arg9 c16_i32_47
  let c0_i32_48 : BitVec 32 := 0#32
  let v108 : BitVec 32 := Scalar.addi v107 c0_i32_48
  let c128_i32_49 : BitVec 32 := 128#32
  let v109 : BitVec 32 := Scalar.muli v108 c128_i32_49
  let v110 : BitVec 32 := v109
  let v374 : BitVec 32 := Scalar.muli c2_i32_99 v110
  let c128_i32_100 : BitVec 32 := 128#32
  let v375 : BitVec 32 := Scalar.addi v374 c128_i32_100
  v375
def k0_mult12 (k0_t1 : Fin k0_t1_loop.trips) : BitVec 32 :=
  let c0_i32_6 : BitVec 32 := 0#32
  let c1_i32_7 : BitVec 32 := 1#32
  let arg9 : BitVec 32 := Scf.iv c0_i32_6 c1_i32_7 k0_t1
  let c16_i32_106 : BitVec 32 := 16#32
  let v401 : BitVec 32 := Scalar.muli arg9 c16_i32_106
  let c1_i32_107 : BitVec 32 := 1#32
  let v402 : BitVec 32 := Scalar.addi v401 c1_i32_107
  let c128_i32_108 : BitVec 32 := 128#32
  let v403 : BitVec 32 := Scalar.muli v402 c128_i32_108
  v403
def k0_mult13 (k0_t1 : Fin k0_t1_loop.trips) : BitVec 32 :=
  let c2_i32_153 : BitVec 32 := 2#32
  let c0_i32_6 : BitVec 32 := 0#32
  let c1_i32_7 : BitVec 32 := 1#32
  let arg9 : BitVec 32 := Scf.iv c0_i32_6 c1_i32_7 k0_t1
  let c16_i32_106 : BitVec 32 := 16#32
  let v401 : BitVec 32 := Scalar.muli arg9 c16_i32_106
  let c1_i32_107 : BitVec 32 := 1#32
  let v402 : BitVec 32 := Scalar.addi v401 c1_i32_107
  let c128_i32_108 : BitVec 32 := 128#32
  let v403 : BitVec 32 := Scalar.muli v402 c128_i32_108
  let v404 : BitVec 32 := v403
  let v645 : BitVec 32 := Scalar.muli c2_i32_153 v404
  let c0_i32_154 : BitVec 32 := 0#32
  let v646 : BitVec 32 := Scalar.addi v645 c0_i32_154
  v646
def k0_mult14 (k0_t1 : Fin k0_t1_loop.trips) : BitVec 32 :=
  let c2_i32_159 : BitVec 32 := 2#32
  let c0_i32_6 : BitVec 32 := 0#32
  let c1_i32_7 : BitVec 32 := 1#32
  let arg9 : BitVec 32 := Scf.iv c0_i32_6 c1_i32_7 k0_t1
  let c16_i32_106 : BitVec 32 := 16#32
  let v401 : BitVec 32 := Scalar.muli arg9 c16_i32_106
  let c1_i32_107 : BitVec 32 := 1#32
  let v402 : BitVec 32 := Scalar.addi v401 c1_i32_107
  let c128_i32_108 : BitVec 32 := 128#32
  let v403 : BitVec 32 := Scalar.muli v402 c128_i32_108
  let v404 : BitVec 32 := v403
  let v668 : BitVec 32 := Scalar.muli c2_i32_159 v404
  let c128_i32_160 : BitVec 32 := 128#32
  let v669 : BitVec 32 := Scalar.addi v668 c128_i32_160
  v669
def k0_mult15 (k0_t1 : Fin k0_t1_loop.trips) : BitVec 32 :=
  let c0_i32_6 : BitVec 32 := 0#32
  let c1_i32_7 : BitVec 32 := 1#32
  let arg9 : BitVec 32 := Scf.iv c0_i32_6 c1_i32_7 k0_t1
  let c16_i32_167 : BitVec 32 := 16#32
  let v695 : BitVec 32 := Scalar.muli arg9 c16_i32_167
  let c2_i32_168 : BitVec 32 := 2#32
  let v696 : BitVec 32 := Scalar.addi v695 c2_i32_168
  let c128_i32_169 : BitVec 32 := 128#32
  let v697 : BitVec 32 := Scalar.muli v696 c128_i32_169
  v697
def k0_mult16 (k0_t1 : Fin k0_t1_loop.trips) : BitVec 32 :=
  let c2_i32_214 : BitVec 32 := 2#32
  let c0_i32_6 : BitVec 32 := 0#32
  let c1_i32_7 : BitVec 32 := 1#32
  let arg9 : BitVec 32 := Scf.iv c0_i32_6 c1_i32_7 k0_t1
  let c16_i32_167 : BitVec 32 := 16#32
  let v695 : BitVec 32 := Scalar.muli arg9 c16_i32_167
  let c2_i32_168 : BitVec 32 := 2#32
  let v696 : BitVec 32 := Scalar.addi v695 c2_i32_168
  let c128_i32_169 : BitVec 32 := 128#32
  let v697 : BitVec 32 := Scalar.muli v696 c128_i32_169
  let v698 : BitVec 32 := v697
  let v939 : BitVec 32 := Scalar.muli c2_i32_214 v698
  let c0_i32_215 : BitVec 32 := 0#32
  let v940 : BitVec 32 := Scalar.addi v939 c0_i32_215
  v940
def k0_mult17 (k0_t1 : Fin k0_t1_loop.trips) : BitVec 32 :=
  let c2_i32_220 : BitVec 32 := 2#32
  let c0_i32_6 : BitVec 32 := 0#32
  let c1_i32_7 : BitVec 32 := 1#32
  let arg9 : BitVec 32 := Scf.iv c0_i32_6 c1_i32_7 k0_t1
  let c16_i32_167 : BitVec 32 := 16#32
  let v695 : BitVec 32 := Scalar.muli arg9 c16_i32_167
  let c2_i32_168 : BitVec 32 := 2#32
  let v696 : BitVec 32 := Scalar.addi v695 c2_i32_168
  let c128_i32_169 : BitVec 32 := 128#32
  let v697 : BitVec 32 := Scalar.muli v696 c128_i32_169
  let v698 : BitVec 32 := v697
  let v962 : BitVec 32 := Scalar.muli c2_i32_220 v698
  let c128_i32_221 : BitVec 32 := 128#32
  let v963 : BitVec 32 := Scalar.addi v962 c128_i32_221
  v963
def k0_mult18 (k0_t1 : Fin k0_t1_loop.trips) : BitVec 32 :=
  let c0_i32_6 : BitVec 32 := 0#32
  let c1_i32_7 : BitVec 32 := 1#32
  let arg9 : BitVec 32 := Scf.iv c0_i32_6 c1_i32_7 k0_t1
  let c16_i32_227 : BitVec 32 := 16#32
  let v989 : BitVec 32 := Scalar.muli arg9 c16_i32_227
  let c3_i32 : BitVec 32 := 3#32
  let v990 : BitVec 32 := Scalar.addi v989 c3_i32
  let c128_i32_228 : BitVec 32 := 128#32
  let v991 : BitVec 32 := Scalar.muli v990 c128_i32_228
  v991
def k0_mult19 (k0_t1 : Fin k0_t1_loop.trips) : BitVec 32 :=
  let c2_i32_273 : BitVec 32 := 2#32
  let c0_i32_6 : BitVec 32 := 0#32
  let c1_i32_7 : BitVec 32 := 1#32
  let arg9 : BitVec 32 := Scf.iv c0_i32_6 c1_i32_7 k0_t1
  let c16_i32_227 : BitVec 32 := 16#32
  let v989 : BitVec 32 := Scalar.muli arg9 c16_i32_227
  let c3_i32 : BitVec 32 := 3#32
  let v990 : BitVec 32 := Scalar.addi v989 c3_i32
  let c128_i32_228 : BitVec 32 := 128#32
  let v991 : BitVec 32 := Scalar.muli v990 c128_i32_228
  let v992 : BitVec 32 := v991
  let v1233 : BitVec 32 := Scalar.muli c2_i32_273 v992
  let c0_i32_274 : BitVec 32 := 0#32
  let v1234 : BitVec 32 := Scalar.addi v1233 c0_i32_274
  v1234
def k0_mult20 (k0_t1 : Fin k0_t1_loop.trips) : BitVec 32 :=
  let c2_i32_279 : BitVec 32 := 2#32
  let c0_i32_6 : BitVec 32 := 0#32
  let c1_i32_7 : BitVec 32 := 1#32
  let arg9 : BitVec 32 := Scf.iv c0_i32_6 c1_i32_7 k0_t1
  let c16_i32_227 : BitVec 32 := 16#32
  let v989 : BitVec 32 := Scalar.muli arg9 c16_i32_227
  let c3_i32 : BitVec 32 := 3#32
  let v990 : BitVec 32 := Scalar.addi v989 c3_i32
  let c128_i32_228 : BitVec 32 := 128#32
  let v991 : BitVec 32 := Scalar.muli v990 c128_i32_228
  let v992 : BitVec 32 := v991
  let v1256 : BitVec 32 := Scalar.muli c2_i32_279 v992
  let c128_i32_280 : BitVec 32 := 128#32
  let v1257 : BitVec 32 := Scalar.addi v1256 c128_i32_280
  v1257
def k0_mult21 (k0_t1 : Fin k0_t1_loop.trips) : BitVec 32 :=
  let c0_i32_6 : BitVec 32 := 0#32
  let c1_i32_7 : BitVec 32 := 1#32
  let arg9 : BitVec 32 := Scf.iv c0_i32_6 c1_i32_7 k0_t1
  let c16_i32_286 : BitVec 32 := 16#32
  let v1283 : BitVec 32 := Scalar.muli arg9 c16_i32_286
  let c4_i32_287 : BitVec 32 := 4#32
  let v1284 : BitVec 32 := Scalar.addi v1283 c4_i32_287
  let c128_i32_288 : BitVec 32 := 128#32
  let v1285 : BitVec 32 := Scalar.muli v1284 c128_i32_288
  v1285
def k0_mult22 (k0_t1 : Fin k0_t1_loop.trips) : BitVec 32 :=
  let c2_i32_333 : BitVec 32 := 2#32
  let c0_i32_6 : BitVec 32 := 0#32
  let c1_i32_7 : BitVec 32 := 1#32
  let arg9 : BitVec 32 := Scf.iv c0_i32_6 c1_i32_7 k0_t1
  let c16_i32_286 : BitVec 32 := 16#32
  let v1283 : BitVec 32 := Scalar.muli arg9 c16_i32_286
  let c4_i32_287 : BitVec 32 := 4#32
  let v1284 : BitVec 32 := Scalar.addi v1283 c4_i32_287
  let c128_i32_288 : BitVec 32 := 128#32
  let v1285 : BitVec 32 := Scalar.muli v1284 c128_i32_288
  let v1286 : BitVec 32 := v1285
  let v1527 : BitVec 32 := Scalar.muli c2_i32_333 v1286
  let c0_i32_334 : BitVec 32 := 0#32
  let v1528 : BitVec 32 := Scalar.addi v1527 c0_i32_334
  v1528
def k0_mult23 (k0_t1 : Fin k0_t1_loop.trips) : BitVec 32 :=
  let c2_i32_339 : BitVec 32 := 2#32
  let c0_i32_6 : BitVec 32 := 0#32
  let c1_i32_7 : BitVec 32 := 1#32
  let arg9 : BitVec 32 := Scf.iv c0_i32_6 c1_i32_7 k0_t1
  let c16_i32_286 : BitVec 32 := 16#32
  let v1283 : BitVec 32 := Scalar.muli arg9 c16_i32_286
  let c4_i32_287 : BitVec 32 := 4#32
  let v1284 : BitVec 32 := Scalar.addi v1283 c4_i32_287
  let c128_i32_288 : BitVec 32 := 128#32
  let v1285 : BitVec 32 := Scalar.muli v1284 c128_i32_288
  let v1286 : BitVec 32 := v1285
  let v1550 : BitVec 32 := Scalar.muli c2_i32_339 v1286
  let c128_i32_340 : BitVec 32 := 128#32
  let v1551 : BitVec 32 := Scalar.addi v1550 c128_i32_340
  v1551
def k0_mult24 (k0_t1 : Fin k0_t1_loop.trips) : BitVec 32 :=
  let c0_i32_6 : BitVec 32 := 0#32
  let c1_i32_7 : BitVec 32 := 1#32
  let arg9 : BitVec 32 := Scf.iv c0_i32_6 c1_i32_7 k0_t1
  let c16_i32_346 : BitVec 32 := 16#32
  let v1577 : BitVec 32 := Scalar.muli arg9 c16_i32_346
  let c5_i32 : BitVec 32 := 5#32
  let v1578 : BitVec 32 := Scalar.addi v1577 c5_i32
  let c128_i32_347 : BitVec 32 := 128#32
  let v1579 : BitVec 32 := Scalar.muli v1578 c128_i32_347
  v1579
def k0_mult25 (k0_t1 : Fin k0_t1_loop.trips) : BitVec 32 :=
  let c2_i32_392 : BitVec 32 := 2#32
  let c0_i32_6 : BitVec 32 := 0#32
  let c1_i32_7 : BitVec 32 := 1#32
  let arg9 : BitVec 32 := Scf.iv c0_i32_6 c1_i32_7 k0_t1
  let c16_i32_346 : BitVec 32 := 16#32
  let v1577 : BitVec 32 := Scalar.muli arg9 c16_i32_346
  let c5_i32 : BitVec 32 := 5#32
  let v1578 : BitVec 32 := Scalar.addi v1577 c5_i32
  let c128_i32_347 : BitVec 32 := 128#32
  let v1579 : BitVec 32 := Scalar.muli v1578 c128_i32_347
  let v1580 : BitVec 32 := v1579
  let v1821 : BitVec 32 := Scalar.muli c2_i32_392 v1580
  let c0_i32_393 : BitVec 32 := 0#32
  let v1822 : BitVec 32 := Scalar.addi v1821 c0_i32_393
  v1822
def k0_mult26 (k0_t1 : Fin k0_t1_loop.trips) : BitVec 32 :=
  let c2_i32_398 : BitVec 32 := 2#32
  let c0_i32_6 : BitVec 32 := 0#32
  let c1_i32_7 : BitVec 32 := 1#32
  let arg9 : BitVec 32 := Scf.iv c0_i32_6 c1_i32_7 k0_t1
  let c16_i32_346 : BitVec 32 := 16#32
  let v1577 : BitVec 32 := Scalar.muli arg9 c16_i32_346
  let c5_i32 : BitVec 32 := 5#32
  let v1578 : BitVec 32 := Scalar.addi v1577 c5_i32
  let c128_i32_347 : BitVec 32 := 128#32
  let v1579 : BitVec 32 := Scalar.muli v1578 c128_i32_347
  let v1580 : BitVec 32 := v1579
  let v1844 : BitVec 32 := Scalar.muli c2_i32_398 v1580
  let c128_i32_399 : BitVec 32 := 128#32
  let v1845 : BitVec 32 := Scalar.addi v1844 c128_i32_399
  v1845
def k0_mult27 (k0_t1 : Fin k0_t1_loop.trips) : BitVec 32 :=
  let c0_i32_6 : BitVec 32 := 0#32
  let c1_i32_7 : BitVec 32 := 1#32
  let arg9 : BitVec 32 := Scf.iv c0_i32_6 c1_i32_7 k0_t1
  let c16_i32_405 : BitVec 32 := 16#32
  let v1871 : BitVec 32 := Scalar.muli arg9 c16_i32_405
  let c6_i32 : BitVec 32 := 6#32
  let v1872 : BitVec 32 := Scalar.addi v1871 c6_i32
  let c128_i32_406 : BitVec 32 := 128#32
  let v1873 : BitVec 32 := Scalar.muli v1872 c128_i32_406
  v1873
def k0_mult28 (k0_t1 : Fin k0_t1_loop.trips) : BitVec 32 :=
  let c2_i32_451 : BitVec 32 := 2#32
  let c0_i32_6 : BitVec 32 := 0#32
  let c1_i32_7 : BitVec 32 := 1#32
  let arg9 : BitVec 32 := Scf.iv c0_i32_6 c1_i32_7 k0_t1
  let c16_i32_405 : BitVec 32 := 16#32
  let v1871 : BitVec 32 := Scalar.muli arg9 c16_i32_405
  let c6_i32 : BitVec 32 := 6#32
  let v1872 : BitVec 32 := Scalar.addi v1871 c6_i32
  let c128_i32_406 : BitVec 32 := 128#32
  let v1873 : BitVec 32 := Scalar.muli v1872 c128_i32_406
  let v1874 : BitVec 32 := v1873
  let v2115 : BitVec 32 := Scalar.muli c2_i32_451 v1874
  let c0_i32_452 : BitVec 32 := 0#32
  let v2116 : BitVec 32 := Scalar.addi v2115 c0_i32_452
  v2116
def k0_mult29 (k0_t1 : Fin k0_t1_loop.trips) : BitVec 32 :=
  let c2_i32_457 : BitVec 32 := 2#32
  let c0_i32_6 : BitVec 32 := 0#32
  let c1_i32_7 : BitVec 32 := 1#32
  let arg9 : BitVec 32 := Scf.iv c0_i32_6 c1_i32_7 k0_t1
  let c16_i32_405 : BitVec 32 := 16#32
  let v1871 : BitVec 32 := Scalar.muli arg9 c16_i32_405
  let c6_i32 : BitVec 32 := 6#32
  let v1872 : BitVec 32 := Scalar.addi v1871 c6_i32
  let c128_i32_406 : BitVec 32 := 128#32
  let v1873 : BitVec 32 := Scalar.muli v1872 c128_i32_406
  let v1874 : BitVec 32 := v1873
  let v2138 : BitVec 32 := Scalar.muli c2_i32_457 v1874
  let c128_i32_458 : BitVec 32 := 128#32
  let v2139 : BitVec 32 := Scalar.addi v2138 c128_i32_458
  v2139
def k0_mult30 (k0_t1 : Fin k0_t1_loop.trips) : BitVec 32 :=
  let c0_i32_6 : BitVec 32 := 0#32
  let c1_i32_7 : BitVec 32 := 1#32
  let arg9 : BitVec 32 := Scf.iv c0_i32_6 c1_i32_7 k0_t1
  let c16_i32_464 : BitVec 32 := 16#32
  let v2165 : BitVec 32 := Scalar.muli arg9 c16_i32_464
  let c7_i32 : BitVec 32 := 7#32
  let v2166 : BitVec 32 := Scalar.addi v2165 c7_i32
  let c128_i32_465 : BitVec 32 := 128#32
  let v2167 : BitVec 32 := Scalar.muli v2166 c128_i32_465
  v2167
def k0_mult31 (k0_t1 : Fin k0_t1_loop.trips) : BitVec 32 :=
  let c2_i32_510 : BitVec 32 := 2#32
  let c0_i32_6 : BitVec 32 := 0#32
  let c1_i32_7 : BitVec 32 := 1#32
  let arg9 : BitVec 32 := Scf.iv c0_i32_6 c1_i32_7 k0_t1
  let c16_i32_464 : BitVec 32 := 16#32
  let v2165 : BitVec 32 := Scalar.muli arg9 c16_i32_464
  let c7_i32 : BitVec 32 := 7#32
  let v2166 : BitVec 32 := Scalar.addi v2165 c7_i32
  let c128_i32_465 : BitVec 32 := 128#32
  let v2167 : BitVec 32 := Scalar.muli v2166 c128_i32_465
  let v2168 : BitVec 32 := v2167
  let v2409 : BitVec 32 := Scalar.muli c2_i32_510 v2168
  let c0_i32_511 : BitVec 32 := 0#32
  let v2410 : BitVec 32 := Scalar.addi v2409 c0_i32_511
  v2410
def k0_mult32 (k0_t1 : Fin k0_t1_loop.trips) : BitVec 32 :=
  let c2_i32_516 : BitVec 32 := 2#32
  let c0_i32_6 : BitVec 32 := 0#32
  let c1_i32_7 : BitVec 32 := 1#32
  let arg9 : BitVec 32 := Scf.iv c0_i32_6 c1_i32_7 k0_t1
  let c16_i32_464 : BitVec 32 := 16#32
  let v2165 : BitVec 32 := Scalar.muli arg9 c16_i32_464
  let c7_i32 : BitVec 32 := 7#32
  let v2166 : BitVec 32 := Scalar.addi v2165 c7_i32
  let c128_i32_465 : BitVec 32 := 128#32
  let v2167 : BitVec 32 := Scalar.muli v2166 c128_i32_465
  let v2168 : BitVec 32 := v2167
  let v2432 : BitVec 32 := Scalar.muli c2_i32_516 v2168
  let c128_i32_517 : BitVec 32 := 128#32
  let v2433 : BitVec 32 := Scalar.addi v2432 c128_i32_517
  v2433
def k0_mult33 (k0_t1 : Fin k0_t1_loop.trips) : BitVec 32 :=
  let c0_i32_6 : BitVec 32 := 0#32
  let c1_i32_7 : BitVec 32 := 1#32
  let arg9 : BitVec 32 := Scf.iv c0_i32_6 c1_i32_7 k0_t1
  let c16_i32_524 : BitVec 32 := 16#32
  let v2459 : BitVec 32 := Scalar.muli arg9 c16_i32_524
  let c8_i32_525 : BitVec 32 := 8#32
  let v2460 : BitVec 32 := Scalar.addi v2459 c8_i32_525
  let c128_i32_526 : BitVec 32 := 128#32
  let v2461 : BitVec 32 := Scalar.muli v2460 c128_i32_526
  v2461
def k0_mult34 (k0_t1 : Fin k0_t1_loop.trips) : BitVec 32 :=
  let c2_i32_571 : BitVec 32 := 2#32
  let c0_i32_6 : BitVec 32 := 0#32
  let c1_i32_7 : BitVec 32 := 1#32
  let arg9 : BitVec 32 := Scf.iv c0_i32_6 c1_i32_7 k0_t1
  let c16_i32_524 : BitVec 32 := 16#32
  let v2459 : BitVec 32 := Scalar.muli arg9 c16_i32_524
  let c8_i32_525 : BitVec 32 := 8#32
  let v2460 : BitVec 32 := Scalar.addi v2459 c8_i32_525
  let c128_i32_526 : BitVec 32 := 128#32
  let v2461 : BitVec 32 := Scalar.muli v2460 c128_i32_526
  let v2462 : BitVec 32 := v2461
  let v2703 : BitVec 32 := Scalar.muli c2_i32_571 v2462
  let c0_i32_572 : BitVec 32 := 0#32
  let v2704 : BitVec 32 := Scalar.addi v2703 c0_i32_572
  v2704
def k0_mult35 (k0_t1 : Fin k0_t1_loop.trips) : BitVec 32 :=
  let c2_i32_577 : BitVec 32 := 2#32
  let c0_i32_6 : BitVec 32 := 0#32
  let c1_i32_7 : BitVec 32 := 1#32
  let arg9 : BitVec 32 := Scf.iv c0_i32_6 c1_i32_7 k0_t1
  let c16_i32_524 : BitVec 32 := 16#32
  let v2459 : BitVec 32 := Scalar.muli arg9 c16_i32_524
  let c8_i32_525 : BitVec 32 := 8#32
  let v2460 : BitVec 32 := Scalar.addi v2459 c8_i32_525
  let c128_i32_526 : BitVec 32 := 128#32
  let v2461 : BitVec 32 := Scalar.muli v2460 c128_i32_526
  let v2462 : BitVec 32 := v2461
  let v2726 : BitVec 32 := Scalar.muli c2_i32_577 v2462
  let c128_i32_578 : BitVec 32 := 128#32
  let v2727 : BitVec 32 := Scalar.addi v2726 c128_i32_578
  v2727
def k0_mult36 (k0_t1 : Fin k0_t1_loop.trips) : BitVec 32 :=
  let c0_i32_6 : BitVec 32 := 0#32
  let c1_i32_7 : BitVec 32 := 1#32
  let arg9 : BitVec 32 := Scf.iv c0_i32_6 c1_i32_7 k0_t1
  let c16_i32_584 : BitVec 32 := 16#32
  let v2753 : BitVec 32 := Scalar.muli arg9 c16_i32_584
  let c9_i32 : BitVec 32 := 9#32
  let v2754 : BitVec 32 := Scalar.addi v2753 c9_i32
  let c128_i32_585 : BitVec 32 := 128#32
  let v2755 : BitVec 32 := Scalar.muli v2754 c128_i32_585
  v2755
def k0_mult37 (k0_t1 : Fin k0_t1_loop.trips) : BitVec 32 :=
  let c2_i32_630 : BitVec 32 := 2#32
  let c0_i32_6 : BitVec 32 := 0#32
  let c1_i32_7 : BitVec 32 := 1#32
  let arg9 : BitVec 32 := Scf.iv c0_i32_6 c1_i32_7 k0_t1
  let c16_i32_584 : BitVec 32 := 16#32
  let v2753 : BitVec 32 := Scalar.muli arg9 c16_i32_584
  let c9_i32 : BitVec 32 := 9#32
  let v2754 : BitVec 32 := Scalar.addi v2753 c9_i32
  let c128_i32_585 : BitVec 32 := 128#32
  let v2755 : BitVec 32 := Scalar.muli v2754 c128_i32_585
  let v2756 : BitVec 32 := v2755
  let v2997 : BitVec 32 := Scalar.muli c2_i32_630 v2756
  let c0_i32_631 : BitVec 32 := 0#32
  let v2998 : BitVec 32 := Scalar.addi v2997 c0_i32_631
  v2998
def k0_mult38 (k0_t1 : Fin k0_t1_loop.trips) : BitVec 32 :=
  let c2_i32_636 : BitVec 32 := 2#32
  let c0_i32_6 : BitVec 32 := 0#32
  let c1_i32_7 : BitVec 32 := 1#32
  let arg9 : BitVec 32 := Scf.iv c0_i32_6 c1_i32_7 k0_t1
  let c16_i32_584 : BitVec 32 := 16#32
  let v2753 : BitVec 32 := Scalar.muli arg9 c16_i32_584
  let c9_i32 : BitVec 32 := 9#32
  let v2754 : BitVec 32 := Scalar.addi v2753 c9_i32
  let c128_i32_585 : BitVec 32 := 128#32
  let v2755 : BitVec 32 := Scalar.muli v2754 c128_i32_585
  let v2756 : BitVec 32 := v2755
  let v3020 : BitVec 32 := Scalar.muli c2_i32_636 v2756
  let c128_i32_637 : BitVec 32 := 128#32
  let v3021 : BitVec 32 := Scalar.addi v3020 c128_i32_637
  v3021
def k0_mult39 (k0_t1 : Fin k0_t1_loop.trips) : BitVec 32 :=
  let c0_i32_6 : BitVec 32 := 0#32
  let c1_i32_7 : BitVec 32 := 1#32
  let arg9 : BitVec 32 := Scf.iv c0_i32_6 c1_i32_7 k0_t1
  let c16_i32_643 : BitVec 32 := 16#32
  let v3047 : BitVec 32 := Scalar.muli arg9 c16_i32_643
  let c10_i32 : BitVec 32 := 10#32
  let v3048 : BitVec 32 := Scalar.addi v3047 c10_i32
  let c128_i32_644 : BitVec 32 := 128#32
  let v3049 : BitVec 32 := Scalar.muli v3048 c128_i32_644
  v3049
def k0_mult40 (k0_t1 : Fin k0_t1_loop.trips) : BitVec 32 :=
  let c2_i32_689 : BitVec 32 := 2#32
  let c0_i32_6 : BitVec 32 := 0#32
  let c1_i32_7 : BitVec 32 := 1#32
  let arg9 : BitVec 32 := Scf.iv c0_i32_6 c1_i32_7 k0_t1
  let c16_i32_643 : BitVec 32 := 16#32
  let v3047 : BitVec 32 := Scalar.muli arg9 c16_i32_643
  let c10_i32 : BitVec 32 := 10#32
  let v3048 : BitVec 32 := Scalar.addi v3047 c10_i32
  let c128_i32_644 : BitVec 32 := 128#32
  let v3049 : BitVec 32 := Scalar.muli v3048 c128_i32_644
  let v3050 : BitVec 32 := v3049
  let v3291 : BitVec 32 := Scalar.muli c2_i32_689 v3050
  let c0_i32_690 : BitVec 32 := 0#32
  let v3292 : BitVec 32 := Scalar.addi v3291 c0_i32_690
  v3292
def k0_mult41 (k0_t1 : Fin k0_t1_loop.trips) : BitVec 32 :=
  let c2_i32_695 : BitVec 32 := 2#32
  let c0_i32_6 : BitVec 32 := 0#32
  let c1_i32_7 : BitVec 32 := 1#32
  let arg9 : BitVec 32 := Scf.iv c0_i32_6 c1_i32_7 k0_t1
  let c16_i32_643 : BitVec 32 := 16#32
  let v3047 : BitVec 32 := Scalar.muli arg9 c16_i32_643
  let c10_i32 : BitVec 32 := 10#32
  let v3048 : BitVec 32 := Scalar.addi v3047 c10_i32
  let c128_i32_644 : BitVec 32 := 128#32
  let v3049 : BitVec 32 := Scalar.muli v3048 c128_i32_644
  let v3050 : BitVec 32 := v3049
  let v3314 : BitVec 32 := Scalar.muli c2_i32_695 v3050
  let c128_i32_696 : BitVec 32 := 128#32
  let v3315 : BitVec 32 := Scalar.addi v3314 c128_i32_696
  v3315
def k0_mult42 (k0_t1 : Fin k0_t1_loop.trips) : BitVec 32 :=
  let c0_i32_6 : BitVec 32 := 0#32
  let c1_i32_7 : BitVec 32 := 1#32
  let arg9 : BitVec 32 := Scf.iv c0_i32_6 c1_i32_7 k0_t1
  let c16_i32_702 : BitVec 32 := 16#32
  let v3341 : BitVec 32 := Scalar.muli arg9 c16_i32_702
  let c11_i32 : BitVec 32 := 11#32
  let v3342 : BitVec 32 := Scalar.addi v3341 c11_i32
  let c128_i32_703 : BitVec 32 := 128#32
  let v3343 : BitVec 32 := Scalar.muli v3342 c128_i32_703
  v3343
def k0_mult43 (k0_t1 : Fin k0_t1_loop.trips) : BitVec 32 :=
  let c2_i32_748 : BitVec 32 := 2#32
  let c0_i32_6 : BitVec 32 := 0#32
  let c1_i32_7 : BitVec 32 := 1#32
  let arg9 : BitVec 32 := Scf.iv c0_i32_6 c1_i32_7 k0_t1
  let c16_i32_702 : BitVec 32 := 16#32
  let v3341 : BitVec 32 := Scalar.muli arg9 c16_i32_702
  let c11_i32 : BitVec 32 := 11#32
  let v3342 : BitVec 32 := Scalar.addi v3341 c11_i32
  let c128_i32_703 : BitVec 32 := 128#32
  let v3343 : BitVec 32 := Scalar.muli v3342 c128_i32_703
  let v3344 : BitVec 32 := v3343
  let v3585 : BitVec 32 := Scalar.muli c2_i32_748 v3344
  let c0_i32_749 : BitVec 32 := 0#32
  let v3586 : BitVec 32 := Scalar.addi v3585 c0_i32_749
  v3586
def k0_mult44 (k0_t1 : Fin k0_t1_loop.trips) : BitVec 32 :=
  let c2_i32_754 : BitVec 32 := 2#32
  let c0_i32_6 : BitVec 32 := 0#32
  let c1_i32_7 : BitVec 32 := 1#32
  let arg9 : BitVec 32 := Scf.iv c0_i32_6 c1_i32_7 k0_t1
  let c16_i32_702 : BitVec 32 := 16#32
  let v3341 : BitVec 32 := Scalar.muli arg9 c16_i32_702
  let c11_i32 : BitVec 32 := 11#32
  let v3342 : BitVec 32 := Scalar.addi v3341 c11_i32
  let c128_i32_703 : BitVec 32 := 128#32
  let v3343 : BitVec 32 := Scalar.muli v3342 c128_i32_703
  let v3344 : BitVec 32 := v3343
  let v3608 : BitVec 32 := Scalar.muli c2_i32_754 v3344
  let c128_i32_755 : BitVec 32 := 128#32
  let v3609 : BitVec 32 := Scalar.addi v3608 c128_i32_755
  v3609
def k0_mult45 (k0_t1 : Fin k0_t1_loop.trips) : BitVec 32 :=
  let c0_i32_6 : BitVec 32 := 0#32
  let c1_i32_7 : BitVec 32 := 1#32
  let arg9 : BitVec 32 := Scf.iv c0_i32_6 c1_i32_7 k0_t1
  let c16_i32_761 : BitVec 32 := 16#32
  let v3635 : BitVec 32 := Scalar.muli arg9 c16_i32_761
  let c12_i32 : BitVec 32 := 12#32
  let v3636 : BitVec 32 := Scalar.addi v3635 c12_i32
  let c128_i32_762 : BitVec 32 := 128#32
  let v3637 : BitVec 32 := Scalar.muli v3636 c128_i32_762
  v3637
def k0_mult46 (k0_t1 : Fin k0_t1_loop.trips) : BitVec 32 :=
  let c2_i32_807 : BitVec 32 := 2#32
  let c0_i32_6 : BitVec 32 := 0#32
  let c1_i32_7 : BitVec 32 := 1#32
  let arg9 : BitVec 32 := Scf.iv c0_i32_6 c1_i32_7 k0_t1
  let c16_i32_761 : BitVec 32 := 16#32
  let v3635 : BitVec 32 := Scalar.muli arg9 c16_i32_761
  let c12_i32 : BitVec 32 := 12#32
  let v3636 : BitVec 32 := Scalar.addi v3635 c12_i32
  let c128_i32_762 : BitVec 32 := 128#32
  let v3637 : BitVec 32 := Scalar.muli v3636 c128_i32_762
  let v3638 : BitVec 32 := v3637
  let v3879 : BitVec 32 := Scalar.muli c2_i32_807 v3638
  let c0_i32_808 : BitVec 32 := 0#32
  let v3880 : BitVec 32 := Scalar.addi v3879 c0_i32_808
  v3880
def k0_mult47 (k0_t1 : Fin k0_t1_loop.trips) : BitVec 32 :=
  let c2_i32_813 : BitVec 32 := 2#32
  let c0_i32_6 : BitVec 32 := 0#32
  let c1_i32_7 : BitVec 32 := 1#32
  let arg9 : BitVec 32 := Scf.iv c0_i32_6 c1_i32_7 k0_t1
  let c16_i32_761 : BitVec 32 := 16#32
  let v3635 : BitVec 32 := Scalar.muli arg9 c16_i32_761
  let c12_i32 : BitVec 32 := 12#32
  let v3636 : BitVec 32 := Scalar.addi v3635 c12_i32
  let c128_i32_762 : BitVec 32 := 128#32
  let v3637 : BitVec 32 := Scalar.muli v3636 c128_i32_762
  let v3638 : BitVec 32 := v3637
  let v3902 : BitVec 32 := Scalar.muli c2_i32_813 v3638
  let c128_i32_814 : BitVec 32 := 128#32
  let v3903 : BitVec 32 := Scalar.addi v3902 c128_i32_814
  v3903
def k0_mult48 (k0_t1 : Fin k0_t1_loop.trips) : BitVec 32 :=
  let c0_i32_6 : BitVec 32 := 0#32
  let c1_i32_7 : BitVec 32 := 1#32
  let arg9 : BitVec 32 := Scf.iv c0_i32_6 c1_i32_7 k0_t1
  let c16_i32_820 : BitVec 32 := 16#32
  let v3929 : BitVec 32 := Scalar.muli arg9 c16_i32_820
  let c13_i32 : BitVec 32 := 13#32
  let v3930 : BitVec 32 := Scalar.addi v3929 c13_i32
  let c128_i32_821 : BitVec 32 := 128#32
  let v3931 : BitVec 32 := Scalar.muli v3930 c128_i32_821
  v3931
def k0_mult49 (k0_t1 : Fin k0_t1_loop.trips) : BitVec 32 :=
  let c2_i32_866 : BitVec 32 := 2#32
  let c0_i32_6 : BitVec 32 := 0#32
  let c1_i32_7 : BitVec 32 := 1#32
  let arg9 : BitVec 32 := Scf.iv c0_i32_6 c1_i32_7 k0_t1
  let c16_i32_820 : BitVec 32 := 16#32
  let v3929 : BitVec 32 := Scalar.muli arg9 c16_i32_820
  let c13_i32 : BitVec 32 := 13#32
  let v3930 : BitVec 32 := Scalar.addi v3929 c13_i32
  let c128_i32_821 : BitVec 32 := 128#32
  let v3931 : BitVec 32 := Scalar.muli v3930 c128_i32_821
  let v3932 : BitVec 32 := v3931
  let v4173 : BitVec 32 := Scalar.muli c2_i32_866 v3932
  let c0_i32_867 : BitVec 32 := 0#32
  let v4174 : BitVec 32 := Scalar.addi v4173 c0_i32_867
  v4174
def k0_mult50 (k0_t1 : Fin k0_t1_loop.trips) : BitVec 32 :=
  let c2_i32_872 : BitVec 32 := 2#32
  let c0_i32_6 : BitVec 32 := 0#32
  let c1_i32_7 : BitVec 32 := 1#32
  let arg9 : BitVec 32 := Scf.iv c0_i32_6 c1_i32_7 k0_t1
  let c16_i32_820 : BitVec 32 := 16#32
  let v3929 : BitVec 32 := Scalar.muli arg9 c16_i32_820
  let c13_i32 : BitVec 32 := 13#32
  let v3930 : BitVec 32 := Scalar.addi v3929 c13_i32
  let c128_i32_821 : BitVec 32 := 128#32
  let v3931 : BitVec 32 := Scalar.muli v3930 c128_i32_821
  let v3932 : BitVec 32 := v3931
  let v4196 : BitVec 32 := Scalar.muli c2_i32_872 v3932
  let c128_i32_873 : BitVec 32 := 128#32
  let v4197 : BitVec 32 := Scalar.addi v4196 c128_i32_873
  v4197
def k0_mult51 (k0_t1 : Fin k0_t1_loop.trips) : BitVec 32 :=
  let c0_i32_6 : BitVec 32 := 0#32
  let c1_i32_7 : BitVec 32 := 1#32
  let arg9 : BitVec 32 := Scf.iv c0_i32_6 c1_i32_7 k0_t1
  let c16_i32_879 : BitVec 32 := 16#32
  let v4223 : BitVec 32 := Scalar.muli arg9 c16_i32_879
  let c14_i32 : BitVec 32 := 14#32
  let v4224 : BitVec 32 := Scalar.addi v4223 c14_i32
  let c128_i32_880 : BitVec 32 := 128#32
  let v4225 : BitVec 32 := Scalar.muli v4224 c128_i32_880
  v4225
def k0_mult52 (k0_t1 : Fin k0_t1_loop.trips) : BitVec 32 :=
  let c2_i32_925 : BitVec 32 := 2#32
  let c0_i32_6 : BitVec 32 := 0#32
  let c1_i32_7 : BitVec 32 := 1#32
  let arg9 : BitVec 32 := Scf.iv c0_i32_6 c1_i32_7 k0_t1
  let c16_i32_879 : BitVec 32 := 16#32
  let v4223 : BitVec 32 := Scalar.muli arg9 c16_i32_879
  let c14_i32 : BitVec 32 := 14#32
  let v4224 : BitVec 32 := Scalar.addi v4223 c14_i32
  let c128_i32_880 : BitVec 32 := 128#32
  let v4225 : BitVec 32 := Scalar.muli v4224 c128_i32_880
  let v4226 : BitVec 32 := v4225
  let v4467 : BitVec 32 := Scalar.muli c2_i32_925 v4226
  let c0_i32_926 : BitVec 32 := 0#32
  let v4468 : BitVec 32 := Scalar.addi v4467 c0_i32_926
  v4468
def k0_mult53 (k0_t1 : Fin k0_t1_loop.trips) : BitVec 32 :=
  let c2_i32_931 : BitVec 32 := 2#32
  let c0_i32_6 : BitVec 32 := 0#32
  let c1_i32_7 : BitVec 32 := 1#32
  let arg9 : BitVec 32 := Scf.iv c0_i32_6 c1_i32_7 k0_t1
  let c16_i32_879 : BitVec 32 := 16#32
  let v4223 : BitVec 32 := Scalar.muli arg9 c16_i32_879
  let c14_i32 : BitVec 32 := 14#32
  let v4224 : BitVec 32 := Scalar.addi v4223 c14_i32
  let c128_i32_880 : BitVec 32 := 128#32
  let v4225 : BitVec 32 := Scalar.muli v4224 c128_i32_880
  let v4226 : BitVec 32 := v4225
  let v4490 : BitVec 32 := Scalar.muli c2_i32_931 v4226
  let c128_i32_932 : BitVec 32 := 128#32
  let v4491 : BitVec 32 := Scalar.addi v4490 c128_i32_932
  v4491
def k0_mult54 (k0_t1 : Fin k0_t1_loop.trips) : BitVec 32 :=
  let c0_i32_6 : BitVec 32 := 0#32
  let c1_i32_7 : BitVec 32 := 1#32
  let arg9 : BitVec 32 := Scf.iv c0_i32_6 c1_i32_7 k0_t1
  let c16_i32_938 : BitVec 32 := 16#32
  let v4517 : BitVec 32 := Scalar.muli arg9 c16_i32_938
  let c15_i32 : BitVec 32 := 15#32
  let v4518 : BitVec 32 := Scalar.addi v4517 c15_i32
  let c128_i32_939 : BitVec 32 := 128#32
  let v4519 : BitVec 32 := Scalar.muli v4518 c128_i32_939
  v4519
def k0_mult55 (k0_t1 : Fin k0_t1_loop.trips) : BitVec 32 :=
  let c2_i32_984 : BitVec 32 := 2#32
  let c0_i32_6 : BitVec 32 := 0#32
  let c1_i32_7 : BitVec 32 := 1#32
  let arg9 : BitVec 32 := Scf.iv c0_i32_6 c1_i32_7 k0_t1
  let c16_i32_938 : BitVec 32 := 16#32
  let v4517 : BitVec 32 := Scalar.muli arg9 c16_i32_938
  let c15_i32 : BitVec 32 := 15#32
  let v4518 : BitVec 32 := Scalar.addi v4517 c15_i32
  let c128_i32_939 : BitVec 32 := 128#32
  let v4519 : BitVec 32 := Scalar.muli v4518 c128_i32_939
  let v4520 : BitVec 32 := v4519
  let v4761 : BitVec 32 := Scalar.muli c2_i32_984 v4520
  let c0_i32_985 : BitVec 32 := 0#32
  let v4762 : BitVec 32 := Scalar.addi v4761 c0_i32_985
  v4762
def k0_mult56 (k0_t1 : Fin k0_t1_loop.trips) : BitVec 32 :=
  let c2_i32_990 : BitVec 32 := 2#32
  let c0_i32_6 : BitVec 32 := 0#32
  let c1_i32_7 : BitVec 32 := 1#32
  let arg9 : BitVec 32 := Scf.iv c0_i32_6 c1_i32_7 k0_t1
  let c16_i32_938 : BitVec 32 := 16#32
  let v4517 : BitVec 32 := Scalar.muli arg9 c16_i32_938
  let c15_i32 : BitVec 32 := 15#32
  let v4518 : BitVec 32 := Scalar.addi v4517 c15_i32
  let c128_i32_939 : BitVec 32 := 128#32
  let v4519 : BitVec 32 := Scalar.muli v4518 c128_i32_939
  let v4520 : BitVec 32 := v4519
  let v4784 : BitVec 32 := Scalar.muli c2_i32_990 v4520
  let c128_i32_991 : BitVec 32 := 128#32
  let v4785 : BitVec 32 := Scalar.addi v4784 c128_i32_991
  v4785
@[reducible] def k0_t2_loop : Scf.Loop 32 :=
  let c0_i32_18 : BitVec 32 := 0#32
  let c16_i32 : BitVec 32 := 16#32
  let v46 : BitVec 32 := Scalar.addi c0_i32_18 c16_i32
  let c1_i32_19 : BitVec 32 := 1#32
  ⟨c0_i32_18, v46, c1_i32_19⟩
def k0_mult57 (k0_t2 : Fin k0_t2_loop.trips) : BitVec 32 :=
  let c0_i32_18 : BitVec 32 := 0#32
  let c1_i32_19 : BitVec 32 := 1#32
  let arg9 : BitVec 32 := Scf.iv c0_i32_18 c1_i32_19 k0_t2
  let c8_i32 : BitVec 32 := 8#32
  let v47 : BitVec 32 := Scalar.muli arg9 c8_i32
  let c0_i32_21 : BitVec 32 := 0#32
  let v48 : BitVec 32 := Scalar.addi v47 c0_i32_21
  let c128_i32 : BitVec 32 := 128#32
  let v49 : BitVec 32 := Scalar.muli v48 c128_i32
  v49
def k0_off19 (k0_t2 : Fin k0_t2_loop.trips) (c0_i32_21 : BitVec 32) : Fin 2 → Nat :=
  let c0_22 : Index := 0#32
  let c0_i32_18 : BitVec 32 := 0#32
  let c1_i32_19 : BitVec 32 := 1#32
  let arg9 : BitVec 32 := Scf.iv c0_i32_18 c1_i32_19 k0_t2
  let c8_i32 : BitVec 32 := 8#32
  let v47 : BitVec 32 := Scalar.muli arg9 c8_i32
  let v48 : BitVec 32 := Scalar.addi v47 c0_i32_21
  let c128_i32 : BitVec 32 := 128#32
  let v49 : BitVec 32 := Scalar.muli v48 c128_i32
  let v50 : BitVec 32 := v49
  let v51 : Index := Scalar.indexCast v50
  ![0, v51.toNat]
def k0_mult58 (k0_t2 : Fin k0_t2_loop.trips) : BitVec 32 :=
  let c0_i32_18 : BitVec 32 := 0#32
  let c1_i32_19 : BitVec 32 := 1#32
  let arg9 : BitVec 32 := Scf.iv c0_i32_18 c1_i32_19 k0_t2
  let c8_i32_26 : BitVec 32 := 8#32
  let v62 : BitVec 32 := Scalar.muli arg9 c8_i32_26
  let c1_i32_27 : BitVec 32 := 1#32
  let v63 : BitVec 32 := Scalar.addi v62 c1_i32_27
  let c128_i32_28 : BitVec 32 := 128#32
  let v64 : BitVec 32 := Scalar.muli v63 c128_i32_28
  v64
def k0_mult59 (k0_t2 : Fin k0_t2_loop.trips) : BitVec 32 :=
  let c0_i32_18 : BitVec 32 := 0#32
  let c1_i32_19 : BitVec 32 := 1#32
  let arg9 : BitVec 32 := Scf.iv c0_i32_18 c1_i32_19 k0_t2
  let c8_i32_33 : BitVec 32 := 8#32
  let v77 : BitVec 32 := Scalar.muli arg9 c8_i32_33
  let c2_i32 : BitVec 32 := 2#32
  let v78 : BitVec 32 := Scalar.addi v77 c2_i32
  let c128_i32_34 : BitVec 32 := 128#32
  let v79 : BitVec 32 := Scalar.muli v78 c128_i32_34
  v79
def k0_mult60 (k0_t2 : Fin k0_t2_loop.trips) : BitVec 32 :=
  let c0_i32_18 : BitVec 32 := 0#32
  let c1_i32_19 : BitVec 32 := 1#32
  let arg9 : BitVec 32 := Scf.iv c0_i32_18 c1_i32_19 k0_t2
  let c8_i32_39 : BitVec 32 := 8#32
  let v92 : BitVec 32 := Scalar.muli arg9 c8_i32_39
  let c3_i32 : BitVec 32 := 3#32
  let v93 : BitVec 32 := Scalar.addi v92 c3_i32
  let c128_i32_40 : BitVec 32 := 128#32
  let v94 : BitVec 32 := Scalar.muli v93 c128_i32_40
  v94
def k0_mult61 (k0_t2 : Fin k0_t2_loop.trips) : BitVec 32 :=
  let c0_i32_18 : BitVec 32 := 0#32
  let c1_i32_19 : BitVec 32 := 1#32
  let arg9 : BitVec 32 := Scf.iv c0_i32_18 c1_i32_19 k0_t2
  let c8_i32_45 : BitVec 32 := 8#32
  let v107 : BitVec 32 := Scalar.muli arg9 c8_i32_45
  let c4_i32_46 : BitVec 32 := 4#32
  let v108 : BitVec 32 := Scalar.addi v107 c4_i32_46
  let c128_i32_47 : BitVec 32 := 128#32
  let v109 : BitVec 32 := Scalar.muli v108 c128_i32_47
  v109
def k0_mult62 (k0_t2 : Fin k0_t2_loop.trips) : BitVec 32 :=
  let c0_i32_18 : BitVec 32 := 0#32
  let c1_i32_19 : BitVec 32 := 1#32
  let arg9 : BitVec 32 := Scf.iv c0_i32_18 c1_i32_19 k0_t2
  let c8_i32_52 : BitVec 32 := 8#32
  let v122 : BitVec 32 := Scalar.muli arg9 c8_i32_52
  let c5_i32 : BitVec 32 := 5#32
  let v123 : BitVec 32 := Scalar.addi v122 c5_i32
  let c128_i32_53 : BitVec 32 := 128#32
  let v124 : BitVec 32 := Scalar.muli v123 c128_i32_53
  v124
def k0_mult63 (k0_t2 : Fin k0_t2_loop.trips) : BitVec 32 :=
  let c0_i32_18 : BitVec 32 := 0#32
  let c1_i32_19 : BitVec 32 := 1#32
  let arg9 : BitVec 32 := Scf.iv c0_i32_18 c1_i32_19 k0_t2
  let c8_i32_58 : BitVec 32 := 8#32
  let v137 : BitVec 32 := Scalar.muli arg9 c8_i32_58
  let c6_i32 : BitVec 32 := 6#32
  let v138 : BitVec 32 := Scalar.addi v137 c6_i32
  let c128_i32_59 : BitVec 32 := 128#32
  let v139 : BitVec 32 := Scalar.muli v138 c128_i32_59
  v139
def k0_mult64 (k0_t2 : Fin k0_t2_loop.trips) : BitVec 32 :=
  let c0_i32_18 : BitVec 32 := 0#32
  let c1_i32_19 : BitVec 32 := 1#32
  let arg9 : BitVec 32 := Scf.iv c0_i32_18 c1_i32_19 k0_t2
  let c8_i32_64 : BitVec 32 := 8#32
  let v152 : BitVec 32 := Scalar.muli arg9 c8_i32_64
  let c7_i32 : BitVec 32 := 7#32
  let v153 : BitVec 32 := Scalar.addi v152 c7_i32
  let c128_i32_65 : BitVec 32 := 128#32
  let v154 : BitVec 32 := Scalar.muli v153 c128_i32_65
  v154
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x8192 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x16384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x16384 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RecvReferenceIdeal.lean ====
abbrev S8x1280x8192 : Shape := ⟨3, ![8, 1280, 8192]⟩
abbrev S8x1280x512 : Shape := ⟨3, ![8, 1280, 512]⟩
abbrev S1280x16384 : Shape := ⟨2, ![1280, 16384]⟩
abbrev S1x16384 : Shape := ⟨2, ![1, 16384]⟩
abbrev S1280x128 : Shape := ⟨2, ![1280, 128]⟩
abbrev S1x1280x8192 : Shape := ⟨3, ![1, 1280, 8192]⟩
abbrev S1280x8192 : Shape := ⟨2, ![1280, 8192]⟩
abbrev S1x1280x512 : Shape := ⟨3, ![1, 1280, 512]⟩
abbrev S1280x512 : Shape := ⟨2, ![1280, 512]⟩
abbrev S1280x512x1 : Shape := ⟨3, ![1280, 512, 1]⟩
abbrev S1280x512x16 : Shape := ⟨3, ![1280, 512, 16]⟩
abbrev S1280x8192x1 : Shape := ⟨3, ![1280, 8192, 1]⟩
abbrev S1280x8192x2 : Shape := ⟨3, ![1280, 8192, 2]⟩
abbrev S1280 : Shape := ⟨1, ![1280]⟩
abbrev S1280x1 : Shape := ⟨2, ![1280, 1]⟩

abbrev nBuf : Space → Nat
  | .hbm => 7
  | .vmem => 7
  | .smem => 0
  | _ => 0

abbrev bufTy : (tb : Table) → Fin (tcTables nBuf tb) → BufTy
  | .hbm, ⟨0, _⟩ => ⟨S8x1280x8192, .i8⟩
  | .hbm, ⟨1, _⟩ => ⟨S8x1280x512, .f32⟩
  | .hbm, ⟨2, _⟩ => ⟨S1280x16384, .bf16⟩
  | .hbm, ⟨3, _⟩ => ⟨S1x16384, .f32⟩
  | .hbm, ⟨4, _⟩ => ⟨S1280x16384, .bf16⟩
  | .hbm, ⟨5, _⟩ => ⟨S1280x16384, .fp8e4m3⟩
  | .hbm, ⟨6, _⟩ => ⟨S1280x128, .f32⟩
  | .local _ .vmem, ⟨0, _⟩ => ⟨S8x1280x8192, .i8⟩
  | .local _ .vmem, ⟨1, _⟩ => ⟨S8x1280x512, .f32⟩
  | .local _ .vmem, ⟨2, _⟩ => ⟨S1280x16384, .bf16⟩
  | .local _ .vmem, ⟨3, _⟩ => ⟨S1x16384, .f32⟩
  | .local _ .vmem, ⟨4, _⟩ => ⟨S1280x16384, .bf16⟩
  | .local _ .vmem, ⟨5, _⟩ => ⟨S1280x16384, .fp8e4m3⟩
  | .local _ .vmem, ⟨6, _⟩ => ⟨S1280x128, .f32⟩
  | _, _ => ⟨S8x1280x8192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x1280x8192 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1280x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x16384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1280x16384 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1280x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Spec.lean ====
/- The mathematics both programs compute, over the extended reals, with indices in `Fin n` and nothing of either program's
   tiling: the per-row quantiser (scale, code), the gated feed-forward product. -/
module

public import Idealize.ShloMosaic.PureOps.Ideal
public import Mathlib.Data.EReal.Basic
public import Mathlib.Data.Finset.Fold

@[expose] public section

noncomputable section

namespace Cert.Spec

open Idealize.ShloMosaic

/-- The largest finite magnitude of the eight-bit format, 448, and its negative. -/
abbrev c448 : EReal := Ideal.ofBits FTy.f32 0x43E00000#32
abbrev m448 : EReal := Ideal.ofBits FTy.f32 0xC3E00000#32

/-- The starting value of a maximum, minus infinity. -/
abbrev negInf : EReal := Ideal.ofBits FTy.f32 0xFF800000#32

/-- The magnitude of an extended real. -/
abbrev mag (x : EReal) : EReal := max x (-x)

/-- The largest entry of a row. -/
def top {n : ℕ} (f : Fin n → EReal) : EReal := Finset.univ.fold max negInf f

/-- The scale of a row whose largest magnitude is `a`: `a / 448`, and one for a row of zeros. -/
def qscale (a : EReal) : EReal := if a = 0 then 1 else Ideal.div a c448

/-- The code of `v` under the scale `s`: `v / s` clipped to ±448. -/
def qcode (v s : EReal) : EReal := min c448 (max m448 (Ideal.div v s))

/-- The scale of a row of values. -/
def rowScale {n : ℕ} (f : Fin n → EReal) : EReal := qscale (top fun j => mag (f j))

/-- The code of the entry `j` of a row of values. -/
def rowCode {n : ℕ} (f : Fin n → EReal) (j : Fin n) : EReal := qcode (f j) (rowScale f)

/-- One entry of a product of codes, put back at its row scale and its column scale. -/
def proj {K : ℕ} (x : Fin K → EReal) (xs : EReal) (w : Fin K → EReal) (ws : EReal) : EReal :=
  (∑ k, x k * w k) * (xs * ws)

/-- The gated product `g · σ(g) · u`. -/
def gated (g u : EReal) : EReal := g * Ideal.logistic g * u

theorem proj_congr {n : ℕ} {x x' w w' : Fin n → EReal} {xs xs' ws ws' : EReal} (hx : ∀ k, x k = x' k) (hxs : xs = xs')
    (hw : ∀ k, w k = w' k) (hws : ws = ws') : proj x xs w ws = proj x' xs' w' ws' := by
  rw [funext hx, hxs, funext hw, hws]

/-- A maximum is below `b` exactly when every entry is. -/
theorem top_le {n : ℕ} (f : Fin n → EReal) (b : EReal) : top f ≤ b ↔ ∀ j, f j ≤ b := by
  unfold top
  rw [Finset.fold_max_le]
  have : negInf = ⊥ := by simp [negInf, Ideal.ofBits, Ideal.ieee]
  simp [this]

theorem mag_nonneg (x : EReal) : 0 ≤ mag x := by
  rcases le_total 0 x with h | h
  · exact h.trans (le_max_left _ _)
  · exact (EReal.neg_nonneg.2 h).trans (le_max_right _ _)

end Cert.Spec

end
-- ==== Proof.Ffn.lean ====
/- The gated feed-forward product (`cc0_ffn`): tile `t` of 256 columns of `g · σ(g) · u`, and per row 128 running maxima of
   its magnitudes, lane `l` over the columns congruent to `l` modulo 128. -/
module

public import proofs.«01_k».proof.Proof.Spec
public import proofs.«01_k».proof.Proof.Gen.KernelIdeal.Frame
public import Idealize.ShloMosaic.Lib.Pipeline.ValueKit
public import Idealize.ShloMosaic.Lib.Pointwise
public import Idealize.ShloMosaic.Lib.MatmulPlain

@[expose] public section

noncomputable section

namespace Cert.KernelIdeal.Ffn

open Cert.KernelIdeal Cert.KernelIdeal.Gen Idealize.ShloMosaic Idealize.ShloMosaic.TcCoe Idealize.SL.Sem

variable (V : (c : Dev nD) → (b : Ref sig .tc) → Buf (Elt Ideal) ((c : Thread nD τ).loc b))

/-- The arrays as the region finds them: the codes and scales of the normalised rows, the two weights, their scales. -/
abbrev X (c : Dev nD) : S1280x16384.Idx → EReal := V c (Pipeline.arrRef spec0 0)
abbrev XS (c : Dev nD) : S1280x128.Idx → EReal := V c (Pipeline.arrRef spec0 1)
abbrev WG (c : Dev nD) : S16384x6656.Idx → EReal := V c (Pipeline.arrRef spec0 2)
abbrev WU (c : Dev nD) : S16384x6656.Idx → EReal := V c (Pipeline.arrRef spec0 3)
abbrev SG (c : Dev nD) : S1x6656.Idx → EReal := V c (Pipeline.arrRef spec0 4)
abbrev SU (c : Dev nD) : S1x6656.Idx → EReal := V c (Pipeline.arrRef spec0 5)

/-- Entry (i, j) of the gated product. -/
def val (c : Dev nD) (i : Fin 1280) (j : Fin 6656) : EReal :=
  Spec.gated
    (Spec.proj (fun k => X V c (ix2 i k)) (XS V c (ix2 i 0)) (fun k => WG V c (ix2 k j)) (SG V c (ix2 0 j)))
    (Spec.proj (fun k => X V c (ix2 i k)) (XS V c (ix2 i 0)) (fun k => WU V c (ix2 k j)) (SU V c (ix2 0 j)))

/-- One block's product, at an index: the two half-blocks' payloads are the same operations. -/
theorem pay4_apply (v3 : Vec Ideal S640x16384 .fp8e4m3) (v4 : Vec Ideal S640x1 .f32) (v5 : Vec Ideal S16384x256 .fp8e4m3)
    (v7 : Vec Ideal S1x256 .f32) (v13 : Vec Ideal S16384x256 .fp8e4m3) (v15 : Vec Ideal S1x256 .f32) (i : Fin 640) (j : Fin 256) :
    k0_pay4 v3 v4 v5 v7 v13 v15 (ix2 i j) = Spec.gated
      (Spec.proj (fun k => v3 (ix2 i k)) (v4 (ix2 i 0)) (fun k => v5 (ix2 k j)) (v7 (ix2 0 j)))
      (Spec.proj (fun k => v3 (ix2 i k)) (v4 (ix2 i 0)) (fun k => v13 (ix2 k j)) (v15 (ix2 0 j))) := by
  pointwise [k0_pay4]
  rfl

theorem pay1_eq : k0_pay1 (F := Ideal) = k0_pay4 := rfl
theorem pay2_eq : k0_pay2 (F := Ideal) = k0_pay5 := rfl

theorem idx : ∀ t : Fin cfg0.N, win0_0.index t = ![0, 0] ∧ win0_1.index t = ![0, 0] ∧ win0_2.index t = ![0, t.val]
    ∧ win0_3.index t = ![0, t.val] ∧ win0_4.index t = ![0, t.val] ∧ win0_5.index t = ![0, t.val] ∧ win0_6.index t = ![0, t.val]
    ∧ win0_7.index t = ![0, 0] :=
  (by decide +kernel : ∀ t : Fin grid0.N, _)

/-- The column a lane of the tile's first or second half stands for. -/
abbrev col (t : Fin cfg0.N) (o : ℕ) (l : Fin 128) (h : o + 128 ≤ 256 := by decide) : Fin 6656 :=
  ⟨256 * t.val + o + l.val, by have := t.isLt; have : cfg0.N = 26 := N_0; omega⟩

/-- A point stages the whole of the codes. -/
theorem codes_whole (c : Dev nD) (t : Fin cfg0.N) (y : S1280x16384.Idx) : iblk0 V c 0 t y = X V c y := by
  blk_point [iblk0, idx t]

/-- A point stages the whole of the scales. -/
theorem scales_whole (c : Dev nD) (t : Fin cfg0.N) (y : S1280x128.Idx) : iblk0 V c 1 t y = XS V c y := by
  blk_point [iblk0, idx t]

/-- The rows `o …` of a tile, from the staged blocks, at an index. -/
theorem rows_block (x0 : Vec Ideal S1280x16384 .fp8e4m3) (x1 : Vec Ideal S1280x128 .f32) (w2 : Vec Ideal S16384x256 .fp8e4m3)
    (w4 : Vec Ideal S1x256 .f32) (w3 : Vec Ideal S16384x256 .fp8e4m3) (w5 : Vec Ideal S1x256 .f32) (o : ℕ) (inb inb')
    (i : Fin 640) (j : Fin 256) (r : Fin 1280) (hr : r.val = o + i.val) :
    k0_pay4 (View.ld x0 (Rect.unit ![o, 0] ![640, 16384] inb)) (View.ld x1 (Rect.unit ![o, 0] ![640, 1] inb')) w2 w4 w3 w5 (ix2 i j)
      = Spec.gated
        (Spec.proj (fun k => x0 (ix2 r k)) (x1 (ix2 r 0)) (fun k => w2 (ix2 k j)) (w4 (ix2 0 j)))
        (Spec.proj (fun k => x0 (ix2 r k)) (x1 (ix2 r 0)) (fun k => w3 (ix2 k j)) (w5 (ix2 0 j))) := by
  have h0 : ∀ k : Fin 16384, View.ld x0 (Rect.unit ![o, 0] ![640, 16384] inb) (ix2 i k) = x0 (ix2 r k) := fun k =>
    View.ld_unit_apply_of _ _ _ inb _ (ix2 r k) (fun a => by match a with | 0 => exact hr | 1 => exact (Nat.zero_add _).symm)
  have h1 : View.ld x1 (Rect.unit ![o, 0] ![640, 1] inb') (ix2 i 0) = x1 (ix2 r 0) :=
    View.ld_unit_apply_of _ _ _ inb' _ (ix2 r 0) (fun a => by match a with | 0 => exact hr | 1 => exact (Nat.zero_add _).symm)
  refine (pay4_apply _ _ _ _ _ _ i j).trans ?_
  rw [funext h0, h1]

/-- The rows `o …` of a point's tile, at an index. -/
theorem rows_apply (c : Dev nD) (t : Fin cfg0.N) (o : ℕ) (inb inb') (x : S640x256.Idx) (r : Fin 1280) (k : Fin 6656)
    (hr : r.val = o + (x 0).val) (hk : k.val = 256 * t.val + (x 1).val) :
    k0_pay4 (View.ld (iblk0 V c 0 t) (Rect.unit ![o, 0] ![640, 16384] inb))
      (View.ld (iblk0 V c 1 t) (Rect.unit ![o, 0] ![640, 1] inb')) (iblk0 V c 2 t)
      (iblk0 V c 4 t) (iblk0 V c 3 t) (iblk0 V c 5 t) x = val V c r k := by
  obtain ⟨i, j, rfl⟩ : ∃ i : Fin 640, ∃ j : Fin 256, x = ix2 i j := ⟨x 0, x 1, eq_ix2 x⟩
  change r.val = o + i.val at hr
  change k.val = 256 * t.val + j.val at hk
  refine (rows_block _ _ _ _ _ _ o inb inb' i j r hr).trans ?_
  have h2 : ∀ l : Fin 16384, (iblk0 V c 2 t : Vec Ideal S16384x256 .fp8e4m3) (ix2 l j) = WG V c (ix2 l k) := fun l => by
    blk_point [iblk0, idx t]
  have h3 : ∀ l : Fin 16384, (iblk0 V c 3 t : Vec Ideal S16384x256 .fp8e4m3) (ix2 l j) = WU V c (ix2 l k) := fun l => by
    blk_point [iblk0, idx t]
  have h4 : (iblk0 V c 4 t : Vec Ideal S1x256 .f32) (ix2 0 j) = SG V c (ix2 0 k) := by blk_point [iblk0, idx t]
  have h5 : (iblk0 V c 5 t : Vec Ideal S1x256 .f32) (ix2 0 j) = SU V c (ix2 0 k) := by blk_point [iblk0, idx t]
  exact congrArg₂ Spec.gated
    (Spec.proj_congr (fun l => codes_whole V c t (ix2 r l)) (scales_whole V c t (ix2 r 0)) h2 h4)
    (Spec.proj_congr (fun l => codes_whole V c t (ix2 r l)) (scales_whole V c t (ix2 r 0)) h3 h5)

/-- The tile a point stores, at an index. -/
theorem tile (c : Dev nD) (t : Fin cfg0.N) (y : S1280x256.Idx) (r : Fin 1280) (k : Fin 6656)
    (hr : r.val = (y 0).val) (hk : k.val = 256 * t.val + (y 1).val) :
    (View.canon [⟨Rect.unit ![640, 0] ![640, 256] inb_S1280x256_S640x256_640_0,
        k0_pay1 (View.ld (iblk0 V c 0 t) (Rect.unit ![640, 0] ![640, 16384] inb_S1280x16384_S640x16384_640_0))
          (View.ld (iblk0 V c 1 t) (Rect.unit ![640, 0] ![640, 1] inb_S1280x128_S640x1_640_0)) (iblk0 V c 2 t)
          (iblk0 V c 4 t) (iblk0 V c 3 t) (iblk0 V c 5 t)⟩,
      ⟨Rect.unit ![0, 0] ![640, 256] inb_S1280x256_S640x256_0_0,
        k0_pay4 (View.ld (iblk0 V c 0 t) (Rect.unit ![0, 0] ![640, 16384] inb_S1280x16384_S640x16384_0_0))
          (View.ld (iblk0 V c 1 t) (Rect.unit ![0, 0] ![640, 1] inb_S1280x128_S640x1_0_0)) (iblk0 V c 2 t)
          (iblk0 V c 4 t) (iblk0 V c 3 t) (iblk0 V c 5 t)⟩] : Vec Ideal S1280x256 .f32) y = val V c r k := by
  canon_tiles x h
  · rw [pay1_eq]
    exact rows_apply V c t 640 _ _ x r k (hr.trans h0) (by omega)
  · exact rows_apply V c t 0 _ _ x r k (by omega) (by omega)

/-- THE PRODUCT the region leaves. -/
theorem product (c : Dev nD) : (dat0 V c).arrAt 6 cfg0.N
    = (fun i : S1280x6656.Idx => val V c (i 0) (i 1) : S1280x6656.Idx → EReal) := by
  refine (dat0 V c).arrAt_eq_of_covers 6 _ (by decide +kernel) fun t hf y => ?_
  have e0 : (((cfg0.win 6).blk t).view.emb y 0 : Fin 1280).val = (y 0).val := by blk_simp; blk_point [idx t]
  have e1 : (((cfg0.win 6).blk t).view.emb y 1 : Fin 6656).val = 256 * t.val + (y 1).val := by blk_simp; blk_point [idx t]; exact Nat.mul_comm _ _
  blk_simp
  rw [after0_6]
  by_cases h0 : t.val % 26 = 0
  · rw [outsAt0_A V c t h0]; frame_out
    exact tile V c t y _ _ e0 e1
  · rw [outsAt0_B V c t h0]; frame_out
    exact tile V c t y _ _ e0 e1

/-- The lanes' new maxima, from the ones before and the tile's 256 columns. -/
theorem pay5_apply (v3 : Vec Ideal S640x16384 .fp8e4m3) (v4 : Vec Ideal S640x1 .f32) (v5 : Vec Ideal S16384x256 .fp8e4m3)
    (v7 : Vec Ideal S1x256 .f32) (v13 : Vec Ideal S16384x256 .fp8e4m3) (v15 : Vec Ideal S1x256 .f32) (v26 : Vec Ideal S640x128 .f32)
    (i : Fin 640) (l : Fin 128) :
    k0_pay5 v3 v4 v5 v7 v13 v15 v26 (ix2 i l) = max (max (v26 (ix2 i l))
      (Spec.mag (k0_pay4 v3 v4 v5 v7 v13 v15 (ix2 i ⟨l.val, by omega⟩))))
      (Spec.mag (k0_pay4 v3 v4 v5 v7 v13 v15 (ix2 i ⟨128 + l.val, by omega⟩))) := by
  pointwise [k0_pay5]
  rfl

/-- The maxima of lane `l` of row `r` after a point that found `p` in it. -/
def next (c : Dev nD) (t : Fin cfg0.N) (r : Fin 1280) (l : Fin 128) (p : EReal) : EReal :=
  max (max p (Spec.mag (val V c r (col t 0 l)))) (Spec.mag (val V c r (col t 128 l)))

theorem lane_rows (c : Dev nD) (t : Fin cfg0.N) (o : ℕ) (inb inb' inb'') (P : Vec Ideal S1280x128 .f32) (x : S640x128.Idx)
    (r : Fin 1280) (l : Fin 128) (hr : r.val = o + (x 0).val) (hl : l.val = (x 1).val) :
    k0_pay5 (View.ld (iblk0 V c 0 t) (Rect.unit ![o, 0] ![640, 16384] inb))
      (View.ld (iblk0 V c 1 t) (Rect.unit ![o, 0] ![640, 1] inb')) (iblk0 V c 2 t)
      (iblk0 V c 4 t) (iblk0 V c 3 t) (iblk0 V c 5 t) (View.ld P (Rect.unit ![o, 0] ![640, 128] inb'')) x
      = next V c t r l (P (ix2 r l)) := by
  obtain ⟨i, j, rfl⟩ : ∃ i : Fin 640, ∃ j : Fin 128, x = ix2 i j := ⟨x 0, x 1, eq_ix2 x⟩
  change r.val = o + i.val at hr
  obtain rfl : l = j := Fin.ext hl
  refine (pay5_apply _ _ _ _ _ _ _ i l).trans ?_
  have hP : View.ld P (Rect.unit ![o, 0] ![640, 128] inb'') (ix2 i l) = P (ix2 r l) :=
    View.ld_unit_apply_of P _ _ inb'' _ (ix2 r l) (fun a => by match a with | 0 => exact hr | 1 => exact (Nat.zero_add _).symm)
  have ha := rows_apply V c t o inb inb' (ix2 i ⟨l.val, by omega⟩) r (col t 0 l) hr
    (by show 256 * t.val + 0 + l.val = 256 * t.val + l.val; omega)
  have hb := rows_apply V c t o inb inb' (ix2 i ⟨128 + l.val, by omega⟩) r (col t 128 l) hr
    (by show 256 * t.val + 128 + l.val = 256 * t.val + (128 + l.val); omega)
  exact congrArg₂ max (congrArg₂ max hP (congrArg Spec.mag ha)) (congrArg Spec.mag hb)

/-- The lanes a point stores over the contents `P`, at an index. -/
theorem lanes_stored (c : Dev nD) (t : Fin cfg0.N) (P : Vec Ideal S1280x128 .f32) (y : S1280x128.Idx) :
    (View.canon [⟨Rect.unit ![640, 0] ![640, 128] inb_S1280x128_S640x128_640_0,
        k0_pay2 (View.ld (iblk0 V c 0 t) (Rect.unit ![640, 0] ![640, 16384] inb_S1280x16384_S640x16384_640_0))
          (View.ld (iblk0 V c 1 t) (Rect.unit ![640, 0] ![640, 1] inb_S1280x128_S640x1_640_0)) (iblk0 V c 2 t)
          (iblk0 V c 4 t) (iblk0 V c 3 t) (iblk0 V c 5 t)
          (View.ld P (Rect.unit ![640, 0] ![640, 128] inb_S1280x128_S640x128_640_0))⟩,
      ⟨Rect.unit ![0, 0] ![640, 128] inb_S1280x128_S640x128_0_0,
        k0_pay5 (View.ld (iblk0 V c 0 t) (Rect.unit ![0, 0] ![640, 16384] inb_S1280x16384_S640x16384_0_0))
          (View.ld (iblk0 V c 1 t) (Rect.unit ![0, 0] ![640, 1] inb_S1280x128_S640x1_0_0)) (iblk0 V c 2 t)
          (iblk0 V c 4 t) (iblk0 V c 3 t) (iblk0 V c 5 t)
          (View.ld P (Rect.unit ![0, 0] ![640, 128] inb_S1280x128_S640x128_0_0))⟩] : Vec Ideal S1280x128 .f32) y
      = next V c t (y 0) (y 1) (P y) := by
  conv_rhs => rw [eq_ix2 y]
  canon_tiles x h
  · rw [pay2_eq]
    exact lane_rows V c t 640 _ _ _ P x (y 0) (y 1) h0 h1
  · exact lane_rows V c t 0 _ _ _ P x (y 0) (y 1) (by omega) h1

/-- Stores under others that already cover an index do not matter there. -/
theorem canon_append_left {S : Shape} {e : EltTy} (L' : List (View.Piece (Elt Ideal) S e)) (y : S.Idx) :
    ∀ L : List (View.Piece (Elt Ideal) S e), (∃ p ∈ L, y ∈ p.1.set) → View.canon (L ++ L') y = View.canon L y
  | [], h => by obtain ⟨p, hp, _⟩ := h; simp at hp
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_left L' y L ?_
      obtain ⟨q, hq, hy⟩ := h
      rcases List.mem_cons.1 hq with rfl | hq
      · exact absurd hy hm
      · exact ⟨q, hq, hy⟩

end Cert.KernelIdeal.Ffn

end
-- ==== Proof.Lanes.lean ====
/- The running maxima of the gated feed-forward product: after point `n` a lane holds the largest magnitude of its columns so
   far, starting from zero. -/
module

public import proofs.«01_k».proof.Proof.Ffn
public import proofs.«01_k».proof.Proof.Gen.KernelIdeal.Frame
public import Idealize.ShloMosaic.Lib.Pipeline.ValueKit
public import Idealize.ShloMosaic.Lib.Pointwise
public import Idealize.ShloMosaic.Lib.MatmulPlain

@[expose] public section

noncomputable section

namespace Cert.KernelIdeal.Ffn

open Cert.KernelIdeal Cert.KernelIdeal.Gen Idealize.ShloMosaic Idealize.ShloMosaic.TcCoe Idealize.SL.Sem

variable (V : (c : Dev nD) → (b : Ref sig .tc) → Buf (Elt Ideal) ((c : Thread nD τ).loc b))

/-- The store of the zeros covers every lane. -/
theorem zeros_cover (z : Vec Ideal S1280x128 .f32) (inb) (y : S1280x128.Idx) :
    y ∈ (⟨Rect.unit ![0, 0] ![1280, 128] inb, z⟩ : View.Piece (Elt Ideal) S1280x128 .f32).1.set :=
  (Rect.mem_set_unit (inb := inb)).2 fun a => by
    match a with
    | 0 => exact ⟨Nat.zero_le _, lt_of_lt_of_eq (y 0).isLt (Nat.zero_add _).symm⟩
    | 1 => exact ⟨Nat.zero_le _, lt_of_lt_of_eq (y 1).isLt (Nat.zero_add _).symm⟩

/-- The zeros, read back alone. -/
theorem zeros_canon (z : Vec Ideal S1280x128 .f32) (inb) :
    View.canon [(⟨Rect.unit ![0, 0] ![1280, 128] inb, z⟩ : View.Piece (Elt Ideal) S1280x128 .f32)] = z :=
  View.canon_cons_unit_zero (by funext a; match a with | 0 => rfl | 1 => rfl) _ _ _

/-- The first half's rows, read over the zeros alone. -/
theorem read_lo {κ : Kind} {sp : Space} (v : View sig κ sp S1280x128 .f32) (z : Vec Ideal S1280x128 .f32) (inb) (o : ℕ) (inb') :
    v.readCov [(⟨Rect.unit ![0, 0] ![1280, 128] inb, z⟩ : View.Piece (Elt Ideal) S1280x128 .f32)]
      (Rect.unit ![o, 0] ![640, 128] inb').toLoadRect = View.ld z (Rect.unit ![o, 0] ![640, 128] inb') := by
  rw [View.readCov_eq_canon_ld v _ _ (fun y => ⟨_, List.mem_singleton_self _, zeros_cover z inb y⟩), zeros_canon]

/-- The second half's rows, read over the zeros with the first half already stored. -/
theorem read_hi {κ : Kind} {sp : Space} (v : View sig κ sp S1280x128 .f32) (z : Vec Ideal S1280x128 .f32) (inb)
    (inb₀) (w : Vec Ideal S640x128 .f32) (inb') :
    v.readCov [(⟨Rect.unit ![0, 0] ![640, 128] inb₀, w⟩ : View.Piece (Elt Ideal) S1280x128 .f32),
        ⟨Rect.unit ![0, 0] ![1280, 128] inb, z⟩]
      (Rect.unit ![640, 0] ![640, 128] inb').toLoadRect = View.ld z (Rect.unit ![640, 0] ![640, 128] inb') := by
  rw [View.readCov_eq_canon_ld v _ _ (fun y => ⟨_, List.mem_cons_of_mem _ (List.mem_singleton_self _), zeros_cover z inb y⟩)]
  funext x
  refine (View.canon_cons_of_not_mem _ _ fun hm => ?_).trans (congrFun (zeros_canon z inb) _)
  have h := ((Rect.mem_set_unit (inb := inb₀)).1 hm 0).2
  rw [Rect.idx_unit_val] at h
  exact absurd h (Nat.not_lt.2 (Nat.le_add_right 640 _))

theorem zeros_apply (y : S1280x128.Idx) : k0_pay3 (F := Ideal) y = (0 : EReal) := by
  pointwise [k0_pay3]

/-- What a point leaves in a lane, from what the point before left there (zero at the first). -/
theorem step (c : Dev nD) (t : Fin cfg0.N) (y : S1280x128.Idx) :
    (outsAt0 V c t.val t.isLt).2 y = next V c t (y 0) (y 1) (if t.val % 26 = 0 then (0 : EReal) else
      (outsAt0 V c (t.val - 1) (Nat.lt_of_le_of_lt (Nat.sub_le _ _) t.isLt)).2 y) := by
  by_cases h0 : t.val % 26 = 0
  · rw [if_pos h0, outsAt0_A V c t h0]; frame_out
    refine (canon_append_left [_] y [_, _] (View.cover_of_tiled_head _ _ _ (by rfl) y)).trans ?_
    rw [read_hi, read_lo]
    exact (lanes_stored V c t (k0_pay3 (F := Ideal)) y).trans (congrArg _ (zeros_apply y))
  · rw [if_neg h0, outsAt0_B V c t h0]; frame_out
    exact lanes_stored V c t _ y

/-- After point `n` a lane holds the least bound, 0 included, of the magnitudes in the columns of that lane so far. -/
theorem lanes_le (c : Dev nD) (i : Fin 1280) (l : Fin 128) (b : EReal) : ∀ (n : ℕ) (h : n < cfg0.N),
    (outsAt0 V c n h).2 (ix2 i l) ≤ b
      ↔ 0 ≤ b ∧ ∀ j : Fin 6656, j.val < 256 * (n + 1) → j.val % 128 = l.val → Spec.mag (val V c i j) ≤ b := by
  have hN : cfg0.N = 26 := N_0
  intro n
  induction n with
  | zero =>
    intro h
    rw [step V c ⟨0, h⟩ (ix2 i l), if_pos (by simp)]
    unfold next
    rw [max_le_iff, max_le_iff, and_assoc]
    refine and_congr_right fun _ => ⟨fun hb j hj hl => ?_, fun hb => ⟨hb _ ?_ ?_, hb _ ?_ ?_⟩⟩
    · have := j.isLt
      rcases (by omega : j.val = l.val ∨ j.val = 128 + l.val) with e | e
      · have : j = col ⟨0, h⟩ 0 l := Fin.ext (by show j.val = 256 * 0 + 0 + l.val; omega)
        exact this ▸ hb.1
      · have : j = col ⟨0, h⟩ 128 l := Fin.ext (by show j.val = 256 * 0 + 128 + l.val; omega)
        exact this ▸ hb.2
    · show 256 * 0 + 0 + l.val < _; omega
    · show (256 * 0 + 0 + l.val) % 128 = _; omega
    · show 256 * 0 + 128 + l.val < _; omega
    · show (256 * 0 + 128 + l.val) % 128 = _; omega
  | succ n ih =>
    intro h
    rw [step V c ⟨n + 1, h⟩ (ix2 i l), if_neg (by show ¬ (n + 1) % 26 = 0; omega)]
    unfold next
    rw [max_le_iff, max_le_iff]
    have ih' := ih (Nat.lt_of_succ_lt h)
    change (((outsAt0 V c n _).2 (ix2 i l) ≤ b ∧ _) ∧ _) ↔ _
    rw [ih', and_assoc, and_assoc]
    refine and_congr_right fun _ => ⟨fun hb j hj hl => ?_, fun hb => ⟨fun j hj hl => hb j (by omega) hl, hb _ ?_ ?_, hb _ ?_ ?_⟩⟩
    · have := j.isLt
      rcases (by omega : j.val < 256 * (n + 1) ∨ j.val = 256 * (n + 1) + l.val ∨ j.val = 256 * (n + 1) + 128 + l.val) with e | e | e
      · exact hb.1 j e hl
      · have : j = col ⟨n + 1, h⟩ 0 l := Fin.ext (by show j.val = 256 * (n + 1) + 0 + l.val; omega)
        exact this ▸ hb.2.1
      · have : j = col ⟨n + 1, h⟩ 128 l := Fin.ext (by show j.val = 256 * (n + 1) + 128 + l.val; omega)
        exact this ▸ hb.2.2
    · show 256 * (n + 1) + 0 + l.val < _; omega
    · show (256 * (n + 1) + 0 + l.val) % 128 = _; omega
    · show 256 * (n + 1) + 128 + l.val < _; omega
    · show (256 * (n + 1) + 128 + l.val) % 128 = _; omega

/-- THE LANES the region leaves: those of the last point. -/
theorem lanes (c : Dev nD) (h : 25 < cfg0.N) : (dat0 V c).arrAt 7 cfg0.N = (outsAt0 V c 25 h).2 := by
  refine (dat0 V c).arrAt_eq_of_covers 7 _ (by decide +kernel) fun t hf y => ?_
  have ht : t.val = 25 := (by decide +kernel : ∀ t : Fin cfg0.N, (cfg0.win 7).flush t = true → t.val = 25) t hf
  have key : ∀ t : Fin cfg0.N, t.val = 25 → outsAt0 V c t.val t.isLt = outsAt0 V c 25 h := by
    rintro ⟨n, hn⟩ rfl; rfl
  have e : ((cfg0.win 7).blk t).view.emb y = (y : S1280x128.Idx) := by
    funext a
    apply Fin.ext
    match a with
    | 0 => blk_simp; blk_point [idx t]
    | 1 => blk_simp; blk_point [idx t]
  rw [e]
  blk_simp
  rw [after0_7, key t ht]

end Cert.KernelIdeal.Ffn

end
-- ==== Proof.Actq.lean ====
/- The second half of the activation's quantiser (`cc1_actq`): from an array of values and, per row, 128 partial maxima of
   their magnitudes, the codes and the scales — block by block, then as arrays. -/
module

public import proofs.«01_k».proof.Proof.Spec
public import proofs.«01_k».proof.Proof.Gen.KernelIdeal.Frame
public import Idealize.ShloMosaic.Lib.Pipeline.ValueKit
public import Idealize.ShloMosaic.Lib.Pointwise

@[expose] public section

noncomputable section

namespace Cert.KernelIdeal.Actq

open Cert.KernelIdeal Cert.KernelIdeal.Gen Idealize.ShloMosaic Idealize.ShloMosaic.TcCoe Idealize.SL.Sem

variable (V : (c : Dev nD) → (b : Ref sig .tc) → Buf (Elt Ideal) ((c : Thread nD τ).loc b))

/-- The values, and the partial maxima, as the region finds them. -/
abbrev M (c : Dev nD) : S1280x6656.Idx → EReal := V c (Pipeline.arrRef spec1 0)
abbrev A (c : Dev nD) : S1280x128.Idx → EReal := V c (Pipeline.arrRef spec1 1)

/-- The scale the region gives row `i`: that of the largest of its partial maxima. -/
def scale (c : Dev nD) (i : Fin 1280) : EReal := Spec.qscale (Spec.top fun l : Fin 128 => A V c (ix2 i l))

/-- One block's scales. -/
theorem pay1_apply (v0 : Vec Ideal S64x128 .f32) (i : Fin 64) (z : Fin 1) :
    k1_pay1 v0 (ix2 i z) = Spec.qscale (Spec.top fun l : Fin 128 => v0 (ix2 i l)) := by
  pointwise [k1_pay1]
  rfl

/-- The point's windows begin at row `64 t`. -/
theorem idx : ∀ t : Fin cfg1.N, win1_0.index t = ![t.val, 0] ∧ win1_1.index t = ![t.val, 0] ∧ win1_2.index t = ![t.val, 0]
    ∧ win1_3.index t = ![t.val, 0] :=
  (by decide +kernel : ∀ t : Fin grid1.N, _)

/-- THE CODES the region leaves: each value under its row's scale. -/
theorem codes (c : Dev nD) : (dat1 V c).arrAt 2 cfg1.N
    = (fun i : S1280x6656.Idx => Spec.qcode (M V c i) (scale V c (i 0)) : S1280x6656.Idx → EReal) := by
  refine (dat1 V c).arrAt_eq_of_covers 2 _ (by decide +kernel) fun t hf y => ?_
  blk_simp
  rw [after1_2]; frame_out
  pointwise [k1_pay3, pay1_apply]
  unfold Spec.qcode scale
  blk_point [iblk1, idx t]

/-- THE SCALES the region leaves, each row's the same on 128 lanes. -/
theorem scales (c : Dev nD) : (dat1 V c).arrAt 3 cfg1.N
    = (fun i : S1280x128.Idx => scale V c (i 0) : S1280x128.Idx → EReal) := by
  refine (dat1 V c).arrAt_eq_of_covers 3 _ (by decide +kernel) fun t hf y => ?_
  blk_simp
  rw [after1_3]; frame_out
  pointwise [k1_pay2, pay1_apply]
  unfold scale
  blk_point [iblk1, idx t]

end Cert.KernelIdeal.Actq

end
-- ==== Proof.Out.lean ====
/- The two result arrays of the kernel, in the arrays it was launched with: the codes and the scales of the rows of the gated
   product. -/
module

public import proofs.«01_k».proof.Proof.Lanes
public import proofs.«01_k».proof.Proof.Actq
public import Idealize.ShloMosaic.Lib.Claim

@[expose] public section

noncomputable section

namespace Cert.KernelIdeal.Out

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The arrays as launched. -/
abbrev X (c : Dev nD) : S1280x16384.Idx → EReal := m ((c.tc : Thread nD τ).loc main_arg0)
abbrev XS (c : Dev nD) : S1280x128.Idx → EReal := m ((c.tc : Thread nD τ).loc main_arg1)
abbrev WG (c : Dev nD) : S16384x6656.Idx → EReal := m ((c.tc : Thread nD τ).loc main_arg2)
abbrev SG (c : Dev nD) : S6656.Idx → EReal := m ((c.tc : Thread nD τ).loc main_arg3)
abbrev WU (c : Dev nD) : S16384x6656.Idx → EReal := m ((c.tc : Thread nD τ).loc main_arg4)
abbrev SU (c : Dev nD) : S6656.Idx → EReal := m ((c.tc : Thread nD τ).loc main_arg5)

/-- Entry (i, j) of the gated product. -/
def val (c : Dev nD) (i : Fin 1280) (j : Fin 6656) : EReal :=
  Spec.gated
    (Spec.proj (fun k => X m c (ix2 i k)) (XS m c (ix2 i 0)) (fun k => WG m c (ix2 k j)) (SG m c (ix1 j)))
    (Spec.proj (fun k => X m c (ix2 i k)) (XS m c (ix2 i 0)) (fun k => WU m c (ix2 k j)) (SU m c (ix1 j)))

theorem gate_scale (c : Dev nD) (j : Fin 6656) : Ffn.SG (V1 m ρ) c (ix2 0 j) = SG m c (ix1 j) := by
  show (V1 m ρ c main_v0 : S1x6656.Idx → EReal) (ix2 0 j) = _
  unfold_abbrev_sides
  after_results
  show shapeCast S1x6656 (SG m c : Vec Ideal S6656 .f32) shapeCasts_S6656_S1x6656 (ix2 0 j) = _
  pointwise []

theorem up_scale (c : Dev nD) (j : Fin 6656) : Ffn.SU (V1 m ρ) c (ix2 0 j) = SU m c (ix1 j) := by
  show (V1 m ρ c main_v1 : S1x6656.Idx → EReal) (ix2 0 j) = _
  unfold_abbrev_sides
  after_results
  show shapeCast S1x6656 (SU m c : Vec Ideal S6656 .f32) shapeCasts_S6656_S1x6656 (ix2 0 j) = _
  pointwise []

/-- The first region works on the arrays as launched. -/
theorem val_eq (c : Dev nD) (i : Fin 1280) (j : Fin 6656) : Ffn.val (V1 m ρ) c i j = val m c i j := by
  have hX : Ffn.X (V1 m ρ) c = X m c := W1_args m ρ c main_arg0 (by decide)
  have hXS : Ffn.XS (V1 m ρ) c = XS m c := W1_args m ρ c main_arg1 (by decide)
  have hWG : Ffn.WG (V1 m ρ) c = WG m c := W1_args m ρ c main_arg2 (by decide)
  have hWU : Ffn.WU (V1 m ρ) c = WU m c := W1_args m ρ c main_arg4 (by decide)
  unfold Ffn.val val
  rw [hX, hXS, hWG, hWU, gate_scale, up_scale]

/-- The second region reads the product the first one left. -/
theorem product (c : Dev nD) : Actq.M (V2 m ρ) c = fun i => val m c (i 0) (i 1) :=
  (W2_arr m ρ c 6).trans ((Ffn.product (V1 m ρ) c).trans (funext fun i => val_eq m ρ c (i 0) (i 1)))

theorem last : 25 < cfg0.N := by rw [show cfg0.N = 26 from N_0]; decide

/-- The second region reads the lanes the first one left. -/
theorem lanes (c : Dev nD) : Actq.A (V2 m ρ) c = (outsAt0 (V1 m ρ) c 25 last).2 :=
  (W2_arr m ρ c 7).trans (Ffn.lanes (V1 m ρ) c last)

/-- The largest of the lanes' maxima is the largest magnitude of the row: the scale is the row's. -/
theorem scale_eq (c : Dev nD) (i : Fin 1280) : Actq.scale (V2 m ρ) c i = Spec.rowScale fun j => val m c i j := by
  unfold Actq.scale Spec.rowScale
  refine congrArg Spec.qscale (eq_of_forall_ge_iff fun b => ?_)
  rw [Spec.top_le, Spec.top_le, lanes]
  have hl : ∀ l : Fin 128, ((outsAt0 (V1 m ρ) c 25 last).2 (ix2 i l) : EReal) ≤ b
      ↔ 0 ≤ b ∧ ∀ j : Fin 6656, j.val < 256 * (25 + 1) → j.val % 128 = l.val → Spec.mag (Ffn.val (V1 m ρ) c i j) ≤ b :=
    fun l => Ffn.lanes_le (V1 m ρ) c i l b 25 last
  refine (forall_congr' hl).trans ?_
  simp only [val_eq]
  constructor
  · intro h j
    exact (h ⟨j.val % 128, Nat.mod_lt _ (by decide)⟩).2 j (by have := j.isLt; omega) rfl
  · exact fun h l => ⟨(Spec.mag_nonneg _).trans (h 0), fun j _ _ => h j⟩

/-- THE CODES. -/
theorem codes (c : Dev nD) : (dat1 (V2 m ρ) c).arrAt 2 cfg1.N
    = (fun i : S1280x6656.Idx => Spec.rowCode (fun j => val m c (i 0) j) (i 1) : S1280x6656.Idx → EReal) := by
  rw [Actq.codes, product]
  funext i
  exact congrArg (Spec.qcode (val m c (i 0) (i 1))) (scale_eq m ρ c (i 0))

/-- THE SCALES, the same on 128 lanes. -/
theorem scales (c : Dev nD) : (dat1 (V2 m ρ) c).arrAt 3 cfg1.N
    = (fun i : S1280x128.Idx => Spec.rowScale fun j => val m c (i 0) j : S1280x128.Idx → EReal) := by
  rw [Actq.scales]
  funext i
  exact scale_eq m ρ c (i 0)

end Cert.KernelIdeal.Out

end
-- ==== Proof.KRun.lean ====
/- The kernel's run with its result arrays named. -/
module

public import proofs.«01_k».proof.Proof.Gen.KernelIdeal.Frame

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

-- `θ_run_regions_kit_sems`'s implicit arguments are found by unifying its conclusion with this one, which takes unfolding
-- plain definitions in a metavariable's type
set_option backward.isDefEq.respectTransparency.types false in
/-- THE RUN: every execution ends with the two result arrays as the second region leaves them and the arguments unchanged. -/
theorem run : θ_run defs (onTc (τ := τ) (main (F := F))) ⟨m, fun _ => 0, ρ⟩ (fun r => ∀ c : Dev nD,
      r.2.mem ((c.tc : Thread nD τ).loc main_v3_0) = (dat1 (V2 m ρ) c).arrAt 2 cfg1.N
      ∧ r.2.mem ((c.tc : Thread nD τ).loc main_v3_1) = (dat1 (V2 m ρ) c).arrAt 3 cfg1.N
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => fun c =>
      ⟨(h c _ (mem_uc main_v3_0 (by decide))).trans (W3_arr m ρ c 2),
       (h c _ (mem_uc main_v3_1 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Gen

end
-- ==== Proof.Ref.lean ====
/- The reference: its two result arrays are the codes and the scales of the rows of the gated product. -/
module

public import proofs.«01_k».proof.Proof.Spec
public import proofs.«01_k».proof.Proof.Gen.ReferenceIdeal.Value
public import Idealize.ShloMosaic.Lib.Pipeline.ValueKit
public import Idealize.ShloMosaic.Lib.Pointwise
public import Idealize.ShloMosaic.Lib.MatmulPlain
public import Idealize.ShloMosaic.Lib.Claim

@[expose] public section

noncomputable section

namespace Cert.ReferenceIdeal.Ref

open Cert.ReferenceIdeal Cert.ReferenceIdeal.Gen Idealize.ShloMosaic Idealize.ShloMosaic.TcCoe Idealize.SL.Sem

variable (m : (ℓ : Loc nD τ sig) → Buf (Elt Ideal) ℓ) (ρ : Dev nD → PrngReg)

/-- The arrays as launched. -/
abbrev X (c : Dev nD) : S1280x16384.Idx → EReal := m ((c.tc : Thread nD τ).loc main_arg0)
abbrev XS (c : Dev nD) : S1280x128.Idx → EReal := m ((c.tc : Thread nD τ).loc main_arg1)
abbrev WG (c : Dev nD) : S16384x6656.Idx → EReal := m ((c.tc : Thread nD τ).loc main_arg2)
abbrev SG (c : Dev nD) : S6656.Idx → EReal := m ((c.tc : Thread nD τ).loc main_arg3)
abbrev WU (c : Dev nD) : S16384x6656.Idx → EReal := m ((c.tc : Thread nD τ).loc main_arg4)
abbrev SU (c : Dev nD) : S6656.Idx → EReal := m ((c.tc : Thread nD τ).loc main_arg5)

/-- Entry (i, j) of the gated product. -/
def val (c : Dev nD) (i : Fin 1280) (j : Fin 6656) : EReal :=
  Spec.gated
    (Spec.proj (fun k => X m c (ix2 i k)) (XS m c (ix2 i 0)) (fun k => WG m c (ix2 k j)) (SG m c (ix1 j)))
    (Spec.proj (fun k => X m c (ix2 i k)) (XS m c (ix2 i 0)) (fun k => WU m c (ix2 k j)) (SU m c (ix1 j)))

theorem gate_scale (c : Dev nD) (j : Fin 6656) : (V m c main_v0 : S1x6656.Idx → EReal) (ix2 0 j) = SG m c (ix1 j) := by
  unfold_abbrev_sides
  after_results
  show shapeCast S1x6656 (SG m c : Vec Ideal S6656 .f32) shapeCasts_S6656_S1x6656 (ix2 0 j) = _
  pointwise []

theorem up_scale (c : Dev nD) (j : Fin 6656) : (V m c main_v1 : S1x6656.Idx → EReal) (ix2 0 j) = SU m c (ix1 j) := by
  unfold_abbrev_sides
  after_results
  show shapeCast S1x6656 (SU m c : Vec Ideal S6656 .f32) shapeCasts_S6656_S1x6656 (ix2 0 j) = _
  pointwise []

theorem pay2_apply (v0 : Vec Ideal S1280x16384 .fp8e4m3) (v1 : Vec Ideal S1280x1 .f32) (v2 : Vec Ideal S16384x6656 .fp8e4m3)
    (v4 : Vec Ideal S1x6656 .f32) (v10 : Vec Ideal S16384x6656 .fp8e4m3) (v12 : Vec Ideal S1x6656 .f32) (i : Fin 1280) (j : Fin 6656) :
    k0_pay2 v0 v1 v2 v4 v10 v12 (ix2 i j) = Spec.gated
      (Spec.proj (fun k => v0 (ix2 i k)) (v1 (ix2 i 0)) (fun k => v2 (ix2 k j)) (v4 (ix2 0 j)))
      (Spec.proj (fun k => v0 (ix2 i k)) (v1 (ix2 i 0)) (fun k => v10 (ix2 k j)) (v12 (ix2 0 j))) := by
  pointwise [k0_pay2]
  rfl

/-- The clipped quotient, at an index. -/
theorem clip_apply {S : Shape} (w s : FVec Ideal S .f32) (h) (x : S.Idx) :
    truncf (F := Ideal) .fp8e4m3 (minimumf (broadcast S (Scalar.ofBits .f32 0x43E00000#32)) (maximumf (broadcast S (Scalar.ofBits .f32 0xC3E00000#32))
      (divf w s))) h x = Spec.qcode (w x) (s x) := by
  pointwise []
  rfl

/-- The scale of a maximum, at an index. -/
theorem scale_apply {S : Shape} (a : FVec Ideal S .f32) (x : S.Idx) :
    select (cmpf .oeq a (broadcast S (Scalar.ofBits .f32 0x00000000#32))) (broadcast S (Scalar.ofBits .f32 0x3F800000#32))
      (divf a (broadcast S (Scalar.ofBits .f32 0x43E00000#32))) x = Spec.qscale (a x) := by
  pointwise []
  rfl

theorem col_apply (s : FVec Ideal S1280x1 .f32) (i : Fin 1280) (j : Fin 6656) :
    broadcastTo S1280x6656 s broadcasts_S1280x1_S1280x6656 (ix2 i j) = s (ix2 i 0) := by
  pointwise []

theorem top_apply (w : FVec Ideal S1280x6656 .f32) (i : Fin 1280) (z : Fin 1) :
    shapeCast S1280x1 (multiReduction .maximumf [1] S1280 (absf w) 0xFF800000#32 reduces_S1280x6656_S1280 (.inl rfl) rfl)
      shapeCasts_S1280_S1280x1 (ix2 i z) = Spec.top fun j : Fin 6656 => Spec.mag (w (ix2 i j)) := by
  pointwise []
  rfl

theorem pay3_apply (v0 : Vec Ideal S1280x16384 .fp8e4m3) (v1 : Vec Ideal S1280x1 .f32) (v2 : Vec Ideal S16384x6656 .fp8e4m3)
    (v4 : Vec Ideal S1x6656 .f32) (v10 : Vec Ideal S16384x6656 .fp8e4m3) (v12 : Vec Ideal S1x6656 .f32) (i : Fin 1280) (z : Fin 1) :
    k0_pay3 v0 v1 v2 v4 v10 v12 (ix2 i z) = Spec.rowScale fun j : Fin 6656 => k0_pay2 v0 v1 v2 v4 v10 v12 (ix2 i j) := by
  refine (scale_apply (shapeCast S1280x1 (multiReduction .maximumf [1] S1280 (absf (k0_pay2 v0 v1 v2 v4 v10 v12)) 0xFF800000#32
    reduces_S1280x6656_S1280 (.inl rfl) rfl) shapeCasts_S1280_S1280x1) (ix2 i z)).trans ?_
  rw [top_apply]
  rfl

theorem pay4_apply (v0 : Vec Ideal S1280x16384 .fp8e4m3) (v1 : Vec Ideal S1280x1 .f32) (v2 : Vec Ideal S16384x6656 .fp8e4m3)
    (v4 : Vec Ideal S1x6656 .f32) (v10 : Vec Ideal S16384x6656 .fp8e4m3) (v12 : Vec Ideal S1x6656 .f32) (i : Fin 1280) (j : Fin 6656) :
    k0_pay4 v0 v1 v2 v4 v10 v12 (ix2 i j) = Spec.rowCode (fun j : Fin 6656 => k0_pay2 v0 v1 v2 v4 v10 v12 (ix2 i j)) j := by
  refine (clip_apply (k0_pay2 v0 v1 v2 v4 v10 v12)
    (broadcastTo S1280x6656 (k0_pay3 v0 v1 v2 v4 v10 v12) broadcasts_S1280x1_S1280x6656) bitsLt_fp8e4m3_f32 (ix2 i j)).trans ?_
  rw [col_apply, pay3_apply]
  rfl

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

theorem lanes_apply (s : FVec Ideal S1280x1 .f32) (i : Fin 1280) (j : Fin 128) : k0_pay1 s (ix2 i j) = s (ix2 i 0) := by
  pointwise [k0_pay1]

/-- The body's product over the staged arrays is the gated product. -/
theorem block_val (c : Dev nD) (t : Fin cfg0.N) (i : Fin 1280) (j : Fin 6656) :
    k0_pay2 (iblk m c 0 t) (View.ld (iblk m c 1 t) r0_1) (iblk m c 2 t) (iblk m c 3 t) (iblk m c 4 t) (iblk m c 5 t) (ix2 i j)
      = val m c i j := by
  have h0 : ∀ k : Fin 16384, (iblk m c 0 t : Vec Ideal S1280x16384 .fp8e4m3) (ix2 i k) = X m c (ix2 i k) := fun k => by
    blk_point [iblk, idx t]
  have h1' : ∀ y : S1280x128.Idx, (iblk m c 1 t : Vec Ideal S1280x128 .f32) y = XS m c y := fun y => by
    blk_point [iblk, idx t]
  have h1 : View.ld (iblk m c 1 t : Vec Ideal S1280x128 .f32) r0_1 (ix2 i 0) = XS m c (ix2 i 0) :=
    (View.ld_unit_apply_of _ _ _ _ _ (ix2 i 0) (fun a => by
      match a with
      | 0 => exact (Nat.zero_add _).symm
      | 1 => exact (Nat.zero_add _).symm)).trans (h1' _)
  have h2 : ∀ k : Fin 16384, (iblk m c 2 t : Vec Ideal S16384x6656 .fp8e4m3) (ix2 k j) = WG m c (ix2 k j) := fun k => by
    blk_point [iblk, idx t]
  have h3' : (iblk m c 3 t : Vec Ideal S1x6656 .f32) (ix2 0 j) = (V m c main_v0 : S1x6656.Idx → EReal) (ix2 0 j) := by
    blk_point [iblk, idx t]
  have h4 : ∀ k : Fin 16384, (iblk m c 4 t : Vec Ideal S16384x6656 .fp8e4m3) (ix2 k j) = WU m c (ix2 k j) := fun k => by
    blk_point [iblk, idx t]
  have h5' : (iblk m c 5 t : Vec Ideal S1x6656 .f32) (ix2 0 j) = (V m c main_v1 : S1x6656.Idx → EReal) (ix2 0 j) := by
    blk_point [iblk, idx t]
  refine (pay2_apply _ _ _ _ _ _ i j).trans ?_
  exact congrArg₂ Spec.gated (Spec.proj_congr h0 h1 h2 (h3'.trans (gate_scale m c j)))
    (Spec.proj_congr h0 h1 h4 (h5'.trans (up_scale m c j)))

/-- THE CODES. -/
theorem codes (c : Dev nD) : (dats m 0 c).arrAt 6 cfg0.N
    = (fun i : S1280x6656.Idx => Spec.rowCode (fun j => val m c (i 0) j) (i 1) : S1280x6656.Idx → EReal) := by
  refine (dats m 0 c).arrAt_eq_of_covers 6 _ (by decide +kernel) fun t hf y => ?_
  have e : ((cfg0.win 6).blk t).view.emb y = (y : S1280x6656.Idx) := by
    funext a
    apply Fin.ext
    match a with
    | 0 => blk_simp; blk_point [idx t]
    | 1 => blk_simp; blk_point [idx t]
  rw [e]
  blk_simp
  rw [after0_6]; frame_out
  obtain ⟨i, j, rfl⟩ : ∃ i : Fin 1280, ∃ j : Fin 6656, y = ix2 i j := ⟨y 0, y 1, eq_ix2 y⟩
  refine (pay4_apply _ _ _ _ _ _ i j).trans ?_
  exact congrArg (fun f => Spec.rowCode f j) (funext fun k => block_val m c t i k)

/-- THE SCALES, the same on 128 lanes. -/
theorem scales (c : Dev nD) : (dats m 0 c).arrAt 7 cfg0.N
    = (fun i : S1280x128.Idx => Spec.rowScale fun j => val m c (i 0) j : S1280x128.Idx → EReal) := by
  refine (dats m 0 c).arrAt_eq_of_covers 7 _ (by decide +kernel) fun t hf y => ?_
  have e : ((cfg0.win 7).blk t).view.emb y = (y : S1280x128.Idx) := by
    funext a
    apply Fin.ext
    match a with
    | 0 => blk_simp; blk_point [idx t]
    | 1 => blk_simp; blk_point [idx t]
  rw [e]
  blk_simp
  rw [after0_7]; frame_out
  obtain ⟨i, j, rfl⟩ : ∃ i : Fin 1280, ∃ j : Fin 128, y = ix2 i j := ⟨y 0, y 1, eq_ix2 y⟩
  refine (lanes_apply _ i j).trans ((pay3_apply _ _ _ _ _ _ i 0).trans ?_)
  exact congrArg Spec.rowScale (funext fun k => block_val m c t i k)

end Cert.ReferenceIdeal.Ref

end
-- ==== Proof.Value.lean ====
/- The equation: launched on equal arguments, the kernel and the reference end with equal results. -/
module

public import proofs.«01_k».proof.Defs
public import proofs.«01_k».proof.Proof.Out
public import proofs.«01_k».proof.Proof.KRun
public import proofs.«01_k».proof.Proof.Ref

@[expose] public section

noncomputable section

namespace Cert.Proof

open Idealize.ShloMosaic Idealize.ShloMosaic.TcCoe Idealize.SL.Sem

/-- Over the extended reals the kernel's codes and scales of the gated product are the reference's. -/
theorem algebraic : @Cert.algebraic_KernelIdeal_ReferenceIdeal Cert.KernelIdeal.Gen.facts Cert.ReferenceIdeal.Gen.facts := by
  intro m g m' g' _ h
  have hv : ∀ (c : Dev Cert.KernelIdeal.nD) (i : Fin 1280) (j : Fin 6656),
      Cert.ReferenceIdeal.Ref.val m' c i j = Cert.KernelIdeal.Out.val m c i j := fun c i j => by
    obtain ⟨h0, h1, h2, h3, h4, h5⟩ := h c
    have e0 : Cert.ReferenceIdeal.Ref.X m' c = Cert.KernelIdeal.Out.X m c := h0
    have e1 : Cert.ReferenceIdeal.Ref.XS m' c = Cert.KernelIdeal.Out.XS m c := h1
    have e2 : Cert.ReferenceIdeal.Ref.WG m' c = Cert.KernelIdeal.Out.WG m c := h2
    have e3 : Cert.ReferenceIdeal.Ref.SG m' c = Cert.KernelIdeal.Out.SG m c := h3
    have e4 : Cert.ReferenceIdeal.Ref.WU m' c = Cert.KernelIdeal.Out.WU m c := h4
    have e5 : Cert.ReferenceIdeal.Ref.SU m' c = Cert.KernelIdeal.Out.SU m c := h5
    unfold Cert.ReferenceIdeal.Ref.val Cert.KernelIdeal.Out.val
    rw [e0, e1, e2, e3, e4, e5]
  refine ⟨fun c => (fun i => Spec.rowCode (fun j => Cert.KernelIdeal.Out.val m c (i 0) j) (i 1) :
      Cert.KernelIdeal.S1280x6656.Idx → EReal),
    fun c => (fun i => Spec.rowScale fun j => Cert.KernelIdeal.Out.val m c (i 0) j : Cert.KernelIdeal.S1280x128.Idx → EReal),
    (θ_run _ _ _).mono (fun r hr c => ?_) (Cert.KernelIdeal.Gen.run (F := Ideal) m g),
    (θ_run _ _ _).mono (fun r hr c => ?_) (Cert.ReferenceIdeal.Value.run_blocks (F := Ideal) m' g')⟩
  · exact ⟨(hr c).1.trans (Cert.KernelIdeal.Out.codes m g c), (hr c).2.1.trans (Cert.KernelIdeal.Out.scales m g c), (hr c).2.2⟩
  · refine ⟨(hr c).1.trans ((Cert.ReferenceIdeal.Ref.codes m' c).trans ?_),
      (hr c).2.1.trans ((Cert.ReferenceIdeal.Ref.scales m' c).trans ?_), (hr c).2.2⟩
    · exact funext fun i => congrArg (fun f => Spec.rowCode f (i 1)) (funext fun j => hv c (i 0) j)
    · exact funext fun i => congrArg Spec.rowScale (funext fun j => hv c (i 0) j)

end Cert.Proof

end
-- ==== Proof.DownFrame.lean ====
/- The second kernel's frame at any element values: the body runs to its end whatever its two output buffers hold, so the
   program ends with its argument arrays unchanged. Nothing is said of what the outputs hold. -/
module

public import proofs.«01_k».proof.Proof.Gen.Down.Frame
public import proofs.«01_k».proof.Proof.Gen.Down.Skeleton
public import Idealize.ShloMosaic.Lib.Claim

@[expose] public section

set_option maxRecDepth 16384

noncomputable section

namespace Cert.Down.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .vmem S1280x6656 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6656x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1280x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1280x128 .f32 := win0_5.stage (cfg0.slots t 5)
abbrev hs0_5 (t : Fin cfg0.N) : (ms0_5 t).IsWhole := hstage0_5 ((cfg0.slots t 5).cast nbuf0_5)

/-- The argument arrays end unchanged, from a run that says of each output only what a relation allows. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c)⟩) h

-- (the run's proof term is large: checking it walks past the default budget)
set_option maxHeartbeats 1000000 in
/-- The body runs from its inputs at their contents and its outputs at any, and leaves the inputs as they were. -/
theorem kernelRun0_A (c : Dev nD) (i : grid0.Coords) (arg1 : Memref sig .tc .vmem S1280x6656 .fp8e4m3) (harg1 : arg1.IsWhole) (arg2 : Memref sig .tc .vmem S1280x128 .f32) (harg2 : arg2.IsWhole) (arg3 : Memref sig .tc .vmem S6656x512 .fp8e4m3) (harg3 : arg3.IsWhole) (arg4 : Memref sig .tc .vmem S1x512 .f32) (harg4 : arg4.IsWhole) (arg5 : Memref sig .tc .vmem S1280x512 .fp8e4m3) (harg5 : arg5.IsWhole) (arg6 : Memref sig .tc .vmem S1280x128 .f32) (harg6 : arg6.IsWhole)
    (x0 : Vec F S1280x6656 .fp8e4m3) (x1 : Vec F S1280x128 .f32) (x2 : Vec F S6656x512 .fp8e4m3) (x3 : Vec F S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)) -∗ K ⟨⟩))
          ⊢ wp frame (wpE (defs₀ (F := F)) Variants.none c none) E (cc0_down i arg1 harg1 arg2 harg2 arg3 harg3 arg4 harg4 arg5 harg5 arg6 harg6) K := by
    intro E K
    simp only [cc0_down_eq_skeleton]; unfold cc0_down_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    iexists _, _; isplitr; swap; · iexact H5
    ipureintro; rfl

/-! ## The pipeline's proof data -/

/-- The output windows, of which nothing is said. -/
def forgets0 : Fin 6 → Bool := fun w => w.val == 4 || w.val == 5

/-- The proof data of the one pipeline on core `c`: the arrays as the region finds them (`V`); after the body at
    point `t` each input's buffer at its block and the outputs, FORGOTTEN, at `Dat.unnamed`; the invariant the class's
   ; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d))

/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_rel m ρ (fun c => (dats m 0 c).toRForget forgets0) (A_eq m) (run_main m ρ)

/-- THE FRAME, with every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Down.Gen

end
-- ==== Proof.DownRun.lean ====
/- The run of the second kernel's body at one grid point: from the inputs' contents and what the scales' buffer holds, the
   pieces that the body stores into the codes' buffer and into the scales' buffer. -/
module

public import proofs.«01_k».proof.Proof.Gen.DownIdeal.Frame
public import proofs.«01_k».proof.Proof.Gen.DownIdeal.Skeleton
public import Idealize.ShloMosaic.Lib.Pipeline.ValueKit

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run, and the pieces it stores. -/
noncomputable def kernelRun0 (c : Dev nD) (i : grid0.Coords) (arg1 : Memref sig .tc .vmem S1280x6656 .fp8e4m3) (harg1 : arg1.IsWhole) (arg2 : Memref sig .tc .vmem S1280x128 .f32) (harg2 : arg2.IsWhole) (arg3 : Memref sig .tc .vmem S6656x512 .fp8e4m3) (harg3 : arg3.IsWhole) (arg4 : Memref sig .tc .vmem S1x512 .f32) (harg4 : arg4.IsWhole)
    (arg5 : Memref sig .tc .vmem S1280x512 .fp8e4m3) (harg5 : arg5.IsWhole) (arg6 : Memref sig .tc .vmem S1280x128 .f32) (harg6 : arg6.IsWhole)
    (x0 : Vec F S1280x6656 .fp8e4m3) (x1 : Vec F S1280x128 .f32) (x2 : Vec F S6656x512 .fp8e4m3) (x3 : Vec F S1x512 .f32) (xo : Vec F S1280x128 .f32) :
    Σ' (L4 : List (View.Piece (Elt F) S1280x512 .fp8e4m3)), { L5 : List (View.Piece (Elt F) S1280x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xo
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc0_down i arg1 harg1 arg2 harg2 arg3 harg3 arg4 harg4 arg5 harg5 arg6 harg6) K } := by
  refine ⟨?_, ?_, fun E K => ?run⟩
  case run =>
    simp only [cc0_down_eq_skeleton]; unfold cc0_down_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg1.eq_unread hf0; obtain rfl := harg2.eq_unread hf1; obtain rfl := harg3.eq_unread hf2; obtain rfl := harg4.eq_unread hf3; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H5

/-- The codes' pieces cover their buffer. -/
theorem cover0_4 (c : Dev nD) (i : grid0.Coords) (arg1 : Memref sig .tc .vmem S1280x6656 .fp8e4m3) (harg1 : arg1.IsWhole) (arg2 : Memref sig .tc .vmem S1280x128 .f32) (harg2 : arg2.IsWhole) (arg3 : Memref sig .tc .vmem S6656x512 .fp8e4m3) (harg3 : arg3.IsWhole) (arg4 : Memref sig .tc .vmem S1x512 .f32) (harg4 : arg4.IsWhole)
    (arg5 : Memref sig .tc .vmem S1280x512 .fp8e4m3) (harg5 : arg5.IsWhole) (arg6 : Memref sig .tc .vmem S1280x128 .f32) (harg6 : arg6.IsWhole)
    (x0 : Vec F S1280x6656 .fp8e4m3) (x1 : Vec F S1280x128 .f32) (x2 : Vec F S6656x512 .fp8e4m3) (x3 : Vec F S1x512 .f32) (xo : Vec F S1280x128 .f32) (y : S1280x512.Idx) :
    ∃ pc ∈ (kernelRun0 c i arg1 harg1 arg2 harg2 arg3 harg3 arg4 harg4 arg5 harg5 arg6 harg6 x0 x1 x2 x3 xo).1, y ∈ pc.1.set :=
  View.cover_of_tiledL (kernelRun0 c i arg1 harg1 arg2 harg2 arg3 harg3 arg4 harg4 arg5 harg5 arg6 harg6 x0 x1 x2 x3 xo).1 S640x128.size (by sl_kernel_rfl) y

/-- The scales' pieces cover theirs. -/
theorem cover0_5 (c : Dev nD) (i : grid0.Coords) (arg1 : Memref sig .tc .vmem S1280x6656 .fp8e4m3) (harg1 : arg1.IsWhole) (arg2 : Memref sig .tc .vmem S1280x128 .f32) (harg2 : arg2.IsWhole) (arg3 : Memref sig .tc .vmem S6656x512 .fp8e4m3) (harg3 : arg3.IsWhole) (arg4 : Memref sig .tc .vmem S1x512 .f32) (harg4 : arg4.IsWhole)
    (arg5 : Memref sig .tc .vmem S1280x512 .fp8e4m3) (harg5 : arg5.IsWhole) (arg6 : Memref sig .tc .vmem S1280x128 .f32) (harg6 : arg6.IsWhole)
    (x0 : Vec F S1280x6656 .fp8e4m3) (x1 : Vec F S1280x128 .f32) (x2 : Vec F S6656x512 .fp8e4m3) (x3 : Vec F S1x512 .f32) (xo : Vec F S1280x128 .f32) (y : S1280x128.Idx) :
    ∃ pc ∈ (kernelRun0 c i arg1 harg1 arg2 harg2 arg3 harg3 arg4 harg4 arg5 harg5 arg6 harg6 x0 x1 x2 x3 xo).2.1, y ∈ pc.1.set :=
  View.cover_of_tiledL (kernelRun0 c i arg1 harg1 arg2 harg2 arg3 harg3 arg4 harg4 arg5 harg5 arg6 harg6 x0 x1 x2 x3 xo).2.1 S640x128.size (by sl_kernel_rfl) y

end Cert.DownIdeal.Gen

end
-- ==== Proof.DownTile.lean ====
/- What the second kernel's body stores, at an index: the product of its tiles, the quantiser of each 128 columns of it, and
   the selection that puts a group's scales on that group's lane. -/
module

public import proofs.«01_k».proof.Proof.Spec
public import proofs.«01_k».proof.Proof.Gen.DownIdeal.Frame
public import proofs.«01_k».proof.Proof.Gen.DownIdeal.Skeleton
public import Idealize.ShloMosaic.Lib.Pipeline.ValueKit
public import Idealize.ShloMosaic.Lib.Pointwise
public import Idealize.ShloMosaic.Lib.MatmulPlain

@[expose] public section

noncomputable section

namespace Cert.DownIdeal.Tile

open Cert.DownIdeal Cert.DownIdeal.Gen Idealize.ShloMosaic Idealize.ShloMosaic.TcCoe Idealize.SL.Sem

/-- The product of one half's tiles, put back at its scales. -/
theorem pay5_apply (v1 : Vec Ideal S640x6656 .fp8e4m3) (v2 : Vec Ideal S6656x512 .fp8e4m3) (v4 : Vec Ideal S640x1 .f32)
    (v5 : Vec Ideal S1x512 .f32) (i : Fin 640) (j : Fin 512) :
    k0_pay5 v1 v2 v4 v5 (ix2 i j)
      = Spec.proj (fun k => v1 (ix2 i k)) (v4 (ix2 i 0)) (fun k => v2 (ix2 k j)) (v5 (ix2 0 j)) := by
  pointwise [k0_pay5]
  rfl

/-- The scales of the rows of 128 columns. -/
def cscale (q : FVec Ideal S640x128 .f32) : FVec Ideal S640x1 .f32 :=
  let a : FVec Ideal S640x1 .f32 := shapeCast S640x1 (multiReduction .maximumf [1] S640 (absf q) 0xFF800000#32
    reduces_S640x128_S640 (.inl rfl) rfl) shapeCasts_S640_S640x1
  select (cmpf .oeq a (broadcast S640x1 (Scalar.ofBits .f32 0x00000000#32))) (broadcast S640x1 (Scalar.ofBits .f32 0x3F800000#32))
    (divf a (broadcast S640x1 (Scalar.ofBits .f32 0x43E00000#32)))

theorem cscale_apply (q : FVec Ideal S640x128 .f32) (i : Fin 640) (z : Fin 1) :
    cscale q (ix2 i z) = Spec.rowScale fun l : Fin 128 => q (ix2 i l) := by
  pointwise [cscale]
  rfl

/-- The codes of 128 columns. -/
def ccode (q : FVec Ideal S640x128 .f32) : FVec Ideal S640x128 .fp8e4m3 :=
  truncf .fp8e4m3 (minimumf (broadcast S640x128 (Scalar.ofBits .f32 0x43E00000#32))
    (maximumf (broadcast S640x128 (Scalar.ofBits .f32 0xC3E00000#32))
      (divf q (broadcastTo S640x128 (cscale q) broadcasts_S640x1_S640x128)))) bitsLt_fp8e4m3_f32

theorem ccode_apply (q : FVec Ideal S640x128 .f32) (i : Fin 640) (l : Fin 128) :
    ccode q (ix2 i l) = Spec.rowCode (fun l : Fin 128 => q (ix2 i l)) l := by
  pointwise [ccode, cscale_apply]
  rfl

/-- The four groups of 128 columns. -/
def chunk (p : FVec Ideal S640x512 .f32) : Fin 4 → FVec Ideal S640x128 .f32
  | 0 => extractStridedSlice S640x128 ![0, 0] p slices_S640x512_o0_0_S640x128
  | 1 => extractStridedSlice S640x128 ![0, 128] p slices_S640x512_o0_128_S640x128
  | 2 => extractStridedSlice S640x128 ![0, 256] p slices_S640x512_o0_256_S640x128
  | 3 => extractStridedSlice S640x128 ![0, 384] p slices_S640x512_o0_384_S640x128

theorem chunk_apply (p : FVec Ideal S640x512 .f32) (g : Fin 4) (i : Fin 640) (l : Fin 128) :
    chunk p g (ix2 i l) = p (ix2 i ⟨128 * g.val + l.val, by omega⟩) := by
  match g with
  | 0 => show extractStridedSlice S640x128 ![0, 0] p slices_S640x512_o0_0_S640x128 (ix2 i l) = _
         pointwise []
  | 1 => show extractStridedSlice S640x128 ![0, 128] p slices_S640x512_o0_128_S640x128 (ix2 i l) = _
         pointwise []
  | 2 => show extractStridedSlice S640x128 ![0, 256] p slices_S640x512_o0_256_S640x128 (ix2 i l) = _
         pointwise []
  | 3 => show extractStridedSlice S640x128 ![0, 384] p slices_S640x512_o0_384_S640x128 (ix2 i l) = _
         pointwise []

/-- A column of scales put on lane `4 t + k`, the other lanes kept. -/
def put (t k : BitVec 32) (s : FVec Ideal S640x1 .f32) (w : FVec Ideal S640x128 .f32) : FVec Ideal S640x128 .f32 :=
  select (cmpi .eq (iota .tc S640x128 32 [1] iota_S640x128_d1_w32) (broadcast S640x128 (Scalar.addi (Scalar.muli t 4#32) k)))
    (broadcastTo S640x128 (shapeCast S640x1 s shapeCasts_S640x1_S640x1) broadcasts_S640x1_S640x128) w

theorem put_apply (t k : ℕ) (ht : t < 32) (hk : k < 4) (s : FVec Ideal S640x1 .f32) (w : FVec Ideal S640x128 .f32) (i : Fin 640) (l : Fin 128) :
    put (BitVec.ofNat 32 t) (BitVec.ofNat 32 k) s w (ix2 i l) = if l.val = 4 * t + k then s (ix2 i 0) else w (ix2 i l) := by
  pointwise [put]
  have hb : Scalar.addi (Scalar.muli (BitVec.ofNat 32 t) 4#32) (BitVec.ofNat 32 k) = BitVec.ofNat 32 (4 * t + k) := by
    apply BitVec.eq_of_toNat_eq
    simp only [Scalar.addi, Scalar.muli, IntOp.addi, IntOp.muli, BitVec.toNat_add, BitVec.toNat_mul, BitVec.toNat_ofNat]
    omega
  rw [hb]
  have hl := l.isLt
  by_cases h : l.val = 4 * t + k
  · rw [if_pos h, h]
    simp [Scalar.select, IntOp.cmpi]
  · have hne : BitVec.ofNat 32 l.val ≠ BitVec.ofNat 32 (4 * t + k) := fun e => h (by
      have := congrArg BitVec.toNat e
      simp only [BitVec.toNat_ofNat] at this
      omega)
    rw [if_neg h]
    unfold Scalar.select IntOp.cmpi
    dsimp only
    rw [beq_false_of_ne hne, if_neg (by decide)]

/-- The lanes after the four groups. -/
def lanes (t : BitVec 32) (p : FVec Ideal S640x512 .f32) (w : FVec Ideal S640x128 .f32) : FVec Ideal S640x128 .f32 :=
  put t 3#32 (cscale (chunk p 3)) (put t 2#32 (cscale (chunk p 2)) (put t 1#32 (cscale (chunk p 1)) (put t 0#32 (cscale (chunk p 0))
    (shapeCast S640x128 w shapeCasts_S640x128_S640x128))))

theorem cast_apply (w : FVec Ideal S640x128 .f32) (x : S640x128.Idx) : shapeCast S640x128 w shapeCasts_S640x128_S640x128 x = w x := by
  pointwise []

theorem lanes_new (t : ℕ) (ht : t < 32) (p : FVec Ideal S640x512 .f32) (w : FVec Ideal S640x128 .f32) (i : Fin 640) (l : Fin 128)
    (g : Fin 4) (h : l.val = 4 * t + g.val) :
    lanes (BitVec.ofNat 32 t) p w (ix2 i l) = Spec.rowScale fun k : Fin 128 => chunk p g (ix2 i k) := by
  have e := fun k hk => put_apply t k ht hk
  unfold lanes
  rw [e 3 (by omega), e 2 (by omega), e 1 (by omega), e 0 (by omega), cscale_apply, cscale_apply, cscale_apply, cscale_apply]
  match g, h with
  | 0, h => rw [if_neg (by simp at h; omega), if_neg (by simp at h; omega), if_neg (by simp at h; omega), if_pos (by simpa using h)]
  | 1, h => rw [if_neg (by simp at h; omega), if_neg (by simp at h; omega), if_pos (by simpa using h)]
  | 2, h => rw [if_neg (by simp at h; omega), if_pos (by simpa using h)]
  | 3, h => rw [if_pos (by simpa using h)]

theorem lanes_old (t : ℕ) (ht : t < 32) (p : FVec Ideal S640x512 .f32) (w : FVec Ideal S640x128 .f32) (i : Fin 640) (l : Fin 128)
    (h : l.val < 4 * t) : lanes (BitVec.ofNat 32 t) p w (ix2 i l) = w (ix2 i l) := by
  have e := fun k hk => put_apply t k ht hk
  unfold lanes
  rw [e 3 (by omega), e 2 (by omega), e 1 (by omega), e 0 (by omega), if_neg (by omega), if_neg (by omega), if_neg (by omega),
    if_neg (by omega), cast_apply]

section eqs

variable (v1 : Vec Ideal S640x6656 .fp8e4m3) (v2 : Vec Ideal S6656x512 .fp8e4m3) (v4 : Vec Ideal S640x1 .f32) (v5 : Vec Ideal S1x512 .f32)
  (p : FVec Ideal S640x512 .f32)

theorem pay9_eq : k0_pay9 v1 v2 v4 v5 = ccode (chunk (k0_pay5 v1 v2 v4 v5) 0) := rfl
theorem pay14_eq : k0_pay14 p = ccode (chunk p 1) := rfl
theorem pay18_eq : k0_pay18 p = ccode (chunk p 2) := rfl
theorem pay21_eq : k0_pay21 p = ccode (chunk p 3) := rfl
theorem pay23_eq : k0_pay23 v1 v2 (constant S640x512 FTy.f32 0#32) v4 v5 = k0_pay5 v1 v2 v4 v5 := rfl
theorem pay26_eq : k0_pay26 v1 v2 (constant S640x512 FTy.f32 0#32) v4 v5 = ccode (chunk (k0_pay5 v1 v2 v4 v5) 0) := rfl
theorem pay32_eq : k0_pay32 (k0_pay28 v1 v2 (constant S640x512 FTy.f32 0#32) v4 v5) (k0_pay29 v1 v2 (constant S640x512 FTy.f32 0#32) v4 v5)
    (k0_pay30 v1 v2 (constant S640x512 FTy.f32 0#32) v4 v5) = ccode (chunk (k0_pay5 v1 v2 v4 v5) 1) := rfl
theorem pay36_eq : k0_pay36 p = ccode (chunk p 2) := rfl
theorem pay3_eq : k0_pay3 p = ccode (chunk p 3) := rfl

/-- The first half's lanes. -/
theorem pay22_eq (i : grid0.Coords) (w : Vec Ideal S640x128 .f32) :
    k0_pay22 (BitVec.ofNat 32 (i 0).val) (iota Kind.tc S640x128 32 [1] iota_S640x128_d1_w32) (k0_pay5 v1 v2 v4 v5)
      (k0_pay15 (BitVec.ofNat 32 (i 0).val) (iota Kind.tc S640x128 32 [1] iota_S640x128_d1_w32) (k0_pay5 v1 v2 v4 v5) (k0_pay6 w) (k0_pay10 i)
        (k0_pay11 v1 v2 v4 v5)) (k0_pay17 (k0_pay5 v1 v2 v4 v5))
      = lanes (BitVec.ofNat 32 (i 0).val) (k0_pay5 v1 v2 v4 v5) w := rfl

/-- The second half's lanes. -/
theorem pay4_eq (t : BitVec 32) (w : Vec Ideal S640x128 .f32) :
    k0_pay4 t (iota Kind.tc S640x128 32 [1] iota_S640x128_d1_w32) (k0_pay23 v1 v2 (constant S640x512 FTy.f32 0#32) v4 v5)
      (k0_pay33 t (iota Kind.tc S640x128 32 [1] iota_S640x128_d1_w32)
        (k0_pay27 t (iota Kind.tc S640x128 32 [1] iota_S640x128_d1_w32) v1 v2 (constant S640x512 FTy.f32 0#32) v4 v5 w)
        (k0_pay29 v1 v2 (constant S640x512 FTy.f32 0#32) v4 v5) (k0_pay30 v1 v2 (constant S640x512 FTy.f32 0#32) v4 v5))
      (k0_pay35 (k0_pay23 v1 v2 (constant S640x512 FTy.f32 0#32) v4 v5)) (k0_pay37 t)
      = lanes t (k0_pay5 v1 v2 v4 v5) w := rfl

end eqs

end Cert.DownIdeal.Tile

end
-- ==== Proof.DownVal.lean ====
/- The second kernel's point, in the arrays' own indices: what its body stores of the codes, and of the scales over what it
   found there. -/
module

public import proofs.«01_k».proof.Proof.DownRun
public import proofs.«01_k».proof.Proof.DownTile

@[expose] public section

set_option maxRecDepth 16384

noncomputable section

namespace Cert.DownIdeal.Val

open Cert.DownIdeal Cert.DownIdeal.Gen Cert.DownIdeal.Tile Idealize.ShloMosaic Idealize.ShloMosaic.TcCoe Idealize.SL.Sem

variable (m : (ℓ : Loc nD τ sig) → Buf (Elt Ideal) ℓ)

/-- The arrays as launched. -/
abbrev X (c : Dev nD) : S1280x6656.Idx → EReal := m ((c.tc : Thread nD τ).loc main_arg0)
abbrev XS (c : Dev nD) : S1280x128.Idx → EReal := m ((c.tc : Thread nD τ).loc main_arg1)
abbrev W (c : Dev nD) : S6656x16384.Idx → EReal := m ((c.tc : Thread nD τ).loc main_arg2)
abbrev SW (c : Dev nD) : S16384.Idx → EReal := m ((c.tc : Thread nD τ).loc main_arg3)

/-- Entry (i, j) of the product. -/
def val (c : Dev nD) (i : Fin 1280) (j : Fin 16384) : EReal :=
  Spec.proj (fun k => X m c (ix2 i k)) (XS m c (ix2 i 0)) (fun k => W m c (ix2 k j)) (SW m c (ix1 j))

/-- The scale of group `g` of row `i`: that of its 128 columns. -/
def scale (c : Dev nD) (i : Fin 1280) (g : Fin 128) : EReal :=
  Spec.rowScale fun k : Fin 128 => val m c i ⟨128 * g.val + k.val, by omega⟩

/-- The code of entry (i, j), in its group of 128 columns. -/
def code (c : Dev nD) (i : Fin 1280) (j : Fin 16384) : EReal :=
  Spec.rowCode (fun k : Fin 128 => val m c i ⟨128 * (j.val / 128) + k.val, by omega⟩) ⟨j.val % 128, by omega⟩

theorem idx : ∀ t : Fin cfg0.N, win0_0.index t = ![0, 0] ∧ win0_1.index t = ![0, 0] ∧ win0_2.index t = ![0, t.val]
    ∧ win0_3.index t = ![0, t.val] ∧ win0_4.index t = ![0, t.val] ∧ win0_5.index t = ![0, 0] :=
  (by decide +kernel : ∀ t : Fin grid0.N, _)

theorem coords_val : ∀ t : Fin cfg0.N, (cfg0.grid.coords t 0).val = t.val :=
  (by decide +kernel : ∀ t : Fin grid0.N, (grid0.coords t 0).val = t.val)

theorem lt32 (t : Fin cfg0.N) : t.val < 32 := t.isLt

/-- Column `b` of point `t`'s tile. -/
def col (t : Fin cfg0.N) (b : ℕ) (hb : b < 512) : Fin 16384 := ⟨512 * t.val + b, by have := lt32 t; omega⟩

theorem scale_row (c : Dev nD) (j : Fin 16384) : (V m c main_v0 : S1x16384.Idx → EReal) (ix2 0 j) = SW m c (ix1 j) := by
  unfold_abbrev_sides
  after_results
  show shapeCast S1x16384 (SW m c : Vec Ideal S16384 .f32) shapeCasts_S16384_S1x16384 (ix2 0 j) = _
  pointwise []

/-- One half's product at a point is the product at its rows and columns. -/
theorem block_val (c : Dev nD) (t : Fin cfg0.N) (o : ℕ) (inb inb') (i : Fin 640) (j : Fin 512) (r : Fin 1280) (hr : r.val = o + i.val) :
    k0_pay5 (View.ld (iblk m c 0 t) (Rect.unit ![o, 0] ![640, 6656] inb)) (iblk m c 2 t)
      (View.ld (iblk m c 1 t) (Rect.unit ![o, 0] ![640, 1] inb')) (iblk m c 3 t) (ix2 i j) = val m c r (col t j.val j.isLt) := by
  have h0' : ∀ y : S1280x6656.Idx, (iblk m c 0 t : Vec Ideal S1280x6656 .fp8e4m3) y = X m c y := fun y => by
    blk_point [iblk, idx t]
  have h0 : ∀ k : Fin 6656, View.ld (iblk m c 0 t : Vec Ideal S1280x6656 .fp8e4m3) (Rect.unit ![o, 0] ![640, 6656] inb) (ix2 i k) = X m c (ix2 r k) := fun k =>
    (View.ld_unit_apply_of _ _ _ inb _ (ix2 r k) (fun a => by match a with | 0 => exact hr | 1 => exact (Nat.zero_add _).symm)).trans (h0' _)
  have h1' : ∀ y : S1280x128.Idx, (iblk m c 1 t : Vec Ideal S1280x128 .f32) y = XS m c y := fun y => by
    blk_point [iblk, idx t]
  have h1 : View.ld (iblk m c 1 t : Vec Ideal S1280x128 .f32) (Rect.unit ![o, 0] ![640, 1] inb') (ix2 i 0) = XS m c (ix2 r 0) :=
    (View.ld_unit_apply_of _ _ _ inb' _ (ix2 r 0) (fun a => by match a with | 0 => exact hr | 1 => exact (Nat.zero_add _).symm)).trans (h1' _)
  have h2 : ∀ k : Fin 6656, (iblk m c 2 t : Vec Ideal S6656x512 .fp8e4m3) (ix2 k j) = W m c (ix2 k (col t j.val j.isLt)) := fun k => by
    blk_point [iblk, idx t]
    show t.val * 512 + j.val = 512 * t.val + j.val
    omega
  have h3' : (iblk m c 3 t : Vec Ideal S1x512 .f32) (ix2 0 j) = (V m c main_v0 : S1x16384.Idx → EReal) (ix2 0 (col t j.val j.isLt)) := by
    blk_point [iblk, idx t]
    show t.val * 512 + j.val = 512 * t.val + j.val
    omega
  exact (pay5_apply _ _ _ _ i j).trans (Spec.proj_congr h0 h1 h2 (h3'.trans (scale_row m c _)))

/-- One of the eight code tiles. -/
theorem code_tile (c : Dev nD) (t : Fin cfg0.N) (o : ℕ) (inb inb') (g : Fin 4) (x : S640x128.Idx) (r : Fin 1280) (j : Fin 16384)
    (hr : r.val = o + (x 0).val) (hj : j.val = 512 * t.val + (128 * g.val + (x 1).val)) :
    ccode (chunk (k0_pay5 (View.ld (iblk m c 0 t) (Rect.unit ![o, 0] ![640, 6656] inb)) (iblk m c 2 t)
      (View.ld (iblk m c 1 t) (Rect.unit ![o, 0] ![640, 1] inb')) (iblk m c 3 t)) g) x = code m c r j := by
  obtain ⟨i, l, rfl⟩ : ∃ i : Fin 640, ∃ l : Fin 128, x = ix2 i l := ⟨x 0, x 1, eq_ix2 x⟩
  change r.val = o + i.val at hr
  change j.val = 512 * t.val + (128 * g.val + l.val) at hj
  rw [ccode_apply]
  unfold code
  have hl : l = ⟨j.val % 128, by omega⟩ := Fin.ext (by show l.val = j.val % 128; omega)
  rw [← hl]
  refine congrArg (fun f => Spec.rowCode f l) (funext fun k => ?_)
  rw [chunk_apply, block_val m c t o inb inb' i _ r hr]
  exact congrArg (val m c r) (Fin.ext (by show 512 * t.val + (128 * g.val + k.val) = 128 * (j.val / 128) + k.val; omega))

/-- The scales of one of a half's groups. -/
theorem scale_group (c : Dev nD) (t : Fin cfg0.N) (o : ℕ) (inb inb') (g : Fin 4) (i : Fin 640) (r : Fin 1280) (l : Fin 128)
    (hr : r.val = o + i.val) (hl : l.val = 4 * t.val + g.val) :
    (Spec.rowScale fun k : Fin 128 => chunk (k0_pay5 (View.ld (iblk m c 0 t) (Rect.unit ![o, 0] ![640, 6656] inb)) (iblk m c 2 t)
      (View.ld (iblk m c 1 t) (Rect.unit ![o, 0] ![640, 1] inb')) (iblk m c 3 t)) g (ix2 i k)) = scale m c r l := by
  unfold scale
  refine congrArg Spec.rowScale (funext fun k => ?_)
  rw [chunk_apply, block_val m c t o inb inb' i _ r hr]
  exact congrArg (val m c r) (Fin.ext (by show 512 * t.val + (128 * g.val + k.val) = 128 * l.val + k.val; omega))

/-- A half's lanes up to this point's last group, when those before this point's are right. -/
theorem lane_tile (c : Dev nD) (t : Fin cfg0.N) (i0 : grid0.Coords) (hi0 : (i0 0).val = t.val) (o : ℕ) (inb inb' inb'') (P : Vec Ideal S1280x128 .f32)
    (hP : ∀ (r : Fin 1280) (l : Fin 128), l.val < 4 * t.val → P (ix2 r l) = scale m c r l)
    (x : S640x128.Idx) (r : Fin 1280) (l : Fin 128) (hr : r.val = o + (x 0).val) (hx : l.val = (x 1).val) (hl : l.val < 4 * t.val + 4) :
    lanes (BitVec.ofNat 32 (i0 0).val) (k0_pay5 (View.ld (iblk m c 0 t) (Rect.unit ![o, 0] ![640, 6656] inb)) (iblk m c 2 t)
      (View.ld (iblk m c 1 t) (Rect.unit ![o, 0] ![640, 1] inb')) (iblk m c 3 t))
      (View.ld P (Rect.unit ![o, 0] ![640, 128] inb'')) x = scale m c r l := by
  obtain ⟨i, j, rfl⟩ : ∃ i : Fin 640, ∃ j : Fin 128, x = ix2 i j := ⟨x 0, x 1, eq_ix2 x⟩
  change r.val = o + i.val at hr
  obtain rfl : l = j := Fin.ext hx
  rw [hi0]
  by_cases h : l.val < 4 * t.val
  · rw [lanes_old t.val (lt32 t) _ _ i l h]
    exact (View.ld_unit_apply_of P _ _ inb'' _ (ix2 r l) (fun a => by match a with | 0 => exact hr | 1 => exact (Nat.zero_add _).symm)).trans
      (hP r l h)
  · have hg : l.val = 4 * t.val + (⟨l.val - 4 * t.val, by omega⟩ : Fin 4).val := by show l.val = 4 * t.val + (l.val - 4 * t.val); omega
    rw [lanes_new t.val (lt32 t) _ _ i l _ hg]
    exact scale_group m c t o inb inb' _ i r l hr hg

section run

variable (c : Dev nD) (t : Fin cfg0.N)
  (arg1 : Memref sig .tc .vmem S1280x6656 .fp8e4m3) (harg1 : arg1.IsWhole) (arg2 : Memref sig .tc .vmem S1280x128 .f32) (harg2 : arg2.IsWhole) (arg3 : Memref sig .tc .vmem S6656x512 .fp8e4m3) (harg3 : arg3.IsWhole) (arg4 : Memref sig .tc .vmem S1x512 .f32) (harg4 : arg4.IsWhole)
  (arg5 : Memref sig .tc .vmem S1280x512 .fp8e4m3) (harg5 : arg5.IsWhole) (arg6 : Memref sig .tc .vmem S1280x128 .f32) (harg6 : arg6.IsWhole)
  (xo : Vec Ideal S1280x128 .f32)

/-- THE CODES a point stores. -/
theorem codes_stored (y : S1280x512.Idx) :
    View.canon (kernelRun0 (F := Ideal) c (cfg0.grid.coords t) arg1 harg1 arg2 harg2 arg3 harg3 arg4 harg4 arg5 harg5 arg6 harg6
      (iblk m c 0 t) (iblk m c 1 t) (iblk m c 2 t) (iblk m c 3 t) xo).1 y = code m c (y 0) (col t (y 1).val (y 1).isLt) := by
  frame_out
  simp only [pay9_eq, pay14_eq, pay18_eq, pay21_eq, pay23_eq, pay26_eq, pay32_eq, pay36_eq, pay3_eq]
  canon_tiles x h
  · exact code_tile m c t 640 _ _ 3 x _ _ h0 (congrArg (512 * t.val + ·) h1)
  · exact code_tile m c t 640 _ _ 2 x _ _ h0 (congrArg (512 * t.val + ·) h1)
  · exact code_tile m c t 640 _ _ 1 x _ _ h0 (congrArg (512 * t.val + ·) h1)
  · exact code_tile m c t 640 _ _ 0 x _ _ h0 (by show 512 * t.val + (y 1).val = 512 * t.val + (0 + (x 1).val); omega)
  · exact code_tile m c t 0 _ _ 3 x _ _ (by omega) (congrArg (512 * t.val + ·) h1)
  · exact code_tile m c t 0 _ _ 2 x _ _ (by omega) (congrArg (512 * t.val + ·) h1)
  · exact code_tile m c t 0 _ _ 1 x _ _ (by omega) (congrArg (512 * t.val + ·) h1)
  · exact code_tile m c t 0 _ _ 0 x _ _ (by omega) (by show 512 * t.val + (y 1).val = 512 * t.val + (0 + (x 1).val); omega)

/-- THE SCALES a point stores, up to its last group, over right ones before its first. -/
theorem scales_stored (hP : ∀ (r : Fin 1280) (l : Fin 128), l.val < 4 * t.val → xo (ix2 r l) = scale m c r l)
    (r : Fin 1280) (l : Fin 128) (hl : l.val < 4 * t.val + 4) :
    View.canon (kernelRun0 (F := Ideal) c (cfg0.grid.coords t) arg1 harg1 arg2 harg2 arg3 harg3 arg4 harg4 arg5 harg5 arg6 harg6
      (iblk m c 0 t) (iblk m c 1 t) (iblk m c 2 t) (iblk m c 3 t) xo).2.1 (ix2 r l) = scale m c r l := by
  frame_out
  have hi := coords_val t
  generalize hy : (ix2 r l : S1280x128.Idx) = y
  have e0 : r = y 0 := by rw [← hy]; rfl
  have e1 : l = y 1 := by rw [← hy]; rfl
  canon_tiles x h
  · exact lane_tile m c t _ hi 640 _ _ _ xo hP x r l (by rw [e0]; exact h0) (by rw [e1]; omega) hl
  · exact lane_tile m c t _ hi 0 _ _ _ xo hP x r l (by rw [e0]; omega) (by rw [e1]; omega) hl

end run

end Cert.DownIdeal.Val

end
-- ==== Proof.DownOut.lean ====
/- The second kernel's run over the extended reals. A point leaves in the codes' buffer its own columns' codes, and in the
   scales' buffer the scales of every group so far: of the groups to come nothing is known, and at the last point there are
   none. So the program ends with both result arrays named. -/
module

public import proofs.«01_k».proof.Proof.Gen.DownIdeal.Frame
public import proofs.«01_k».proof.Proof.DownVal
public import Idealize.ShloMosaic.Lib.Pipeline.DatRel
public import Idealize.ShloMosaic.Lib.Pipeline.ArrRel
public import Idealize.ShloMosaic.Lib.Claim

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.DownIdeal.Val
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Each window's current staging memref at point `t`, spelled as the pipeline passes it (`bodyAt0`), and its wholeness. -/
abbrev ms0_0 (t : Fin cfg0.N) : Memref sig .tc .vmem S1280x6656 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6656x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1280x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1280x128 .f32 := win0_5.stage (cfg0.slots t 5)
abbrev hs0_5 (t : Fin cfg0.N) : (ms0_5 t).IsWhole := hstage0_5 ((cfg0.slots t 5).cast nbuf0_5)

/-- The argument arrays end unchanged, from a run that says of each output only what a relation allows. -/
theorem frame_of_rel (rdat : (c : Dev nD) → Pipeline.RDat τ (Elt Ideal) Unit ℕ (UR sig nD τ) ℕ (cfgs 0) c)
    (hA : ∀ c w, (rdat c).A w = V m c (Pipeline.arrRef spec0 w))
    (h : θ_run defs (onTc (τ := τ) (main (F := Ideal))) (s₀ m ρ) (Pipeline.RDat.FramePost (cfgs 0) rdat (V m))) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c)⟩) h

/-! ## The pipeline's proof data -/

/-- The output windows, of which nothing is said. -/
def forgets0 : Fin 6 → Bool := fun w => w.val == 4 || w.val == 5

/-- The proof data of the one pipeline on core `c`: the arrays as the region finds them (`V`); after the body at
    point `t` each input's buffer at its block and the outputs, FORGOTTEN, at `Dat.unnamed`; the invariant the class's
   ; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-! ## What the body leaves in the outputs -/

/-- After point `t` the codes' buffer holds the point's codes. -/
def CodesAt (c : Dev nD) (t : Fin cfg0.N) (X : S1280x512.Idx → EReal) : Prop :=
  ∀ y : S1280x512.Idx, X y = code m c (y 0) (col t (y 1).val (y 1).isLt)

/-- After point `t` the scales' buffer holds the scales of the groups up to the point's last. -/
def ScalesAt (c : Dev nD) (t : Fin cfg0.N) (X : S1280x128.Idx → EReal) : Prop :=
  ∀ (r : Fin 1280) (l : Fin 128), l.val < 4 * t.val + 4 → X (ix2 r l) = scale m c r l

/-- What the body leaves in each output. -/
def Rl (c : Dev nD) : (w : Fin cfg0.W) → Fin cfg0.N → ((cfg0.win w).block.Idx → Elt Ideal (cfg0.win w).elt) → Prop
  | ⟨4, _⟩, t, X => CodesAt m c t X
  | ⟨5, _⟩, t, X => ScalesAt m c t X
  | _, _, _ => True

/-- The proof data, each output held to what the body leaves in it. -/
abbrev rdat (c : Dev nD) : Pipeline.RDat τ (Elt Ideal) Unit ℕ (UR sig nD τ) ℕ (cfgs 0) c := (dats m 0 c).toRRel forgets0 (Rl m c)

theorem no_fetch : ∀ t : Fin cfg0.N, (cfg0.win 5).fetch t = false :=
  (by decide +kernel : ∀ t : Fin grid0.N, _)

theorem late_flush : ∀ t : Fin cfg0.N, t.val < 31 → (cfg0.win 5).flush t = false :=
  (by decide +kernel : ∀ t : Fin grid0.N, _)

/-- What a point finds in the scales' buffer: the scales of the groups before its own. -/
theorem found (c : Dev nD) (t : Fin cfg0.N) (Y : S1280x128.Idx → EReal) (h : (rdat m c).Finds 5 t Y) (r : Fin 1280) (l : Fin 128)
    (hl : l.val < 4 * t.val) : Y (ix2 r l) = scale m c r l := by
  have ht : t.val ≠ 0 := by omega
  have h32 := lt32 t
  rcases (Pipeline.RDat.finds_of_pos (rdat m c) (no_fetch t) ht Y).1 h with hf | hL
  · rw [late_flush _ (by show t.val - 1 < 31; omega)] at hf
    exact absurd hf Bool.false_ne_true
  · have h' : ScalesAt m c _ Y := Pipeline.Dat.toRRel_leaves (dats m 0 c) (w := 5) rfl hL
    exact h' r l (by show l.val < 4 * (t.val - 1) + 4; omega)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ Y, ⌜(rdat m c).Finds 4 t Y⌝ ∗ owns (c : Thread nD τ) (ms0_4 t) fullShare Y)
    ∗ (∃ Y, ⌜(rdat m c).Finds 5 t Y⌝ ∗ owns (c : Thread nD τ) (ms0_5 t) fullShare Y))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ X, ⌜CodesAt m c t X⌝ ∗ owns (c : Thread nD τ) (ms0_4 t) fullShare X)
    ∗ (∃ X, ⌜ScalesAt m c t X⌝ ∗ owns (c : Thread nD τ) (ms0_5 t) fullShare X))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩, ⟨%d4, -, H4⟩, ⟨%d5, %hd5, H5⟩⟩
  iapply ((kernelRun0 (F := Ideal) c (cfg0.grid.coords t) (ms0_0 t) (hs0_0 t) (ms0_1 t) (hs0_1 t) (ms0_2 t) (hs0_2 t) (ms0_3 t) (hs0_3 t)
    (ms0_4 t) (hs0_4 t) (ms0_5 t) (hs0_5 t) (iblk m c 0 t) (iblk m c 1 t) (iblk m c 2 t) (iblk m c 3 t) d5).2.2 Set.univ _)
  isplitl [H0]; · iexact H0
  isplitl [H1]; · iexact H1
  isplitl [H2]; · iexact H2
  isplitl [H3]; · iexact H3
  isplitl [H4]; · iexists _; iexact H4
  isplitl [H5]; · iexact H5
  iintro ⟨H0, H1, H2, H3, ⟨%f4, H4⟩, ⟨%f5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns
    iexists _; isplitr; swap
    · iexists _; isplitr; swap; · iexact H4
      ipureintro; rfl
    ipureintro
    intro y
    rw [View.read_writes_eq_canon _ _ _ (cover0_4 c _ _ _ _ _ _ _ _ _ _ _ _ _ _ _ _ _ _)]
    exact codes_stored m c t _ _ _ _ _ _ _ _ _ _ _ _ d5 y
  unfold owns
  iexists _; isplitr; swap
  · iexists _; isplitr; swap; · iexact H5
    ipureintro; rfl
  ipureintro
  intro r l hl
  rw [View.read_writes_eq_canon _ _ _ (cover0_5 c _ _ _ _ _ _ _ _ _ _ _ _ _ _ _ _ _ _)]
  exact scales_stored m c t _ _ _ _ _ _ _ _ _ _ _ _ d5 (found m c t d5 hd5) r l hl

theorem body_obligation (c : Dev nD) :
    Pipeline.BodyObligationRel (dats m 0 c) (defs₀ (F := Ideal)) Variants.none () Set.univ forgets0 (Rl m c) := fun t => by
  rw [bigSep_W0, bigSep_W0, defs₀_row]
  exact triple_restated (sound_body m c t) rfl .rfl fun _ => .rfl

/-! ## The run -/

set_option backward.isDefEq.respectTransparency.types false in
/-- THE LAUNCH, with every semaphore counter at zero. -/
theorem run_main_quiescent : θ_run defs (onTc (τ := τ) (main (F := Ideal))) (s₀ m ρ) (fun r => (Pipeline.RDat.FramePost (cfgs 0) (rdat m) (V m)) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := fun _ => .rfl) (hout := fun _ => .rfl)

/-- The codes' array after the run. -/
theorem arr_codes (c : Dev nD) (after) (hL : ∀ (w : Fin cfg0.W) (u : Fin cfg0.N), (cfg0.win w).flush u = true → (rdat m c).Leaves w u (after w u)) :
    ((rdat m c).withAfter after).arrAt 4 cfg0.N = (fun i : S1280x16384.Idx => code m c (i 0) (i 1) : S1280x16384.Idx → EReal) := by
  refine ((rdat m c).withAfter after).arrAt_eq_of_covers 4 _ (by decide +kernel) fun t hf y => ?_
  have h : CodesAt m c t (after 4 t) := Pipeline.Dat.toRRel_leaves (dats m 0 c) (w := 4) rfl (hL 4 t hf)
  have e0 : (((cfg0.win 4).blk t).view.emb y 0 : Fin 1280).val = (y 0).val := by blk_simp; blk_point [idx t]
  have e1 : (((cfg0.win 4).blk t).view.emb y 1 : Fin 16384).val = 512 * t.val + (y 1).val := by blk_simp; blk_point [idx t]; exact Nat.mul_comm _ _
  blk_simp
  refine (h y).trans ?_
  exact congrArg₂ (code m c) (Fin.ext e0.symm) (Fin.ext e1.symm)

/-- The scales' array after the run. -/
theorem arr_scales (c : Dev nD) (after) (hL : ∀ (w : Fin cfg0.W) (u : Fin cfg0.N), (cfg0.win w).flush u = true → (rdat m c).Leaves w u (after w u)) :
    ((rdat m c).withAfter after).arrAt 5 cfg0.N = (fun i : S1280x128.Idx => scale m c (i 0) (i 1) : S1280x128.Idx → EReal) := by
  refine ((rdat m c).withAfter after).arrAt_eq_of_covers 5 _ (by decide +kernel) fun t hf y => ?_
  have h : ScalesAt m c t (after 5 t) := Pipeline.Dat.toRRel_leaves (dats m 0 c) (w := 5) rfl (hL 5 t hf)
  have h31 : t.val = 31 := by
    have h32 := lt32 t
    by_contra hne
    rw [late_flush t (by omega)] at hf
    exact absurd hf Bool.false_ne_true
  have e : ((cfg0.win 5).blk t).view.emb y = (y : S1280x128.Idx) := by
    funext a
    apply Fin.ext
    match a with
    | 0 => blk_simp; blk_point [idx t]
    | 1 => blk_simp; blk_point [idx t]
  rw [e]
  blk_simp
  obtain ⟨i, j, rfl⟩ : ∃ i : Fin 1280, ∃ j : Fin 128, y = ix2 i j := ⟨y 0, y 1, eq_ix2 y⟩
  exact h i j (by have := j.isLt; omega)

/-- THE RUN: both result arrays named, the arguments unchanged. -/
theorem run : θ_run defs (onTc (τ := τ) (main (F := Ideal))) ⟨m, fun _ => 0, ρ⟩ (fun r => ∀ c : Dev nD,
      r.2.mem ((c.tc : Thread nD τ).loc main_v1_0) = (fun i : S1280x16384.Idx => code m c (i 0) (i 1) : S1280x16384.Idx → EReal)
      ∧ r.2.mem ((c.tc : Thread nD τ).loc main_v1_1) = (fun i : S1280x128.Idx => scale m c (i 0) (i 1) : S1280x128.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨after, hL, hA⟩ := Pipeline.RDat.FramePost.exists_exact h.1.1 c
    exact ⟨(hA 4).trans (arr_codes m c after hL), (hA 5).trans (arr_scales m c after hL), h.2 c⟩)
    (θ_run_and (run_main_quiescent m ρ) (frame_of_rel m ρ (rdat m) (A_eq m) ((θ_run defs _ _).mono (fun _ h => h.1) (run_main_quiescent m ρ))))

/-- THE FRAME, with every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and ((θ_run defs _ _).mono (fun _ h c => (h c).2.2) (run m ρ)) ((θ_run defs _ _).mono (fun _ h => h.2) (run_main_quiescent m ρ))

end Cert.DownIdeal.Gen

end
-- ==== Proof.DownRef.lean ====
/- The second reference: its two result arrays are the codes and the scales of the product's groups of 128 columns. -/
module

public import proofs.«01_k».proof.Proof.Spec
public import proofs.«01_k».proof.Proof.Gen.DownReferenceIdeal.Value
public import Idealize.ShloMosaic.Lib.Pipeline.ValueKit
public import Idealize.ShloMosaic.Lib.Pointwise
public import Idealize.ShloMosaic.Lib.MatmulPlain
public import Idealize.ShloMosaic.Lib.Claim

@[expose] public section

noncomputable section

namespace Cert.DownReferenceIdeal.Ref

open Cert.DownReferenceIdeal Cert.DownReferenceIdeal.Gen Idealize.ShloMosaic Idealize.ShloMosaic.TcCoe Idealize.SL.Sem

variable (m : (ℓ : Loc nD τ sig) → Buf (Elt Ideal) ℓ) (ρ : Dev nD → PrngReg)

/-- The arrays as launched. -/
abbrev X (c : Dev nD) : S1280x6656.Idx → EReal := m ((c.tc : Thread nD τ).loc main_arg0)
abbrev XS (c : Dev nD) : S1280x128.Idx → EReal := m ((c.tc : Thread nD τ).loc main_arg1)
abbrev W (c : Dev nD) : S6656x16384.Idx → EReal := m ((c.tc : Thread nD τ).loc main_arg2)
abbrev SW (c : Dev nD) : S16384.Idx → EReal := m ((c.tc : Thread nD τ).loc main_arg3)

/-- Entry (i, j) of the product. -/
def val (c : Dev nD) (i : Fin 1280) (j : Fin 16384) : EReal :=
  Spec.proj (fun k => X m c (ix2 i k)) (XS m c (ix2 i 0)) (fun k => W m c (ix2 k j)) (SW m c (ix1 j))

/-- The scale of group `g` of row `i`: that of its 128 columns. -/
def scale (c : Dev nD) (i : Fin 1280) (g : Fin 128) : EReal :=
  Spec.rowScale fun k : Fin 128 => val m c i ⟨128 * g.val + k.val, by omega⟩

/-- The code of entry (i, j), in its group of 128 columns. -/
def code (c : Dev nD) (i : Fin 1280) (j : Fin 16384) : EReal :=
  Spec.rowCode (fun k : Fin 128 => val m c i ⟨128 * (j.val / 128) + k.val, by omega⟩) ⟨j.val % 128, by omega⟩

theorem scale_row (c : Dev nD) (j : Fin 16384) : (V m c main_v0 : S1x16384.Idx → EReal) (ix2 0 j) = SW m c (ix1 j) := by
  unfold_abbrev_sides
  after_results
  show shapeCast S1x16384 (SW m c : Vec Ideal S16384 .f32) shapeCasts_S16384_S1x16384 (ix2 0 j) = _
  pointwise []

/-- Column `k` of group `g`. -/
abbrev at128 (g k : Fin 128) : Fin 16384 := ⟨128 * g.val + k.val, by omega⟩

/-- The columns in groups of 128. -/
theorem split_apply {α : Type} (w : S1280x16384.Idx → α) (i : Fin 1280) (g k : Fin 128) :
    shapeCast S1280x128x128 w shapeCasts_S1280x16384_S1280x128x128 (ix3 i g k) = w (ix2 i (at128 g k)) := by
  unfold shapeCast
  refine congrArg w (Shape.reshapeEquiv_eq_of_vals _ _ _ _ _ (rowMajor_val2 _ 16384 rfl) (rowMajor_val3 _ 16384 128 rfl rfl) ?_)
  show i.val * 16384 + (128 * g.val + k.val) = i.val * 16384 + g.val * 128 + k.val
  omega

/-- The groups side by side again. -/
theorem join_apply {α : Type} (w : S1280x128x128.Idx → α) (i : Fin 1280) (j : Fin 16384) :
    shapeCast S1280x16384 w shapeCasts_S1280x128x128_S1280x16384 (ix2 i j)
      = w (ix3 i ⟨j.val / 128, by omega⟩ ⟨j.val % 128, by omega⟩) := by
  unfold shapeCast
  refine congrArg w (Shape.reshapeEquiv_eq_of_vals _ _ _ _ _ (rowMajor_val3 _ 16384 128 rfl rfl) (rowMajor_val2 _ 16384 rfl) ?_)
  show i.val * 16384 + j.val / 128 * 128 + j.val % 128 = i.val * 16384 + j.val
  omega

/-- The scales without their unit axis. -/
theorem flat_apply {α : Type} (w : S1280x128x1.Idx → α) (i : Fin 1280) (g : Fin 128) :
    shapeCast S1280x128 w shapeCasts_S1280x128x1_S1280x128 (ix2 i g) = w (ix3 i g 0) := by
  unfold shapeCast
  refine congrArg w (Shape.reshapeEquiv_eq_of_vals _ _ _ _ _ (rowMajor_val3 _ 128 1 rfl rfl) (rowMajor_val2 _ 128 rfl) ?_)
  show i.val * 128 + g.val * 1 + 0 = i.val * 128 + g.val
  omega

/-- One scale for the 128 columns of its group. -/
theorem spread_apply (s : FVec Ideal S1280x128x1 .f32) (i : Fin 1280) (g k : Fin 128) :
    broadcastTo S1280x128x128 s broadcasts_S1280x128x1_S1280x128x128 (ix3 i g k) = s (ix3 i g 0) := by
  pointwise []

/-- The largest magnitude of a group. -/
theorem top_apply (w : FVec Ideal S1280x128x128 .f32) (i : Fin 1280) (g : Fin 128) :
    shapeCast S1280x128x1 (multiReduction .maximumf [2] S1280x128 (absf w) 0xFF800000#32 reduces_S1280x128x128_S1280x128 (.inl rfl) rfl)
      shapeCasts_S1280x128_S1280x128x1 (ix3 i g 0) = Spec.top fun k : Fin 128 => Spec.mag (w (ix3 i g k)) := by
  pointwise []
  rfl

/-- The clipped quotient, at an index. -/
theorem clip_apply {S : Shape} (w s : FVec Ideal S .f32) (h) (x : S.Idx) :
    truncf (F := Ideal) .fp8e4m3 (minimumf (broadcast S (Scalar.ofBits .f32 0x43E00000#32)) (maximumf (broadcast S (Scalar.ofBits .f32 0xC3E00000#32))
      (divf w s))) h x = Spec.qcode (w x) (s x) := by
  pointwise []
  rfl

/-- The scale of a maximum, at an index. -/
theorem scale_apply {S : Shape} (a : FVec Ideal S .f32) (x : S.Idx) :
    select (cmpf .oeq a (broadcast S (Scalar.ofBits .f32 0x00000000#32))) (broadcast S (Scalar.ofBits .f32 0x3F800000#32))
      (divf a (broadcast S (Scalar.ofBits .f32 0x43E00000#32))) x = Spec.qscale (a x) := by
  pointwise []
  rfl

/-- The product before its columns are grouped. -/
def prod (v0 : Vec Ideal S1280x6656 .fp8e4m3) (v1 : Vec Ideal S6656x16384 .fp8e4m3) (v3 : Vec Ideal S1280x1 .f32) (v4 : Vec Ideal S1x16384 .f32) :
    FVec Ideal S1280x16384 .f32 :=
  mulf (matmul (φ₁ := .fp8e4m3) (φ₂ := .fp8e4m3) dot_S1280x6656_S6656x16384_S1280x16384_1_0_0_1_n_n none v0 v1 (constant S1280x16384 .f32 0x00000000#32))
    (mulf (broadcastTo S1280x16384 v3 broadcasts_S1280x1_S1280x16384)
      (broadcastTo S1280x16384 (shapeCast S1x16384 v4 shapeCasts_S1x16384_S1x16384) broadcasts_S1x16384_S1280x16384))

theorem prod_apply (v0 : Vec Ideal S1280x6656 .fp8e4m3) (v1 : Vec Ideal S6656x16384 .fp8e4m3) (v3 : Vec Ideal S1280x1 .f32)
    (v4 : Vec Ideal S1x16384 .f32) (i : Fin 1280) (j : Fin 16384) :
    prod v0 v1 v3 v4 (ix2 i j) = Spec.proj (fun k => v0 (ix2 i k)) (v3 (ix2 i 0)) (fun k => v1 (ix2 k j)) (v4 (ix2 0 j)) := by
  pointwise [prod]
  rfl

theorem pay1_apply (v0 : Vec Ideal S1280x6656 .fp8e4m3) (v1 : Vec Ideal S6656x16384 .fp8e4m3) (v3 : Vec Ideal S1280x1 .f32)
    (v4 : Vec Ideal S1x16384 .f32) (i : Fin 1280) (g k : Fin 128) :
    k0_pay1 v0 v1 v3 v4 (ix3 i g k) = prod v0 v1 v3 v4 (ix2 i (at128 g k)) :=
  split_apply (prod v0 v1 v3 v4) i g k

theorem pay2_apply (v0 : Vec Ideal S1280x6656 .fp8e4m3) (v1 : Vec Ideal S6656x16384 .fp8e4m3) (v3 : Vec Ideal S1280x1 .f32)
    (v4 : Vec Ideal S1x16384 .f32) (i : Fin 1280) (g : Fin 128) :
    k0_pay2 v0 v1 v3 v4 (ix3 i g 0) = Spec.rowScale fun k : Fin 128 => prod v0 v1 v3 v4 (ix2 i (at128 g k)) := by
  refine (scale_apply (shapeCast S1280x128x1 (multiReduction .maximumf [2] S1280x128 (absf (k0_pay1 v0 v1 v3 v4)) 0xFF800000#32
    reduces_S1280x128x128_S1280x128 (.inl rfl) rfl) shapeCasts_S1280x128_S1280x128x1) (ix3 i g 0)).trans ?_
  rw [top_apply]
  simp only [pay1_apply]
  rfl

/-- The codes before the groups are side by side again. -/
def grouped (w : FVec Ideal S1280x128x128 .f32) (s : FVec Ideal S1280x128x1 .f32) : FVec Ideal S1280x128x128 .fp8e4m3 :=
  truncf (F := Ideal) .fp8e4m3 (minimumf (broadcast S1280x128x128 (Scalar.ofBits .f32 0x43E00000#32))
    (maximumf (broadcast S1280x128x128 (Scalar.ofBits .f32 0xC3E00000#32))
      (divf w (broadcastTo S1280x128x128 s broadcasts_S1280x128x1_S1280x128x128)))) bitsLt_fp8e4m3_f32

theorem grouped_apply (w : FVec Ideal S1280x128x128 .f32) (s : FVec Ideal S1280x128x1 .f32) (i : Fin 1280) (g k : Fin 128) :
    grouped w s (ix3 i g k) = Spec.qcode (w (ix3 i g k)) (s (ix3 i g 0)) := by
  unfold grouped
  rw [clip_apply, spread_apply]

theorem pay3_eq (v0 : Vec Ideal S1280x6656 .fp8e4m3) (v1 : Vec Ideal S6656x16384 .fp8e4m3) (v3 : Vec Ideal S1280x1 .f32)
    (v4 : Vec Ideal S1x16384 .f32) : k0_pay3 v0 v1 v3 v4
      = shapeCast S1280x16384 (grouped (k0_pay1 v0 v1 v3 v4) (k0_pay2 v0 v1 v3 v4)) shapeCasts_S1280x128x128_S1280x16384 := rfl

theorem pay3_apply (v0 : Vec Ideal S1280x6656 .fp8e4m3) (v1 : Vec Ideal S6656x16384 .fp8e4m3) (v3 : Vec Ideal S1280x1 .f32)
    (v4 : Vec Ideal S1x16384 .f32) (i : Fin 1280) (j : Fin 16384) :
    k0_pay3 v0 v1 v3 v4 (ix2 i j)
      = Spec.rowCode (fun k : Fin 128 => prod v0 v1 v3 v4 (ix2 i (at128 ⟨j.val / 128, by omega⟩ k))) ⟨j.val % 128, by omega⟩ := by
  rw [pay3_eq, join_apply, grouped_apply, pay2_apply, pay1_apply]
  rfl

theorem pay4_apply (v0 : Vec Ideal S1280x6656 .fp8e4m3) (v1 : Vec Ideal S6656x16384 .fp8e4m3) (v3 : Vec Ideal S1280x1 .f32)
    (v4 : Vec Ideal S1x16384 .f32) (i : Fin 1280) (g : Fin 128) :
    k0_pay4 v0 v1 v3 v4 (ix2 i g) = Spec.rowScale fun k : Fin 128 => prod v0 v1 v3 v4 (ix2 i (at128 g k)) :=
  (flat_apply (k0_pay2 v0 v1 v3 v4) i g).trans (pay2_apply v0 v1 v3 v4 i g)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The body's product over the staged arrays is the product. -/
theorem block_val (c : Dev nD) (t : Fin cfg0.N) (i : Fin 1280) (j : Fin 16384) :
    prod (iblk m c 0 t) (iblk m c 2 t) (View.ld (iblk m c 1 t) r0_2) (iblk m c 3 t) (ix2 i j) = val m c i j := by
  have h0 : ∀ k : Fin 6656, (iblk m c 0 t : Vec Ideal S1280x6656 .fp8e4m3) (ix2 i k) = X m c (ix2 i k) := fun k => by
    blk_point [iblk, idx t]
  have h1' : ∀ y : S1280x128.Idx, (iblk m c 1 t : Vec Ideal S1280x128 .f32) y = XS m c y := fun y => by
    blk_point [iblk, idx t]
  have h1 : View.ld (iblk m c 1 t : Vec Ideal S1280x128 .f32) r0_2 (ix2 i 0) = XS m c (ix2 i 0) :=
    (View.ld_unit_apply_of _ _ _ _ _ (ix2 i 0) (fun a => by
      match a with
      | 0 => exact (Nat.zero_add _).symm
      | 1 => exact (Nat.zero_add _).symm)).trans (h1' _)
  have h2 : ∀ k : Fin 6656, (iblk m c 2 t : Vec Ideal S6656x16384 .fp8e4m3) (ix2 k j) = W m c (ix2 k j) := fun k => by
    blk_point [iblk, idx t]
  have h3' : (iblk m c 3 t : Vec Ideal S1x16384 .f32) (ix2 0 j) = (V m c main_v0 : S1x16384.Idx → EReal) (ix2 0 j) := by
    blk_point [iblk, idx t]
  exact (prod_apply _ _ _ _ i j).trans (Spec.proj_congr h0 h1 h2 (h3'.trans (scale_row m c j)))

/-- THE CODES. -/
theorem codes (c : Dev nD) : (dats m 0 c).arrAt 4 cfg0.N
    = (fun i : S1280x16384.Idx => code m c (i 0) (i 1) : S1280x16384.Idx → EReal) := by
  refine (dats m 0 c).arrAt_eq_of_covers 4 _ (by decide +kernel) fun t hf y => ?_
  have e : ((cfg0.win 4).blk t).view.emb y = (y : S1280x16384.Idx) := by
    funext a
    apply Fin.ext
    match a with
    | 0 => blk_simp; blk_point [idx t]
    | 1 => blk_simp; blk_point [idx t]
  rw [e]
  blk_simp
  rw [after0_4]; frame_out
  obtain ⟨i, j, rfl⟩ : ∃ i : Fin 1280, ∃ j : Fin 16384, y = ix2 i j := ⟨y 0, y 1, eq_ix2 y⟩
  refine (pay3_apply _ _ _ _ i j).trans ?_
  exact congrArg (fun f => Spec.rowCode f ⟨j.val % 128, by omega⟩) (funext fun k => block_val m c t i _)

/-- THE SCALES. -/
theorem scales (c : Dev nD) : (dats m 0 c).arrAt 5 cfg0.N
    = (fun i : S1280x128.Idx => scale m c (i 0) (i 1) : S1280x128.Idx → EReal) := by
  refine (dats m 0 c).arrAt_eq_of_covers 5 _ (by decide +kernel) fun t hf y => ?_
  have e : ((cfg0.win 5).blk t).view.emb y = (y : S1280x128.Idx) := by
    funext a
    apply Fin.ext
    match a with
    | 0 => blk_simp; blk_point [idx t]
    | 1 => blk_simp; blk_point [idx t]
  rw [e]
  blk_simp
  rw [after0_5]; frame_out
  obtain ⟨i, j, rfl⟩ : ∃ i : Fin 1280, ∃ j : Fin 128, y = ix2 i j := ⟨y 0, y 1, eq_ix2 y⟩
  refine (pay4_apply _ _ _ _ i j).trans ?_
  exact congrArg Spec.rowScale (funext fun k => block_val m c t i _)

end Cert.DownReferenceIdeal.Ref

end
-- ==== Proof.DownValue.lean ====
/- The second equation: launched on equal arguments, the second kernel and its reference end with equal results. -/
module

public import proofs.«01_k».proof.Defs
public import proofs.«01_k».proof.Proof.DownOut
public import proofs.«01_k».proof.Proof.DownRef

@[expose] public section

noncomputable section

namespace Cert.Proof

open Idealize.ShloMosaic Idealize.ShloMosaic.TcCoe Idealize.SL.Sem

/-- Over the extended reals the second kernel's codes and scales of the product are the reference's. -/
theorem algebraic_down : @Cert.algebraic_DownIdeal_DownReferenceIdeal Cert.DownIdeal.Gen.facts Cert.DownReferenceIdeal.Gen.facts := by
  intro m g m' g' _ h
  have hv : ∀ (c : Dev Cert.DownIdeal.nD) (i : Fin 1280) (j : Fin 16384),
      Cert.DownReferenceIdeal.Ref.val m' c i j = Cert.DownIdeal.Val.val m c i j := fun c i j => by
    obtain ⟨h0, h1, h2, h3⟩ := h c
    have e0 : Cert.DownReferenceIdeal.Ref.X m' c = Cert.DownIdeal.Val.X m c := h0
    have e1 : Cert.DownReferenceIdeal.Ref.XS m' c = Cert.DownIdeal.Val.XS m c := h1
    have e2 : Cert.DownReferenceIdeal.Ref.W m' c = Cert.DownIdeal.Val.W m c := h2
    have e3 : Cert.DownReferenceIdeal.Ref.SW m' c = Cert.DownIdeal.Val.SW m c := h3
    unfold Cert.DownReferenceIdeal.Ref.val Cert.DownIdeal.Val.val
    rw [e0, e1, e2, e3]
  have hc : ∀ (c : Dev Cert.DownIdeal.nD) (i : Fin 1280) (j : Fin 16384),
      Cert.DownReferenceIdeal.Ref.code m' c i j = Cert.DownIdeal.Val.code m c i j := fun c i j =>
    congrArg (fun f => Spec.rowCode f _) (funext fun k => hv c i _)
  have hs : ∀ (c : Dev Cert.DownIdeal.nD) (i : Fin 1280) (j : Fin 128),
      Cert.DownReferenceIdeal.Ref.scale m' c i j = Cert.DownIdeal.Val.scale m c i j := fun c i j =>
    congrArg Spec.rowScale (funext fun k => hv c i _)
  refine ⟨fun c => (fun i => Cert.DownIdeal.Val.code m c (i 0) (i 1) : Cert.DownIdeal.S1280x16384.Idx → EReal),
    fun c => (fun i => Cert.DownIdeal.Val.scale m c (i 0) (i 1) : Cert.DownIdeal.S1280x128.Idx → EReal),
    Cert.DownIdeal.Gen.run m g,
    (θ_run _ _ _).mono (fun r hr c => ?_) (Cert.DownReferenceIdeal.Value.run_blocks (F := Ideal) m' g')⟩
  exact ⟨(hr c).1.trans ((Cert.DownReferenceIdeal.Ref.codes m' c).trans (funext fun i => hc c (i 0) (i 1))),
    (hr c).2.1.trans ((Cert.DownReferenceIdeal.Ref.scales m' c).trans (funext fun i => hs c (i 0) (i 1))), (hr c).2.2⟩

end Cert.Proof

end
-- ==== Proof.RecvPlainRun.lean ====
/- One grid point of the first kernel before idealization: the body's run, and what its stores leave in each output block. -/
module

public import proofs.«01_k».proof.Proof.Gen.Recv.Frame.Runs

@[expose] public section

set_option maxRecDepth 65536

noncomputable section

namespace Cert.Recv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The state of the first loop after its last trip: its carried pair, and the pieces it stored. -/
abbrev stEnd (c : Dev nD) (i : grid0.Coords) (arg1 : Memref sig .tc .vmem S8x32x8192 .i8) (harg1 : arg1.IsWhole) (arg2 : Memref sig .tc .vmem S8x32x512 .f32) (harg2 : arg2.IsWhole) (arg3 : Memref sig .tc .vmem S32x16384 .bf16) (harg3 : arg3.IsWhole) (arg4 : Memref sig .tc .vmem S1x16384 .f32) (harg4 : arg4.IsWhole) (arg5 : Memref sig .tc .vmem S32x16384 .bf16) (harg5 : arg5.IsWhole) (arg6 : Memref sig .tc .vmem S32x16384 .fp8e4m3) (harg6 : arg6.IsWhole) (arg7 : Memref sig .tc .vmem S32x128 .f32) (harg7 : arg7.IsWhole) (arg8 : Memref sig .tc .vmem S32x16384 .f32) (harg8 : arg8.IsWhole)
    (v0 : IVec S32x128 32) (X1 : BufTy.Contents (Elt F) arg1.view.ty) (X2 : BufTy.Contents (Elt F) arg2.view.ty) (X3 : BufTy.Contents (Elt F) arg3.view.ty)
    (X4 : BufTy.Contents (Elt F) arg4.view.ty) (init : FVec F S32x128 .f32 × FVec F S32x128 .f32) :=
  st_k0_t1 (F := F) Variants.none c none i arg1 harg1 arg2 harg2 arg3 harg3 arg4 harg4 arg5 harg5 arg6 harg6 arg7 harg7 arg8 harg8 v0 X1 X2 X3 X4 init (Scf.trips k0_t1_loop.lb k0_t1_loop.ub k0_t1_loop.st)

/-- The first loop's stores to the scratch cover it. -/
theorem cover_scr (c : Dev nD) (i : grid0.Coords) (arg1 : Memref sig .tc .vmem S8x32x8192 .i8) (harg1 : arg1.IsWhole) (arg2 : Memref sig .tc .vmem S8x32x512 .f32) (harg2 : arg2.IsWhole) (arg3 : Memref sig .tc .vmem S32x16384 .bf16) (harg3 : arg3.IsWhole) (arg4 : Memref sig .tc .vmem S1x16384 .f32) (harg4 : arg4.IsWhole) (arg5 : Memref sig .tc .vmem S32x16384 .bf16) (harg5 : arg5.IsWhole) (arg6 : Memref sig .tc .vmem S32x16384 .fp8e4m3) (harg6 : arg6.IsWhole) (arg7 : Memref sig .tc .vmem S32x128 .f32) (harg7 : arg7.IsWhole) (arg8 : Memref sig .tc .vmem S32x16384 .f32) (harg8 : arg8.IsWhole)
    (v0 : IVec S32x128 32) (X1 : BufTy.Contents (Elt F) arg1.view.ty) (X2 : BufTy.Contents (Elt F) arg2.view.ty) (X3 : BufTy.Contents (Elt F) arg3.view.ty)
    (X4 : BufTy.Contents (Elt F) arg4.view.ty) (init : FVec F S32x128 .f32 × FVec F S32x128 .f32) (y : S32x16384.Idx) :
    ∃ p ∈ (stEnd c i arg1 harg1 arg2 harg2 arg3 harg3 arg4 harg4 arg5 harg5 arg6 harg6 arg7 harg7 arg8 harg8 v0 X1 X2 X3 X4 init).2.2, y ∈ p.1.set :=
  View.cover_of_tiledL (stEnd c i arg1 harg1 arg2 harg2 arg3 harg3 arg4 harg4 arg5 harg5 arg6 harg6 arg7 harg7 arg8 harg8 v0 X1 X2 X3 X4 init).2.2 S32x128.size (by sl_kernel_rfl) y

/-- So the scratch, whatever it held, holds what those stores read back as. -/
theorem scr_eq (c : Dev nD) (i : grid0.Coords) (arg1 : Memref sig .tc .vmem S8x32x8192 .i8) (harg1 : arg1.IsWhole) (arg2 : Memref sig .tc .vmem S8x32x512 .f32) (harg2 : arg2.IsWhole) (arg3 : Memref sig .tc .vmem S32x16384 .bf16) (harg3 : arg3.IsWhole) (arg4 : Memref sig .tc .vmem S1x16384 .f32) (harg4 : arg4.IsWhole) (arg5 : Memref sig .tc .vmem S32x16384 .bf16) (harg5 : arg5.IsWhole) (arg6 : Memref sig .tc .vmem S32x16384 .fp8e4m3) (harg6 : arg6.IsWhole) (arg7 : Memref sig .tc .vmem S32x128 .f32) (harg7 : arg7.IsWhole) (arg8 : Memref sig .tc .vmem S32x16384 .f32) (harg8 : arg8.IsWhole)
    (v0 : IVec S32x128 32) (X1 : BufTy.Contents (Elt F) arg1.view.ty) (X2 : BufTy.Contents (Elt F) arg2.view.ty) (X3 : BufTy.Contents (Elt F) arg3.view.ty)
    (X4 : BufTy.Contents (Elt F) arg4.view.ty) (init : FVec F S32x128 .f32 × FVec F S32x128 .f32) (f : BufTy.Contents (Elt F) arg8.view.ty) :
    arg8.view.writes (Elt F) f (stEnd c i arg1 harg1 arg2 harg2 arg3 harg3 arg4 harg4 arg5 harg5 arg6 harg6 arg7 harg7 arg8 harg8 v0 X1 X2 X3 X4 init).2.2
      = harg8.unread (View.canon (stEnd c i arg1 harg1 arg2 harg2 arg3 harg3 arg4 harg4 arg5 harg5 arg6 harg6 arg7 harg7 arg8 harg8 v0 X1 X2 X3 X4 init).2.2) :=
  harg8.eq_unread (View.read_writes_eq_canon _ _ _ (cover_scr c i arg1 harg1 arg2 harg2 arg3 harg3 arg4 harg4 arg5 harg5 arg6 harg6 arg7 harg7 arg8 harg8 v0 X1 X2 X3 X4 init))

-- (the run's proof term is large: the definition's epilogue — `abstractNestedProofs` — walks it past the default budget)
set_option maxHeartbeats 4000000 in
/-- What the body's stores leave in each output's staging memref, as pieces (last first), with the proof that the body runs
    from its inputs at their contents, the outputs and the scratch at anything, and leaves those pieces written. -/
noncomputable def kernelRun0_A (c : Dev nD) (i : grid0.Coords) (arg1 : Memref sig .tc .vmem S8x32x8192 .i8) (harg1 : arg1.IsWhole) (arg2 : Memref sig .tc .vmem S8x32x512 .f32) (harg2 : arg2.IsWhole) (arg3 : Memref sig .tc .vmem S32x16384 .bf16) (harg3 : arg3.IsWhole) (arg4 : Memref sig .tc .vmem S1x16384 .f32) (harg4 : arg4.IsWhole) (arg5 : Memref sig .tc .vmem S32x16384 .bf16) (harg5 : arg5.IsWhole) (arg6 : Memref sig .tc .vmem S32x16384 .fp8e4m3) (harg6 : arg6.IsWhole) (arg7 : Memref sig .tc .vmem S32x128 .f32) (harg7 : arg7.IsWhole) (arg8 : Memref sig .tc .vmem S32x16384 .f32) (harg8 : arg8.IsWhole)
    (x0 : Vec F S8x32x8192 .i8) (x1 : Vec F S8x32x512 .f32) (x2 : Vec F S32x16384 .bf16) (x3 : Vec F S1x16384 .f32) :
    Σ' (L4 : List (View.Piece (Elt F) S32x16384 .bf16)), Σ' (L5 : List (View.Piece (Elt F) S32x16384 .fp8e4m3)), { L6 : List (View.Piece (Elt F) S32x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ d, owns (c : Thread nD τ) arg8 fullShare d)) -∗ K ⟨⟩))
          ⊢ wp frame (wpE (defs₀ (F := F)) Variants.none c none) E (cc0_recv i arg1 harg1 arg2 harg2 arg3 harg3 arg4 harg4 arg5 harg5 arg6 harg6 arg7 harg7 arg8 harg8) K } := by
  refine ⟨?_, ?_, ?_, fun E K => ?run⟩
  case run =>
    simp only [cc0_recv_eq_skeleton]; unfold cc0_recv_skel
    simp only [k0_part102_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3
    sl_exec
    sl_step
    rw [scr_eq]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _, _; isplitr; swap; · iexact HS0
    ipureintro; rfl

end Cert.Recv.Gen

end
-- ==== Proof.RecvPlainFrame.lean ====
/- The frame of the first kernel before idealization (as RecvFrame.lean): what its outputs hold after each grid point, and the run of the whole program. -/
module

public import proofs.«01_k».proof.Proof.RecvPlainRun
public import Idealize.ShloMosaic.Lib.Claim

@[expose] public section

set_option maxRecDepth 16384

noncomputable section

namespace Cert.Recv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 4 tile its block (128 stores of 128 columns), so they cover it. -/
theorem cover0_A_4 (c : Dev nD) (i : grid0.Coords) (arg1 : Memref sig .tc .vmem S8x32x8192 .i8) (harg1 : arg1.IsWhole) (arg2 : Memref sig .tc .vmem S8x32x512 .f32) (harg2 : arg2.IsWhole) (arg3 : Memref sig .tc .vmem S32x16384 .bf16) (harg3 : arg3.IsWhole) (arg4 : Memref sig .tc .vmem S1x16384 .f32) (harg4 : arg4.IsWhole) (arg5 : Memref sig .tc .vmem S32x16384 .bf16) (harg5 : arg5.IsWhole) (arg6 : Memref sig .tc .vmem S32x16384 .fp8e4m3) (harg6 : arg6.IsWhole) (arg7 : Memref sig .tc .vmem S32x128 .f32) (harg7 : arg7.IsWhole) (arg8 : Memref sig .tc .vmem S32x16384 .f32) (harg8 : arg8.IsWhole)
    (x0 : Vec F S8x32x8192 .i8) (x1 : Vec F S8x32x512 .f32) (x2 : Vec F S32x16384 .bf16) (x3 : Vec F S1x16384 .f32) (y : S32x16384.Idx) :
    ∃ pc ∈ (kernelRun0_A c i arg1 harg1 arg2 harg2 arg3 harg3 arg4 harg4 arg5 harg5 arg6 harg6 arg7 harg7 arg8 harg8 x0 x1 x2 x3).1, y ∈ pc.1.set :=
  View.cover_of_tiledL (kernelRun0_A c i arg1 harg1 arg2 harg2 arg3 harg3 arg4 harg4 arg5 harg5 arg6 harg6 arg7 harg7 arg8 harg8 x0 x1 x2 x3).1 S32x128.size (by sl_kernel_rfl) y

/-- What the run leaves in output 4's staging buffer: its pieces read back over junk. -/
def out0_A_4 (c : Dev nD) (i : grid0.Coords) (arg1 : Memref sig .tc .vmem S8x32x8192 .i8) (harg1 : arg1.IsWhole) (arg2 : Memref sig .tc .vmem S8x32x512 .f32) (harg2 : arg2.IsWhole) (arg3 : Memref sig .tc .vmem S32x16384 .bf16) (harg3 : arg3.IsWhole) (arg4 : Memref sig .tc .vmem S1x16384 .f32) (harg4 : arg4.IsWhole) (arg5 : Memref sig .tc .vmem S32x16384 .bf16) (harg5 : arg5.IsWhole) (arg6 : Memref sig .tc .vmem S32x16384 .fp8e4m3) (harg6 : arg6.IsWhole) (arg7 : Memref sig .tc .vmem S32x128 .f32) (harg7 : arg7.IsWhole) (arg8 : Memref sig .tc .vmem S32x16384 .f32) (harg8 : arg8.IsWhole)
    (x0 : Vec F S8x32x8192 .i8) (x1 : Vec F S8x32x512 .f32) (x2 : Vec F S32x16384 .bf16) (x3 : Vec F S1x16384 .f32) : Vec F S32x16384 .bf16 :=
  VO0_4.read (Elt F) (VO0_4.writes (Elt F) VO0_4.junk (kernelRun0_A c i arg1 harg1 arg2 harg2 arg3 harg3 arg4 harg4 arg5 harg5 arg6 harg6 arg7 harg7 arg8 harg8 x0 x1 x2 x3).1)

/-- The run's pieces for output 5 tile its block (128 stores of 128 columns), so they cover it. -/
theorem cover0_A_5 (c : Dev nD) (i : grid0.Coords) (arg1 : Memref sig .tc .vmem S8x32x8192 .i8) (harg1 : arg1.IsWhole) (arg2 : Memref sig .tc .vmem S8x32x512 .f32) (harg2 : arg2.IsWhole) (arg3 : Memref sig .tc .vmem S32x16384 .bf16) (harg3 : arg3.IsWhole) (arg4 : Memref sig .tc .vmem S1x16384 .f32) (harg4 : arg4.IsWhole) (arg5 : Memref sig .tc .vmem S32x16384 .bf16) (harg5 : arg5.IsWhole) (arg6 : Memref sig .tc .vmem S32x16384 .fp8e4m3) (harg6 : arg6.IsWhole) (arg7 : Memref sig .tc .vmem S32x128 .f32) (harg7 : arg7.IsWhole) (arg8 : Memref sig .tc .vmem S32x16384 .f32) (harg8 : arg8.IsWhole)
    (x0 : Vec F S8x32x8192 .i8) (x1 : Vec F S8x32x512 .f32) (x2 : Vec F S32x16384 .bf16) (x3 : Vec F S1x16384 .f32) (y : S32x16384.Idx) :
    ∃ pc ∈ (kernelRun0_A c i arg1 harg1 arg2 harg2 arg3 harg3 arg4 harg4 arg5 harg5 arg6 harg6 arg7 harg7 arg8 harg8 x0 x1 x2 x3).2.1, y ∈ pc.1.set :=
  View.cover_of_tiledL (kernelRun0_A c i arg1 harg1 arg2 harg2 arg3 harg3 arg4 harg4 arg5 harg5 arg6 harg6 arg7 harg7 arg8 harg8 x0 x1 x2 x3).2.1 S32x128.size (by sl_kernel_rfl) y

/-- What the run leaves in output 5's staging buffer: its pieces read back over junk. -/
def out0_A_5 (c : Dev nD) (i : grid0.Coords) (arg1 : Memref sig .tc .vmem S8x32x8192 .i8) (harg1 : arg1.IsWhole) (arg2 : Memref sig .tc .vmem S8x32x512 .f32) (harg2 : arg2.IsWhole) (arg3 : Memref sig .tc .vmem S32x16384 .bf16) (harg3 : arg3.IsWhole) (arg4 : Memref sig .tc .vmem S1x16384 .f32) (harg4 : arg4.IsWhole) (arg5 : Memref sig .tc .vmem S32x16384 .bf16) (harg5 : arg5.IsWhole) (arg6 : Memref sig .tc .vmem S32x16384 .fp8e4m3) (harg6 : arg6.IsWhole) (arg7 : Memref sig .tc .vmem S32x128 .f32) (harg7 : arg7.IsWhole) (arg8 : Memref sig .tc .vmem S32x16384 .f32) (harg8 : arg8.IsWhole)
    (x0 : Vec F S8x32x8192 .i8) (x1 : Vec F S8x32x512 .f32) (x2 : Vec F S32x16384 .bf16) (x3 : Vec F S1x16384 .f32) : Vec F S32x16384 .fp8e4m3 :=
  VO0_5.read (Elt F) (VO0_5.writes (Elt F) VO0_5.junk (kernelRun0_A c i arg1 harg1 arg2 harg2 arg3 harg3 arg4 harg4 arg5 harg5 arg6 harg6 arg7 harg7 arg8 harg8 x0 x1 x2 x3).2.1)

/-- The run's pieces for output 6 tile its block (one store), so they cover it. -/
theorem cover0_A_6 (c : Dev nD) (i : grid0.Coords) (arg1 : Memref sig .tc .vmem S8x32x8192 .i8) (harg1 : arg1.IsWhole) (arg2 : Memref sig .tc .vmem S8x32x512 .f32) (harg2 : arg2.IsWhole) (arg3 : Memref sig .tc .vmem S32x16384 .bf16) (harg3 : arg3.IsWhole) (arg4 : Memref sig .tc .vmem S1x16384 .f32) (harg4 : arg4.IsWhole) (arg5 : Memref sig .tc .vmem S32x16384 .bf16) (harg5 : arg5.IsWhole) (arg6 : Memref sig .tc .vmem S32x16384 .fp8e4m3) (harg6 : arg6.IsWhole) (arg7 : Memref sig .tc .vmem S32x128 .f32) (harg7 : arg7.IsWhole) (arg8 : Memref sig .tc .vmem S32x16384 .f32) (harg8 : arg8.IsWhole)
    (x0 : Vec F S8x32x8192 .i8) (x1 : Vec F S8x32x512 .f32) (x2 : Vec F S32x16384 .bf16) (x3 : Vec F S1x16384 .f32) (y : S32x128.Idx) :
    ∃ pc ∈ (kernelRun0_A c i arg1 harg1 arg2 harg2 arg3 harg3 arg4 harg4 arg5 harg5 arg6 harg6 arg7 harg7 arg8 harg8 x0 x1 x2 x3).2.2.1, y ∈ pc.1.set :=
  View.cover_of_tiledL (kernelRun0_A c i arg1 harg1 arg2 harg2 arg3 harg3 arg4 harg4 arg5 harg5 arg6 harg6 arg7 harg7 arg8 harg8 x0 x1 x2 x3).2.2.1 S32x128.size (by sl_kernel_rfl) y

/-- What the run leaves in output 6's staging buffer: its pieces read back over junk. -/
def out0_A_6 (c : Dev nD) (i : grid0.Coords) (arg1 : Memref sig .tc .vmem S8x32x8192 .i8) (harg1 : arg1.IsWhole) (arg2 : Memref sig .tc .vmem S8x32x512 .f32) (harg2 : arg2.IsWhole) (arg3 : Memref sig .tc .vmem S32x16384 .bf16) (harg3 : arg3.IsWhole) (arg4 : Memref sig .tc .vmem S1x16384 .f32) (harg4 : arg4.IsWhole) (arg5 : Memref sig .tc .vmem S32x16384 .bf16) (harg5 : arg5.IsWhole) (arg6 : Memref sig .tc .vmem S32x16384 .fp8e4m3) (harg6 : arg6.IsWhole) (arg7 : Memref sig .tc .vmem S32x128 .f32) (harg7 : arg7.IsWhole) (arg8 : Memref sig .tc .vmem S32x16384 .f32) (harg8 : arg8.IsWhole)
    (x0 : Vec F S8x32x8192 .i8) (x1 : Vec F S8x32x512 .f32) (x2 : Vec F S32x16384 .bf16) (x3 : Vec F S1x16384 .f32) : Vec F S32x128 .f32 :=
  VO0_6.read (Elt F) (VO0_6.writes (Elt F) VO0_6.junk (kernelRun0_A c i arg1 harg1 arg2 harg2 arg3 harg3 arg4 harg4 arg5 harg5 arg6 harg6 arg7 harg7 arg8 harg8 x0 x1 x2 x3).2.2.1)

/-! ## What the outputs hold after each point -/

/-- What the outputs' staging buffers hold after the body at point `t` (as a tuple, in window order): the run's contents at
    the point's memrefs and input blocks. -/
def outsAt0 (c : Dev nD) (t : Fin cfg0.N) : Vec F S32x16384 .bf16 × Vec F S32x16384 .fp8e4m3 × Vec F S32x128 .f32 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t).1
    | ⟨5, _⟩ => (outsAt0 m c t).2.1
    | ⟨6, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t).1 := by dsimp only [dats]
theorem after0_5 (c : Dev nD) (t : Fin cfg0.N) : (dats m 0 c).after 5 t = (outsAt0 m c t).2.1 := by dsimp only [dats]
theorem after0_6 (c : Dev nD) (t : Fin cfg0.N) : (dats m 0 c).after 6 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt0
  unfold out0_A_4 out0_A_5 out0_A_6; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ (iblk m c 0 t) (iblk m c 1 t) (iblk m c 2 t) (iblk m c 3 t)).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  iintro ⟨H0, H1, H2, H3, ⟨%e4, H4⟩, ⟨%e5, H5⟩, ⟨%e6, H6⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_A_4 c _ _ _ _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _ _ _ _)
  unfold owns; iexists _; isplitr
  swap; · iexact H6
  ipureintro; exact View.read_writes_of_cover _ _ _ _ _ (cover0_A_6 c _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- For any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: every run ends, with the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Recv.Gen

end
-- ==== Proof.RecvRun.lean ====
/- One grid point of the first kernel: the body's run, and what its stores leave in each output block. -/
module

public import proofs.«01_k».proof.Proof.Gen.RecvIdeal.Frame.Runs

@[expose] public section

set_option maxRecDepth 65536

noncomputable section

namespace Cert.RecvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The state of the first loop after its last trip: its carried pair, and the pieces it stored. -/
abbrev stEnd (c : Dev nD) (i : grid0.Coords) (arg1 : Memref sig .tc .vmem S8x32x8192 .i8) (harg1 : arg1.IsWhole) (arg2 : Memref sig .tc .vmem S8x32x512 .f32) (harg2 : arg2.IsWhole) (arg3 : Memref sig .tc .vmem S32x16384 .bf16) (harg3 : arg3.IsWhole) (arg4 : Memref sig .tc .vmem S1x16384 .f32) (harg4 : arg4.IsWhole) (arg5 : Memref sig .tc .vmem S32x16384 .bf16) (harg5 : arg5.IsWhole) (arg6 : Memref sig .tc .vmem S32x16384 .fp8e4m3) (harg6 : arg6.IsWhole) (arg7 : Memref sig .tc .vmem S32x128 .f32) (harg7 : arg7.IsWhole) (arg8 : Memref sig .tc .vmem S32x16384 .f32) (harg8 : arg8.IsWhole)
    (v0 : IVec S32x128 32) (X1 : BufTy.Contents (Elt F) arg1.view.ty) (X2 : BufTy.Contents (Elt F) arg2.view.ty) (X3 : BufTy.Contents (Elt F) arg3.view.ty)
    (X4 : BufTy.Contents (Elt F) arg4.view.ty) (init : FVec F S32x128 .f32 × FVec F S32x128 .f32) :=
  st_k0_t1 (F := F) Variants.none c none i arg1 harg1 arg2 harg2 arg3 harg3 arg4 harg4 arg5 harg5 arg6 harg6 arg7 harg7 arg8 harg8 v0 X1 X2 X3 X4 init (Scf.trips k0_t1_loop.lb k0_t1_loop.ub k0_t1_loop.st)

/-- The first loop's stores to the scratch cover it. -/
theorem cover_scr (c : Dev nD) (i : grid0.Coords) (arg1 : Memref sig .tc .vmem S8x32x8192 .i8) (harg1 : arg1.IsWhole) (arg2 : Memref sig .tc .vmem S8x32x512 .f32) (harg2 : arg2.IsWhole) (arg3 : Memref sig .tc .vmem S32x16384 .bf16) (harg3 : arg3.IsWhole) (arg4 : Memref sig .tc .vmem S1x16384 .f32) (harg4 : arg4.IsWhole) (arg5 : Memref sig .tc .vmem S32x16384 .bf16) (harg5 : arg5.IsWhole) (arg6 : Memref sig .tc .vmem S32x16384 .fp8e4m3) (harg6 : arg6.IsWhole) (arg7 : Memref sig .tc .vmem S32x128 .f32) (harg7 : arg7.IsWhole) (arg8 : Memref sig .tc .vmem S32x16384 .f32) (harg8 : arg8.IsWhole)
    (v0 : IVec S32x128 32) (X1 : BufTy.Contents (Elt F) arg1.view.ty) (X2 : BufTy.Contents (Elt F) arg2.view.ty) (X3 : BufTy.Contents (Elt F) arg3.view.ty)
    (X4 : BufTy.Contents (Elt F) arg4.view.ty) (init : FVec F S32x128 .f32 × FVec F S32x128 .f32) (y : S32x16384.Idx) :
    ∃ p ∈ (stEnd c i arg1 harg1 arg2 harg2 arg3 harg3 arg4 harg4 arg5 harg5 arg6 harg6 arg7 harg7 arg8 harg8 v0 X1 X2 X3 X4 init).2.2, y ∈ p.1.set :=
  View.cover_of_tiledL (stEnd c i arg1 harg1 arg2 harg2 arg3 harg3 arg4 harg4 arg5 harg5 arg6 harg6 arg7 harg7 arg8 harg8 v0 X1 X2 X3 X4 init).2.2 S32x128.size (by sl_kernel_rfl) y

/-- So the scratch, whatever it held, holds what those stores read back as. -/
theorem scr_eq (c : Dev nD) (i : grid0.Coords) (arg1 : Memref sig .tc .vmem S8x32x8192 .i8) (harg1 : arg1.IsWhole) (arg2 : Memref sig .tc .vmem S8x32x512 .f32) (harg2 : arg2.IsWhole) (arg3 : Memref sig .tc .vmem S32x16384 .bf16) (harg3 : arg3.IsWhole) (arg4 : Memref sig .tc .vmem S1x16384 .f32) (harg4 : arg4.IsWhole) (arg5 : Memref sig .tc .vmem S32x16384 .bf16) (harg5 : arg5.IsWhole) (arg6 : Memref sig .tc .vmem S32x16384 .fp8e4m3) (harg6 : arg6.IsWhole) (arg7 : Memref sig .tc .vmem S32x128 .f32) (harg7 : arg7.IsWhole) (arg8 : Memref sig .tc .vmem S32x16384 .f32) (harg8 : arg8.IsWhole)
    (v0 : IVec S32x128 32) (X1 : BufTy.Contents (Elt F) arg1.view.ty) (X2 : BufTy.Contents (Elt F) arg2.view.ty) (X3 : BufTy.Contents (Elt F) arg3.view.ty)
    (X4 : BufTy.Contents (Elt F) arg4.view.ty) (init : FVec F S32x128 .f32 × FVec F S32x128 .f32) (f : BufTy.Contents (Elt F) arg8.view.ty) :
    arg8.view.writes (Elt F) f (stEnd c i arg1 harg1 arg2 harg2 arg3 harg3 arg4 harg4 arg5 harg5 arg6 harg6 arg7 harg7 arg8 harg8 v0 X1 X2 X3 X4 init).2.2
      = harg8.unread (View.canon (stEnd c i arg1 harg1 arg2 harg2 arg3 harg3 arg4 harg4 arg5 harg5 arg6 harg6 arg7 harg7 arg8 harg8 v0 X1 X2 X3 X4 init).2.2) :=
  harg8.eq_unread (View.read_writes_eq_canon _ _ _ (cover_scr c i arg1 harg1 arg2 harg2 arg3 harg3 arg4 harg4 arg5 harg5 arg6 harg6 arg7 harg7 arg8 harg8 v0 X1 X2 X3 X4 init))

-- (the run's proof term is large: the definition's epilogue — `abstractNestedProofs` — walks it past the default budget)
set_option maxHeartbeats 4000000 in
/-- What the body's stores leave in each output's staging memref, as pieces (last first), with the proof that the body runs
    from its inputs at their contents, the outputs and the scratch at anything, and leaves those pieces written. -/
noncomputable def kernelRun0_A (c : Dev nD) (i : grid0.Coords) (arg1 : Memref sig .tc .vmem S8x32x8192 .i8) (harg1 : arg1.IsWhole) (arg2 : Memref sig .tc .vmem S8x32x512 .f32) (harg2 : arg2.IsWhole) (arg3 : Memref sig .tc .vmem S32x16384 .bf16) (harg3 : arg3.IsWhole) (arg4 : Memref sig .tc .vmem S1x16384 .f32) (harg4 : arg4.IsWhole) (arg5 : Memref sig .tc .vmem S32x16384 .bf16) (harg5 : arg5.IsWhole) (arg6 : Memref sig .tc .vmem S32x16384 .fp8e4m3) (harg6 : arg6.IsWhole) (arg7 : Memref sig .tc .vmem S32x128 .f32) (harg7 : arg7.IsWhole) (arg8 : Memref sig .tc .vmem S32x16384 .f32) (harg8 : arg8.IsWhole)
    (x0 : Vec F S8x32x8192 .i8) (x1 : Vec F S8x32x512 .f32) (x2 : Vec F S32x16384 .bf16) (x3 : Vec F S1x16384 .f32) :
    Σ' (L4 : List (View.Piece (Elt F) S32x16384 .bf16)), Σ' (L5 : List (View.Piece (Elt F) S32x16384 .fp8e4m3)), { L6 : List (View.Piece (Elt F) S32x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ d, owns (c : Thread nD τ) arg8 fullShare d)) -∗ K ⟨⟩))
          ⊢ wp frame (wpE (defs₀ (F := F)) Variants.none c none) E (cc0_recv i arg1 harg1 arg2 harg2 arg3 harg3 arg4 harg4 arg5 harg5 arg6 harg6 arg7 harg7 arg8 harg8) K } := by
  refine ⟨?_, ?_, ?_, fun E K => ?run⟩
  case run =>
    simp only [cc0_recv_eq_skeleton]; unfold cc0_recv_skel
    simp only [k0_part102_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3
    sl_exec
    sl_step
    rw [scr_eq]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _, _; isplitr; swap; · iexact HS0
    ipureintro; rfl

end Cert.RecvIdeal.Gen

end
-- ==== Proof.RecvFrame.lean ====
/- The first kernel's frame: what its outputs hold after each grid point, and the run of the whole program. -/
module

public import proofs.«01_k».proof.Proof.RecvRun
public import Idealize.ShloMosaic.Lib.Claim

@[expose] public section

set_option maxRecDepth 16384

noncomputable section

namespace Cert.RecvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 4 tile its block (128 stores of 128 columns), so they cover it. -/
theorem cover0_A_4 (c : Dev nD) (i : grid0.Coords) (arg1 : Memref sig .tc .vmem S8x32x8192 .i8) (harg1 : arg1.IsWhole) (arg2 : Memref sig .tc .vmem S8x32x512 .f32) (harg2 : arg2.IsWhole) (arg3 : Memref sig .tc .vmem S32x16384 .bf16) (harg3 : arg3.IsWhole) (arg4 : Memref sig .tc .vmem S1x16384 .f32) (harg4 : arg4.IsWhole) (arg5 : Memref sig .tc .vmem S32x16384 .bf16) (harg5 : arg5.IsWhole) (arg6 : Memref sig .tc .vmem S32x16384 .fp8e4m3) (harg6 : arg6.IsWhole) (arg7 : Memref sig .tc .vmem S32x128 .f32) (harg7 : arg7.IsWhole) (arg8 : Memref sig .tc .vmem S32x16384 .f32) (harg8 : arg8.IsWhole)
    (x0 : Vec F S8x32x8192 .i8) (x1 : Vec F S8x32x512 .f32) (x2 : Vec F S32x16384 .bf16) (x3 : Vec F S1x16384 .f32) (y : S32x16384.Idx) :
    ∃ pc ∈ (kernelRun0_A c i arg1 harg1 arg2 harg2 arg3 harg3 arg4 harg4 arg5 harg5 arg6 harg6 arg7 harg7 arg8 harg8 x0 x1 x2 x3).1, y ∈ pc.1.set :=
  View.cover_of_tiledL (kernelRun0_A c i arg1 harg1 arg2 harg2 arg3 harg3 arg4 harg4 arg5 harg5 arg6 harg6 arg7 harg7 arg8 harg8 x0 x1 x2 x3).1 S32x128.size (by sl_kernel_rfl) y

/-- What the run leaves in output 4's staging buffer: its pieces read back over junk. -/
def out0_A_4 (c : Dev nD) (i : grid0.Coords) (arg1 : Memref sig .tc .vmem S8x32x8192 .i8) (harg1 : arg1.IsWhole) (arg2 : Memref sig .tc .vmem S8x32x512 .f32) (harg2 : arg2.IsWhole) (arg3 : Memref sig .tc .vmem S32x16384 .bf16) (harg3 : arg3.IsWhole) (arg4 : Memref sig .tc .vmem S1x16384 .f32) (harg4 : arg4.IsWhole) (arg5 : Memref sig .tc .vmem S32x16384 .bf16) (harg5 : arg5.IsWhole) (arg6 : Memref sig .tc .vmem S32x16384 .fp8e4m3) (harg6 : arg6.IsWhole) (arg7 : Memref sig .tc .vmem S32x128 .f32) (harg7 : arg7.IsWhole) (arg8 : Memref sig .tc .vmem S32x16384 .f32) (harg8 : arg8.IsWhole)
    (x0 : Vec F S8x32x8192 .i8) (x1 : Vec F S8x32x512 .f32) (x2 : Vec F S32x16384 .bf16) (x3 : Vec F S1x16384 .f32) : Vec F S32x16384 .bf16 :=
  VO0_4.read (Elt F) (VO0_4.writes (Elt F) VO0_4.junk (kernelRun0_A c i arg1 harg1 arg2 harg2 arg3 harg3 arg4 harg4 arg5 harg5 arg6 harg6 arg7 harg7 arg8 harg8 x0 x1 x2 x3).1)

/-- The run's pieces for output 5 tile its block (128 stores of 128 columns), so they cover it. -/
theorem cover0_A_5 (c : Dev nD) (i : grid0.Coords) (arg1 : Memref sig .tc .vmem S8x32x8192 .i8) (harg1 : arg1.IsWhole) (arg2 : Memref sig .tc .vmem S8x32x512 .f32) (harg2 : arg2.IsWhole) (arg3 : Memref sig .tc .vmem S32x16384 .bf16) (harg3 : arg3.IsWhole) (arg4 : Memref sig .tc .vmem S1x16384 .f32) (harg4 : arg4.IsWhole) (arg5 : Memref sig .tc .vmem S32x16384 .bf16) (harg5 : arg5.IsWhole) (arg6 : Memref sig .tc .vmem S32x16384 .fp8e4m3) (harg6 : arg6.IsWhole) (arg7 : Memref sig .tc .vmem S32x128 .f32) (harg7 : arg7.IsWhole) (arg8 : Memref sig .tc .vmem S32x16384 .f32) (harg8 : arg8.IsWhole)
    (x0 : Vec F S8x32x8192 .i8) (x1 : Vec F S8x32x512 .f32) (x2 : Vec F S32x16384 .bf16) (x3 : Vec F S1x16384 .f32) (y : S32x16384.Idx) :
    ∃ pc ∈ (kernelRun0_A c i arg1 harg1 arg2 harg2 arg3 harg3 arg4 harg4 arg5 harg5 arg6 harg6 arg7 harg7 arg8 harg8 x0 x1 x2 x3).2.1, y ∈ pc.1.set :=
  View.cover_of_tiledL (kernelRun0_A c i arg1 harg1 arg2 harg2 arg3 harg3 arg4 harg4 arg5 harg5 arg6 harg6 arg7 harg7 arg8 harg8 x0 x1 x2 x3).2.1 S32x128.size (by sl_kernel_rfl) y

/-- What the run leaves in output 5's staging buffer: its pieces read back over junk. -/
def out0_A_5 (c : Dev nD) (i : grid0.Coords) (arg1 : Memref sig .tc .vmem S8x32x8192 .i8) (harg1 : arg1.IsWhole) (arg2 : Memref sig .tc .vmem S8x32x512 .f32) (harg2 : arg2.IsWhole) (arg3 : Memref sig .tc .vmem S32x16384 .bf16) (harg3 : arg3.IsWhole) (arg4 : Memref sig .tc .vmem S1x16384 .f32) (harg4 : arg4.IsWhole) (arg5 : Memref sig .tc .vmem S32x16384 .bf16) (harg5 : arg5.IsWhole) (arg6 : Memref sig .tc .vmem S32x16384 .fp8e4m3) (harg6 : arg6.IsWhole) (arg7 : Memref sig .tc .vmem S32x128 .f32) (harg7 : arg7.IsWhole) (arg8 : Memref sig .tc .vmem S32x16384 .f32) (harg8 : arg8.IsWhole)
    (x0 : Vec F S8x32x8192 .i8) (x1 : Vec F S8x32x512 .f32) (x2 : Vec F S32x16384 .bf16) (x3 : Vec F S1x16384 .f32) : Vec F S32x16384 .fp8e4m3 :=
  VO0_5.read (Elt F) (VO0_5.writes (Elt F) VO0_5.junk (kernelRun0_A c i arg1 harg1 arg2 harg2 arg3 harg3 arg4 harg4 arg5 harg5 arg6 harg6 arg7 harg7 arg8 harg8 x0 x1 x2 x3).2.1)

/-- The run's pieces for output 6 tile its block (one store), so they cover it. -/
theorem cover0_A_6 (c : Dev nD) (i : grid0.Coords) (arg1 : Memref sig .tc .vmem S8x32x8192 .i8) (harg1 : arg1.IsWhole) (arg2 : Memref sig .tc .vmem S8x32x512 .f32) (harg2 : arg2.IsWhole) (arg3 : Memref sig .tc .vmem S32x16384 .bf16) (harg3 : arg3.IsWhole) (arg4 : Memref sig .tc .vmem S1x16384 .f32) (harg4 : arg4.IsWhole) (arg5 : Memref sig .tc .vmem S32x16384 .bf16) (harg5 : arg5.IsWhole) (arg6 : Memref sig .tc .vmem S32x16384 .fp8e4m3) (harg6 : arg6.IsWhole) (arg7 : Memref sig .tc .vmem S32x128 .f32) (harg7 : arg7.IsWhole) (arg8 : Memref sig .tc .vmem S32x16384 .f32) (harg8 : arg8.IsWhole)
    (x0 : Vec F S8x32x8192 .i8) (x1 : Vec F S8x32x512 .f32) (x2 : Vec F S32x16384 .bf16) (x3 : Vec F S1x16384 .f32) (y : S32x128.Idx) :
    ∃ pc ∈ (kernelRun0_A c i arg1 harg1 arg2 harg2 arg3 harg3 arg4 harg4 arg5 harg5 arg6 harg6 arg7 harg7 arg8 harg8 x0 x1 x2 x3).2.2.1, y ∈ pc.1.set :=
  View.cover_of_tiledL (kernelRun0_A c i arg1 harg1 arg2 harg2 arg3 harg3 arg4 harg4 arg5 harg5 arg6 harg6 arg7 harg7 arg8 harg8 x0 x1 x2 x3).2.2.1 S32x128.size (by sl_kernel_rfl) y

/-- What the run leaves in output 6's staging buffer: its pieces read back over junk. -/
def out0_A_6 (c : Dev nD) (i : grid0.Coords) (arg1 : Memref sig .tc .vmem S8x32x8192 .i8) (harg1 : arg1.IsWhole) (arg2 : Memref sig .tc .vmem S8x32x512 .f32) (harg2 : arg2.IsWhole) (arg3 : Memref sig .tc .vmem S32x16384 .bf16) (harg3 : arg3.IsWhole) (arg4 : Memref sig .tc .vmem S1x16384 .f32) (harg4 : arg4.IsWhole) (arg5 : Memref sig .tc .vmem S32x16384 .bf16) (harg5 : arg5.IsWhole) (arg6 : Memref sig .tc .vmem S32x16384 .fp8e4m3) (harg6 : arg6.IsWhole) (arg7 : Memref sig .tc .vmem S32x128 .f32) (harg7 : arg7.IsWhole) (arg8 : Memref sig .tc .vmem S32x16384 .f32) (harg8 : arg8.IsWhole)
    (x0 : Vec F S8x32x8192 .i8) (x1 : Vec F S8x32x512 .f32) (x2 : Vec F S32x16384 .bf16) (x3 : Vec F S1x16384 .f32) : Vec F S32x128 .f32 :=
  VO0_6.read (Elt F) (VO0_6.writes (Elt F) VO0_6.junk (kernelRun0_A c i arg1 harg1 arg2 harg2 arg3 harg3 arg4 harg4 arg5 harg5 arg6 harg6 arg7 harg7 arg8 harg8 x0 x1 x2 x3).2.2.1)

/-! ## What the outputs hold after each point -/

/-- What the outputs' staging buffers hold after the body at point `t` (as a tuple, in window order): the run's contents at
    the point's memrefs and input blocks. -/
def outsAt0 (c : Dev nD) (t : Fin cfg0.N) : Vec F S32x16384 .bf16 × Vec F S32x16384 .fp8e4m3 × Vec F S32x128 .f32 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t).1
    | ⟨5, _⟩ => (outsAt0 m c t).2.1
    | ⟨6, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t).1 := by dsimp only [dats]
theorem after0_5 (c : Dev nD) (t : Fin cfg0.N) : (dats m 0 c).after 5 t = (outsAt0 m c t).2.1 := by dsimp only [dats]
theorem after0_6 (c : Dev nD) (t : Fin cfg0.N) : (dats m 0 c).after 6 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt0
  unfold out0_A_4 out0_A_5 out0_A_6; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ (iblk m c 0 t) (iblk m c 1 t) (iblk m c 2 t) (iblk m c 3 t)).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  iintro ⟨H0, H1, H2, H3, ⟨%e4, H4⟩, ⟨%e5, H5⟩, ⟨%e6, H6⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_A_4 c _ _ _ _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _ _ _ _)
  unfold owns; iexists _; isplitr
  swap; · iexact H6
  ipureintro; exact View.read_writes_of_cover _ _ _ _ _ (cover0_A_6 c _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- For any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: every run ends, with the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.RecvIdeal.Gen

end
-- ==== Proof.RecvSpec.lean ====
/- The mathematics of the first kernel, over the extended reals: a residual row put together from coded shards, its root mean
   square norm, and the norm's quantiser in the two orders of scaling — the two give one answer. -/
module

public import proofs.«01_k».proof.Proof.Spec

@[expose] public section

noncomputable section

namespace Cert.Spec

open Idealize.ShloMosaic

/-- The low and the high half of a byte, each a signed number of four bits. -/
def low (b : BitVec 8) : ℤ := ((b.setWidth 32 <<< 28).sshiftRight 28).toInt
def high (b : BitVec 8) : ℤ := ((b.setWidth 32 <<< 24).sshiftRight 28).toInt

/-- The half byte of column `j`: the low halves are the even columns. -/
def half (b : BitVec 8) (j : ℕ) : EReal := if j % 2 = 0 then ((low b : ℝ) : EReal) else ((high b : ℝ) : EReal)

/-- Column `j` of a residual row: the sum of the shards' half bytes, each at the scale of its 32 columns, and the residual. -/
def hcol (b : Fin 8 → Fin 8192 → BitVec 8) (s : Fin 8 → Fin 512 → EReal) (x : Fin 16384 → EReal) (j : Fin 16384) : EReal :=
  (∑ r, half (b r ⟨j.val / 2, by omega⟩) j.val * s r ⟨j.val / 32, by omega⟩) + x j

abbrev c16384 : EReal := Ideal.ofBits FTy.f32 0x46800000#32
abbrev eps : EReal := Ideal.ofBits FTy.f32 0x3727C5AC#32
abbrev one : EReal := Ideal.ofBits FTy.f32 0x3F800000#32

/-- The root of the mean of the squares, a small number added. -/
def rms (h : Fin 16384 → EReal) : EReal := Ideal.sqrt (Ideal.div (∑ j, h j * h j) c16384 + eps)

/-- The norm of a row, weighted. -/
def normed (h w : Fin 16384 → EReal) (j : Fin 16384) : EReal := Ideal.div (h j) (rms h) * w j

/-- The same quantities with the scaling put off: the inverse root, the scale and the factor of a row. -/
def inv (h : Fin 16384 → EReal) : EReal := Ideal.div one (rms h)
def lateScale (h w : Fin 16384 → EReal) : EReal := qscale (top (fun j => mag (h j * w j)) * inv h)
def lateCode (h w : Fin 16384 → EReal) (j : Fin 16384) : EReal :=
  min c448 (max m448 (h j * w j * Ideal.div (inv h) (lateScale h w)))

theorem one_eq : one = 1 := by
  simp [one, Ideal.ofBits, Ideal.ieee]
  rw [← EReal.coe_mul]
  norm_num

theorem c16384_eq : c16384 = ((16384 : ℝ) : EReal) := by
  simp [c16384, Ideal.ofBits, Ideal.ieee]
  rw [← EReal.coe_mul]
  norm_num

theorem c448_eq : c448 = ((448 : ℝ) : EReal) := by
  simp [c448, Ideal.ofBits, Ideal.ieee]
  rw [← EReal.coe_mul]
  norm_num

theorem eps_pos : 0 < eps := by
  simp [eps, Ideal.ofBits, Ideal.ieee]
  rw [← EReal.coe_mul]
  norm_num

theorem div_ne (x : EReal) {y : EReal} (hy : y ≠ 0) : Ideal.div x y = x * y⁻¹ := if_neg hy

theorem sq_nonneg (x : EReal) : 0 ≤ x * x := by
  induction x using EReal.rec with
  | bot => simp
  | coe r => rw [← EReal.coe_mul]; exact EReal.coe_nonneg.2 (mul_self_nonneg r)
  | top => simp

theorem rms_pos (h : Fin 16384 → EReal) : 0 < rms h := by
  have hs : 0 ≤ ∑ j, h j * h j := Finset.sum_nonneg fun j _ => sq_nonneg _
  have hd : 0 ≤ Ideal.div (∑ j, h j * h j) c16384 := by
    rw [div_ne _ (by rw [c16384_eq]; norm_num)]
    refine mul_nonneg hs ?_
    rw [c16384_eq, ← EReal.coe_inv]
    exact EReal.coe_nonneg.2 (by norm_num)
  have hm : 0 < Ideal.div (∑ j, h j * h j) c16384 + eps := lt_of_lt_of_le eps_pos (le_add_of_nonneg_left hd)
  unfold rms
  revert hm
  generalize Ideal.div (∑ j, h j * h j) c16384 + eps = y
  intro hy
  induction y using EReal.rec with
  | bot => simp at hy
  | coe r =>
    have hr : 0 < r := EReal.coe_pos.1 hy
    show 0 < (if r < 0 then ⊥ else (Real.sqrt r : EReal))
    rw [if_neg (not_lt.2 hr.le)]
    exact EReal.coe_pos.2 (Real.sqrt_pos.2 hr)
  | top => exact hy

theorem inv_eq (h : Fin 16384 → EReal) : inv h = (rms h)⁻¹ := by
  unfold inv
  rw [div_ne _ (rms_pos h).ne', one_eq, one_mul]

theorem inv_nonneg (h : Fin 16384 → EReal) : 0 ≤ inv h := by
  rw [inv_eq]
  exact EReal.inv_nonneg_of_nonneg (rms_pos h).le

theorem normed_eq (h w : Fin 16384 → EReal) (j : Fin 16384) : normed h w j = h j * w j * inv h := by
  unfold normed
  rw [div_ne _ (rms_pos h).ne', inv_eq, mul_assoc, mul_assoc, mul_comm (w j)]

theorem mag_mul (a : EReal) {c : EReal} (hc : 0 ≤ c) : mag (a * c) = mag a * c := by
  have hm : Monotone fun x : EReal => x * c := fun x y hxy => mul_le_mul_of_nonneg_right hxy hc
  show max (a * c) (-(a * c)) = max a (-a) * c
  rw [← EReal.neg_mul]
  exact (hm.map_max (a := a) (b := -a)).symm

theorem top_mul {n : ℕ} (f : Fin (n + 1) → EReal) {c : EReal} (hc : 0 ≤ c) : top (fun j => f j * c) = top f * c := by
  refine le_antisymm ((top_le _ _).2 fun j => mul_le_mul_of_nonneg_right ((top_le f _).1 le_rfl j) hc) ?_
  obtain ⟨j, -, hj⟩ := Finset.exists_max_image Finset.univ f ⟨0, Finset.mem_univ _⟩
  exact (mul_le_mul_of_nonneg_right ((top_le f _).2 fun k => hj k (Finset.mem_univ _)) hc).trans
    ((top_le (fun j => f j * c) _).1 le_rfl j)

theorem lateScale_eq (h w : Fin 16384 → EReal) : lateScale h w = rowScale (normed h w) := by
  unfold lateScale rowScale
  rw [← top_mul (n := 16383) (fun j => mag (h j * w j)) (inv_nonneg h)]
  refine congrArg (fun f => qscale (top f)) (funext fun j => ?_)
  rw [normed_eq, mag_mul _ (inv_nonneg h)]

theorem qscale_ne {a : EReal} (ha : 0 ≤ a) : qscale a ≠ 0 := by
  unfold qscale
  split
  · exact one_ne_zero
  · rename_i h
    rw [div_ne _ (by rw [c448_eq]; norm_num), c448_eq, ← EReal.coe_inv]
    exact (EReal.mul_pos (lt_of_le_of_ne ha (Ne.symm h)) (EReal.coe_pos.2 (by norm_num))).ne'

theorem lateCode_eq (h w : Fin 16384 → EReal) (j : Fin 16384) : lateCode h w j = rowCode (normed h w) j := by
  have hs : lateScale h w ≠ 0 := qscale_ne (mul_nonneg ((mag_nonneg _).trans ((top_le (fun j => mag (h j * w j)) _).1 le_rfl j)) (inv_nonneg h))
  unfold lateCode rowCode qcode
  rw [← lateScale_eq, div_ne _ hs, div_ne _ hs, normed_eq, mul_assoc (h j * w j)]

/-- Column `128 q + l` of a row, `q` not bounded. -/
def at' (f : Fin 16384 → EReal) (q : ℕ) (l : Fin 128) : EReal := if h : 128 * q + l.val < 16384 then f ⟨128 * q + l.val, h⟩ else 0

/-- A row's sum is the sum of its 128 lanes' sums. -/
theorem lane_sum (f : Fin 16384 → EReal) : ∑ l : Fin 128, ∑ q ∈ Finset.range 128, at' f q l = ∑ j, f j := by
  have h1 : ∀ l : Fin 128, ∑ q ∈ Finset.range 128, at' f q l = ∑ q : Fin 128, f ⟨128 * q.val + l.val, by omega⟩ := fun l => by
    rw [Finset.sum_range]
    exact Finset.sum_congr rfl fun q _ => dif_pos (by omega)
  rw [Finset.sum_congr rfl fun l _ => h1 l, Finset.sum_comm, ← Fintype.sum_prod_type']
  refine Fintype.sum_equiv (finProdFinEquiv (m := 128) (n := 128)) _ _ fun x => congrArg f (Fin.ext ?_)
  show 128 * x.1.val + x.2.val = x.2.val + 128 * x.1.val
  omega

/-- A row's maximum from its lanes' maxima. -/
theorem lane_top (f : Fin 16384 → EReal) (h0 : ∀ j, 0 ≤ f j) (g : Fin 128 → EReal)
    (hg : ∀ l b, g l ≤ b ↔ 0 ≤ b ∧ ∀ q < 128, at' f q l ≤ b) : top g = top f := by
  refine le_antisymm ((top_le _ _).2 fun l => (hg l _).2 ⟨(h0 0).trans ((top_le f _).1 le_rfl 0), fun q hq => ?_⟩)
    ((top_le _ _).2 fun j => ?_)
  · have : 128 * q + l.val < 16384 := by omega
    unfold at'
    rw [dif_pos this]
    exact (top_le f _).1 le_rfl _
  · have h1 := (hg ⟨j.val % 128, by omega⟩ (top g)).1 ((top_le g _).1 le_rfl _)
    have h2 := h1.2 (j.val / 128) (by omega)
    unfold at' at h2
    rw [dif_pos (show 128 * (j.val / 128) + j.val % 128 < 16384 by omega)] at h2
    convert h2 using 2
    exact Fin.ext (by show j.val = 128 * (j.val / 128) + j.val % 128; omega)

end Cert.Spec

end
-- ==== Proof.RecvTrip.lean ====
/- One trip of the first loop of the first kernel, over its loads: the two half-bytes of each byte of eight shards, each times its
   scale and added up; the lanes of the two sums put in column order; the residual added. -/
module

public import proofs.«01_k».proof.Proof.Gen.RecvIdeal.Loops
public import Idealize.ShloMosaic.Lib.Pipeline.ValueKit

@[expose] public section

set_option maxRecDepth 65536
set_option maxHeartbeats 4000000

noncomputable section

namespace Cert.RecvIdeal.Trip

open Cert.RecvIdeal Cert.RecvIdeal.Gen Idealize.ShloMosaic Idealize.ShloMosaic.TcCoe Idealize.ShloMosaic.Tactic Idealize.SL.Sem

/-- The bytes of a load, as words. -/
def words (v : Vec Ideal S1x32x128 .i8) : IVec S8x128 32 :=
  bitcast S8x128 32 (shapeCast S32x128 v shapeCasts_S1x32x128_S32x128 : IVec S32x128 8) bitcasts_S32x128_w8_S8x128_w32

/-- The words' bytes, as signed numbers. -/
def bytes (w : IVec S8x128 32) : FVec Ideal S32x128 .f32 :=
  extf .f32 (sitofp (F := Ideal) .bf16 (bitcast S32x128 8 w bitcasts_S8x128_w32_S32x128_w8)) bitsLt_bf16_f32

/-- Sixteen times the low half of each byte, and of the high half. -/
def lo (v : Vec Ideal S1x32x128 .i8) : FVec Ideal S32x128 .f32 :=
  bytes (andi (shli (words v) (broadcast S8x128 4#32)) (broadcast S8x128 4042322160#32))
def hi (v : Vec Ideal S1x32x128 .i8) : FVec Ideal S32x128 .f32 :=
  bytes (andi (words v) (broadcast S8x128 4042322160#32))

/-- The lanes of `s` named by `ix`. -/
def gather (s : FVec Ideal S32x128 .f32) (ix : IVec S32x128 32) : FVec Ideal S32x128 .f32 :=
  dynamicGather 1 s (shapeCast S32x128 (shapeCast S32x128x1 (select (cmpi .slt ix (broadcast S32x128 0#32))
    (addi ix (broadcast S32x128 128#32)) ix) shapeCasts_S32x128_S32x128x1) shapeCasts_S32x128x1_S32x128)

/-- A sixteenth of a load of scales. -/
def sixteenth (s : Vec Ideal S1x32x128 .f32) : FVec Ideal S32x128 .f32 :=
  mulf (shapeCast S32x128 s shapeCasts_S1x32x128_S32x128) (broadcast S32x128 (Scalar.ofBits (F := Ideal) .f32 0x3D800000#32))

/-- The scale lane of each byte lane of chunk `n`. -/
def sidx (n : ℕ) (v0 : IVec S32x128 32) : IVec S32x128 32 :=
  addi (broadcast S32x128 (BitVec.ofNat 32 n)) (shrsi v0 (broadcast S32x128 4#32))

/-- The sum over the eight shards of a decoded load times its scales. -/
def sum8 (x0 x1 x2 x3 x4 x5 x6 x7 s0 s1 s2 s3 s4 s5 s6 s7 : FVec Ideal S32x128 .f32) (ix : IVec S32x128 32) : FVec Ideal S32x128 .f32 :=
  addf (addf (addf (addf (addf (addf (addf (mulf x0 (gather s0 ix)) (mulf x1 (gather s1 ix))) (mulf x2 (gather s2 ix)))
    (mulf x3 (gather s3 ix))) (mulf x4 (gather s4 ix))) (mulf x5 (gather s5 ix))) (mulf x6 (gather s6 ix))) (mulf x7 (gather s7 ix))

/-- The two sums with their lanes in column order, the columns of the first and of the second 128. -/
def lanesA (e o : FVec Ideal S32x128 .f32) : FVec Ideal S32x128 .f32 := gather (select k0_pay808 e o) k0_pay810
def lanesB (e o : FVec Ideal S32x128 .f32) : FVec Ideal S32x128 .f32 := gather (select k0_pay808 o e) k0_pay811
def half0 (e o : FVec Ideal S32x128 .f32) (x : Vec Ideal S32x128 .bf16) : FVec Ideal S32x128 .f32 :=
  addf (select k0_pay809 (lanesA e o) (lanesB e o)) (extf (F := Ideal) .f32 x bitsLt_bf16_f32)
def half1 (e o : FVec Ideal S32x128 .f32) (x : Vec Ideal S32x128 .bf16) : FVec Ideal S32x128 .f32 :=
  addf (select k0_pay809 (lanesB e o) (lanesA e o)) (extf (F := Ideal) .f32 x bitsLt_bf16_f32)

section Loads

variable (arg1 : Memref sig .tc .vmem S8x32x8192 .i8) (arg2 : Memref sig .tc .vmem S8x32x512 .f32)
  (arg3 : Memref sig .tc .vmem S32x16384 .bf16) (arg4 : Memref sig .tc .vmem S1x16384 .f32) (v0 : IVec S32x128 32)
  (X1 : BufTy.Contents (Elt Ideal) arg1.view.ty) (X2 : BufTy.Contents (Elt Ideal) arg2.view.ty)
  (X3 : BufTy.Contents (Elt Ideal) arg3.view.ty) (X4 : BufTy.Contents (Elt Ideal) arg4.view.ty) (k : Fin k0_t1_loop.trips)

/-- The codes of shard 0, chunk `c` of trip `k`, and that shard's scales of trip `k`. -/
def code0 (c : Fin 16) : Vec Ideal S1x32x128 .i8 :=
  View.readAt (Elt Ideal) arg1.view (Rect.unit (s := S8x32x8192) (k0_off9 k (BitVec.ofNat 32 c.val)) S1x32x128.size (k0_off9_inb k c)).toLoadRect X1
def scl0 : FVec Ideal S32x128 .f32 :=
  sixteenth (View.readAt (Elt Ideal) arg2.view (Rect.unit (s := S8x32x512) (k0_off1 k) S1x32x128.size (k0_off1_inb k)).toLoadRect X2)
/-- The codes of shard 1, chunk `c` of trip `k`, and that shard's scales of trip `k`. -/
def code1 (c : Fin 16) : Vec Ideal S1x32x128 .i8 :=
  View.readAt (Elt Ideal) arg1.view (Rect.unit (s := S8x32x8192) (k0_off10 k (BitVec.ofNat 32 c.val)) S1x32x128.size (k0_off10_inb k c)).toLoadRect X1
def scl1 : FVec Ideal S32x128 .f32 :=
  sixteenth (View.readAt (Elt Ideal) arg2.view (Rect.unit (s := S8x32x512) (k0_off2 k) S1x32x128.size (k0_off2_inb k)).toLoadRect X2)
/-- The codes of shard 2, chunk `c` of trip `k`, and that shard's scales of trip `k`. -/
def code2 (c : Fin 16) : Vec Ideal S1x32x128 .i8 :=
  View.readAt (Elt Ideal) arg1.view (Rect.unit (s := S8x32x8192) (k0_off11 k (BitVec.ofNat 32 c.val)) S1x32x128.size (k0_off11_inb k c)).toLoadRect X1
def scl2 : FVec Ideal S32x128 .f32 :=
  sixteenth (View.readAt (Elt Ideal) arg2.view (Rect.unit (s := S8x32x512) (k0_off3 k) S1x32x128.size (k0_off3_inb k)).toLoadRect X2)
/-- The codes of shard 3, chunk `c` of trip `k`, and that shard's scales of trip `k`. -/
def code3 (c : Fin 16) : Vec Ideal S1x32x128 .i8 :=
  View.readAt (Elt Ideal) arg1.view (Rect.unit (s := S8x32x8192) (k0_off12 k (BitVec.ofNat 32 c.val)) S1x32x128.size (k0_off12_inb k c)).toLoadRect X1
def scl3 : FVec Ideal S32x128 .f32 :=
  sixteenth (View.readAt (Elt Ideal) arg2.view (Rect.unit (s := S8x32x512) (k0_off4 k) S1x32x128.size (k0_off4_inb k)).toLoadRect X2)
/-- The codes of shard 4, chunk `c` of trip `k`, and that shard's scales of trip `k`. -/
def code4 (c : Fin 16) : Vec Ideal S1x32x128 .i8 :=
  View.readAt (Elt Ideal) arg1.view (Rect.unit (s := S8x32x8192) (k0_off13 k (BitVec.ofNat 32 c.val)) S1x32x128.size (k0_off13_inb k c)).toLoadRect X1
def scl4 : FVec Ideal S32x128 .f32 :=
  sixteenth (View.readAt (Elt Ideal) arg2.view (Rect.unit (s := S8x32x512) (k0_off5 k) S1x32x128.size (k0_off5_inb k)).toLoadRect X2)
/-- The codes of shard 5, chunk `c` of trip `k`, and that shard's scales of trip `k`. -/
def code5 (c : Fin 16) : Vec Ideal S1x32x128 .i8 :=
  View.readAt (Elt Ideal) arg1.view (Rect.unit (s := S8x32x8192) (k0_off14 k (BitVec.ofNat 32 c.val)) S1x32x128.size (k0_off14_inb k c)).toLoadRect X1
def scl5 : FVec Ideal S32x128 .f32 :=
  sixteenth (View.readAt (Elt Ideal) arg2.view (Rect.unit (s := S8x32x512) (k0_off6 k) S1x32x128.size (k0_off6_inb k)).toLoadRect X2)
/-- The codes of shard 6, chunk `c` of trip `k`, and that shard's scales of trip `k`. -/
def code6 (c : Fin 16) : Vec Ideal S1x32x128 .i8 :=
  View.readAt (Elt Ideal) arg1.view (Rect.unit (s := S8x32x8192) (k0_off15 k (BitVec.ofNat 32 c.val)) S1x32x128.size (k0_off15_inb k c)).toLoadRect X1
def scl6 : FVec Ideal S32x128 .f32 :=
  sixteenth (View.readAt (Elt Ideal) arg2.view (Rect.unit (s := S8x32x512) (k0_off7 k) S1x32x128.size (k0_off7_inb k)).toLoadRect X2)
/-- The codes of shard 7, chunk `c` of trip `k`, and that shard's scales of trip `k`. -/
def code7 (c : Fin 16) : Vec Ideal S1x32x128 .i8 :=
  View.readAt (Elt Ideal) arg1.view (Rect.unit (s := S8x32x8192) (k0_off16 k (BitVec.ofNat 32 c.val)) S1x32x128.size (k0_off16_inb k c)).toLoadRect X1
def scl7 : FVec Ideal S32x128 .f32 :=
  sixteenth (View.readAt (Elt Ideal) arg2.view (Rect.unit (s := S8x32x512) (k0_off8 k) S1x32x128.size (k0_off8_inb k)).toLoadRect X2)

/-- The sums of the low halves and of the high halves. -/
def even (c : Fin 16) : FVec Ideal S32x128 .f32 :=
  sum8 (lo (code0 arg1 X1 k c)) (lo (code1 arg1 X1 k c)) (lo (code2 arg1 X1 k c)) (lo (code3 arg1 X1 k c)) (lo (code4 arg1 X1 k c)) (lo (code5 arg1 X1 k c)) (lo (code6 arg1 X1 k c)) (lo (code7 arg1 X1 k c))
    (scl0 arg2 X2 k) (scl1 arg2 X2 k) (scl2 arg2 X2 k) (scl3 arg2 X2 k) (scl4 arg2 X2 k) (scl5 arg2 X2 k) (scl6 arg2 X2 k) (scl7 arg2 X2 k) (sidx (8 * c.val) v0)
def odd (c : Fin 16) : FVec Ideal S32x128 .f32 :=
  sum8 (hi (code0 arg1 X1 k c)) (hi (code1 arg1 X1 k c)) (hi (code2 arg1 X1 k c)) (hi (code3 arg1 X1 k c)) (hi (code4 arg1 X1 k c)) (hi (code5 arg1 X1 k c)) (hi (code6 arg1 X1 k c)) (hi (code7 arg1 X1 k c))
    (scl0 arg2 X2 k) (scl1 arg2 X2 k) (scl2 arg2 X2 k) (scl3 arg2 X2 k) (scl4 arg2 X2 k) (scl5 arg2 X2 k) (scl6 arg2 X2 k) (scl7 arg2 X2 k) (sidx (8 * c.val) v0)

/-- The residual's tile `p` of chunk `c`, as it stands, and the new residual's. -/
def xld (c : Fin 16) (p : Fin 2) : Vec Ideal S32x128 .bf16 :=
  View.readAt (Elt Ideal) arg3.view (Rect.unit (s := S32x16384) (k0_off17 k (BitVec.ofNat 32 c.val) (BitVec.ofNat 32 (128 * p.val))) S32x128.size (k0_off17_inb k c p)).toLoadRect X3
def tile (c : Fin 16) : Fin 2 → FVec Ideal S32x128 .f32
  | 0 => half0 (even arg1 arg2 v0 X1 X2 k c) (odd arg1 arg2 v0 X1 X2 k c) (xld arg3 X3 k c 0)
  | 1 => half1 (even arg1 arg2 v0 X1 X2 k c) (odd arg1 arg2 v0 X1 X2 k c) (xld arg3 X3 k c 1)

/-- The tile times its weights. -/
def wtile (c : Fin 16) (p : Fin 2) : FVec Ideal S32x128 .f32 :=
  mulf (tile arg1 arg2 arg3 v0 X1 X2 X3 k c p) (broadcastTo S32x128 (View.readAt (Elt Ideal) arg4.view
    (Rect.unit (s := S1x16384) (k0_off18 k (BitVec.ofNat 32 c.val) (BitVec.ofNat 32 (128 * p.val))) S1x128.size (k0_off18_inb k c p)).toLoadRect X4) broadcasts_S1x128_S32x128)

/-- The stores of chunk `c`, last first. -/
def stored (c : Fin 16) : List (View.Piece (Elt Ideal) S32x16384 .bf16) :=
  [⟨Rect.unit (s := S32x16384) (k0_off17 k (BitVec.ofNat 32 c.val) (BitVec.ofNat 32 (128 * (1 : Fin 2).val))) S32x128.size (k0_off17_inb k c 1), truncf (F := Ideal) .bf16 (tile arg1 arg2 arg3 v0 X1 X2 X3 k c 1) bitsLt_bf16_f32⟩,
   ⟨Rect.unit (s := S32x16384) (k0_off17 k (BitVec.ofNat 32 c.val) (BitVec.ofNat 32 (128 * (0 : Fin 2).val))) S32x128.size (k0_off17_inb k c 0), truncf (F := Ideal) .bf16 (tile arg1 arg2 arg3 v0 X1 X2 X3 k c 0) bitsLt_bf16_f32⟩]
def wstored (c : Fin 16) : List (View.Piece (Elt Ideal) S32x16384 .f32) :=
  [⟨Rect.unit (s := S32x16384) (k0_off17 k (BitVec.ofNat 32 c.val) (BitVec.ofNat 32 (128 * (1 : Fin 2).val))) S32x128.size (k0_off17_inb k c 1), shapeCast S32x128 (wtile arg1 arg2 arg3 arg4 v0 X1 X2 X3 X4 k c 1) shapeCasts_S32x128_S32x128⟩,
   ⟨Rect.unit (s := S32x16384) (k0_off17 k (BitVec.ofNat 32 c.val) (BitVec.ofNat 32 (128 * (0 : Fin 2).val))) S32x128.size (k0_off17_inb k c 0), shapeCast S32x128 (wtile arg1 arg2 arg3 arg4 v0 X1 X2 X3 X4 k c 0) shapeCasts_S32x128_S32x128⟩]

/-- The running sums of squares and the running maxima, taken over chunk `c`. -/
def carry (c : Fin 16) (a : FVec Ideal S32x128 .f32 × FVec Ideal S32x128 .f32) : FVec Ideal S32x128 .f32 × FVec Ideal S32x128 .f32 :=
  (addf (addf a.1 (mulf (tile arg1 arg2 arg3 v0 X1 X2 X3 k c 0) (tile arg1 arg2 arg3 v0 X1 X2 X3 k c 0)))
      (mulf (tile arg1 arg2 arg3 v0 X1 X2 X3 k c 1) (tile arg1 arg2 arg3 v0 X1 X2 X3 k c 1)),
    maximumf (maximumf a.2 (absf (wtile arg1 arg2 arg3 arg4 v0 X1 X2 X3 X4 k c 0))) (absf (wtile arg1 arg2 arg3 arg4 v0 X1 X2 X3 X4 k c 1)))

end Loads

section Trip

variable (𝒱 : Variants) (c : Dev nD) (bd : Option 𝒱.V) (i : grid0.Coords) (arg1 : Memref sig .tc .vmem S8x32x8192 .i8) (harg1 : arg1.IsWhole) (arg2 : Memref sig .tc .vmem S8x32x512 .f32) (harg2 : arg2.IsWhole) (arg3 : Memref sig .tc .vmem S32x16384 .bf16) (harg3 : arg3.IsWhole) (arg4 : Memref sig .tc .vmem S1x16384 .f32) (harg4 : arg4.IsWhole) (arg5 : Memref sig .tc .vmem S32x16384 .bf16) (harg5 : arg5.IsWhole) (arg6 : Memref sig .tc .vmem S32x16384 .fp8e4m3) (harg6 : arg6.IsWhole) (arg7 : Memref sig .tc .vmem S32x128 .f32) (harg7 : arg7.IsWhole) (arg8 : Memref sig .tc .vmem S32x16384 .f32) (harg8 : arg8.IsWhole) (v0 : IVec S32x128 32) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (k : Fin k0_t1_loop.trips)

theorem stores (acc : FVec Ideal S32x128 .f32 × FVec Ideal S32x128 .f32) : (trip_k0_t1 (F := Ideal) 𝒱 c bd i arg1 harg1 arg2 harg2 arg3 harg3 arg4 harg4 arg5 harg5 arg6 harg6 arg7 harg7 arg8 harg8 v0 X_arg1 X_arg2 X_arg3 X_arg4 k).2.1 acc
    = [15, 14, 13, 12, 11, 10, 9, 8, 7, 6, 5, 4, 3, 2, 1, 0].flatMap (stored arg1 arg2 arg3 v0 X_arg1 X_arg2 X_arg3 k) := by
  unfold trip_k0_t1
  dsimp only
  sl_kernel_rfl

theorem wstores (acc : FVec Ideal S32x128 .f32 × FVec Ideal S32x128 .f32) : (trip_k0_t1 (F := Ideal) 𝒱 c bd i arg1 harg1 arg2 harg2 arg3 harg3 arg4 harg4 arg5 harg5 arg6 harg6 arg7 harg7 arg8 harg8 v0 X_arg1 X_arg2 X_arg3 X_arg4 k).2.2.1 acc
    = [15, 14, 13, 12, 11, 10, 9, 8, 7, 6, 5, 4, 3, 2, 1, 0].flatMap (wstored arg1 arg2 arg3 arg4 v0 X_arg1 X_arg2 X_arg3 X_arg4 k) := by
  unfold trip_k0_t1
  dsimp only
  sl_kernel_rfl

theorem carries (acc : FVec Ideal S32x128 .f32 × FVec Ideal S32x128 .f32) : (trip_k0_t1 (F := Ideal) 𝒱 c bd i arg1 harg1 arg2 harg2 arg3 harg3 arg4 harg4 arg5 harg5 arg6 harg6 arg7 harg7 arg8 harg8 v0 X_arg1 X_arg2 X_arg3 X_arg4 k).1 acc
    = [0, 1, 2, 3, 4, 5, 6, 7, 8, 9, 10, 11, 12, 13, 14, 15].foldl (fun a c => carry arg1 arg2 arg3 arg4 v0 X_arg1 X_arg2 X_arg3 X_arg4 k c a) acc := by
  unfold trip_k0_t1
  dsimp only
  sl_kernel_rfl

end Trip

end Cert.RecvIdeal.Trip

end
-- ==== Proof.RecvTile.lean ====
/- The pieces of the first loop's trip, at an index. -/
module

public import proofs.«01_k».proof.Proof.RecvSpec
public import proofs.«01_k».proof.Proof.RecvTrip
public import Idealize.ShloMosaic.Lib.Pointwise
public import Idealize.ShloMosaic.Lib.BitcastPair
public import Idealize.ShloMosaic.Lib.BitcastFour

@[expose] public section

noncomputable section

namespace Cert.Spec

theorem low16 : ∀ b : BitVec 8, ((b <<< 4) &&& 240#8).toInt = 16 * low b := by decide +kernel
theorem high16 : ∀ b : BitVec 8, (b &&& 240#8).toInt = 16 * high b := by decide +kernel

end Cert.Spec

namespace Cert.RecvIdeal.Trip

open Cert.RecvIdeal Cert.RecvIdeal.Gen Idealize.ShloMosaic Idealize.ShloMosaic.TcCoe Idealize.SL.Sem

theorem words_bit (v : Vec Ideal S1x32x128 .i8) (a : Fin 8) (l : Fin 128) (q : ℕ) (hq : q < 32) (i : Fin 32) (hi : i.val = 4 * a.val + q / 8) :
    (words v (ix2 a l)).getLsbD q = (v (ix3 0 i l)).getLsbD (q % 8) := by
  unfold words
  refine (bitcast_8_32_getLsbD_ix2 (R := 32) (r := 8) (n := 128) _ _ a l q hq i hi).trans ?_
  congr 1
  show shapeCast S32x128 v shapeCasts_S1x32x128_S32x128 (ix2 i l) = _
  pointwise []

theorem byte_bit (w : IVec S8x128 32) (i : Fin 32) (l : Fin 128) (q : ℕ) (hq : q < 8) :
    (bitcast S32x128 8 w bitcasts_S8x128_w32_S32x128_w8 (ix2 i l)).getLsbD q
      = (w (ix2 ⟨i.val / 4, by omega⟩ l)).getLsbD (8 * (i.val % 4) + q) := by
  rw [bitcast_getLsbD w _ _ q hq (by decide)]
  have hr : Shape.row S32x128 (ix2 i l) = i.val := rfl
  have e2 : (Shape.row S32x128 (ix2 i l) * 8 + q) % 32 = 8 * (i.val % 4) + q := by rw [hr]; omega
  rw [e2]
  congr 2
  funext c
  match c with
  | ⟨0, _⟩ =>
    refine Fin.ext ((Shape.Bitcasts.srcIdx_row _ _ _ _ ⟨0, Nat.zero_lt_two⟩ rfl).trans ?_)
    rw [hr]; show _ = i.val / 4; omega
  | ⟨1, _⟩ => exact Fin.ext (Shape.Bitcasts.srcIdx_other _ _ _ _ ⟨1, Nat.one_lt_two⟩ (by show ¬ 1 + 2 = 2; omega))

theorem mask_bit : ∀ q : Fin 32, (4042322160#32 : BitVec 32).getLsbD q.val = decide (4 ≤ q.val % 8) := by decide
theorem mask8_bit : ∀ q : Fin 8, (240#8 : BitVec 8).getLsbD q.val = decide (4 ≤ q.val) := by decide

theorem lo_byte (v : Vec Ideal S1x32x128 .i8) (i : Fin 32) (l : Fin 128) :
    bitcast S32x128 8 (andi (shli (words v) (broadcast S8x128 4#32)) (broadcast S8x128 4042322160#32)) bitcasts_S8x128_w32_S32x128_w8 (ix2 i l)
      = ((v (ix3 0 i l) : BitVec 8) <<< 4) &&& 240#8 := by
  apply BitVec.eq_of_getLsbD_eq
  intro q hq
  rw [byte_bit _ i l q hq]
  have h1 : andi (shli (words v) (broadcast S8x128 4#32)) (broadcast S8x128 4042322160#32) (ix2 (⟨i.val / 4, by omega⟩ : Fin 8) l)
      = (words v (ix2 (⟨i.val / 4, by omega⟩ : Fin 8) l) <<< 4) &&& 4042322160#32 := by
    rfl
  rw [h1, BitVec.getLsbD_and, BitVec.getLsbD_and, BitVec.getLsbD_shiftLeft, BitVec.getLsbD_shiftLeft]
  rw [mask_bit ⟨8 * (i.val % 4) + q, by omega⟩, mask8_bit ⟨q, hq⟩]
  by_cases h4 : 4 ≤ q
  · have hw := words_bit v (⟨i.val / 4, by omega⟩ : Fin 8) l (8 * (i.val % 4) + q - 4) (by omega) i (by show i.val = 4 * (i.val / 4) + _; omega)
    have e : (8 * (i.val % 4) + q - 4) % 8 = q - 4 := by omega
    rw [hw, e]
    have a1 : (8 * (i.val % 4) + q < 32) = True := by simp; omega
    have a2 : (8 * (i.val % 4) + q < 4) = False := by simp; omega
    have a3 : (q < 4) = False := by simp; omega
    have a4 : (4 ≤ (8 * (i.val % 4) + q) % 8) = True := by simp; omega
    have a5 : q % 8 = q := Nat.mod_eq_of_lt hq
    simp [a1, a2, a3, a5, hq, h4]
  · have a4 : (4 ≤ (8 * (i.val % 4) + q) % 8) = False := by simp; omega
    have a5 : q % 8 = q := Nat.mod_eq_of_lt hq
    simp [a5, h4]

theorem hi_byte (v : Vec Ideal S1x32x128 .i8) (i : Fin 32) (l : Fin 128) :
    bitcast S32x128 8 (andi (words v) (broadcast S8x128 4042322160#32)) bitcasts_S8x128_w32_S32x128_w8 (ix2 i l)
      = (v (ix3 0 i l) : BitVec 8) &&& 240#8 := by
  apply BitVec.eq_of_getLsbD_eq
  intro q hq
  rw [byte_bit _ i l q hq]
  have h1 : andi (words v) (broadcast S8x128 4042322160#32) (ix2 (⟨i.val / 4, by omega⟩ : Fin 8) l)
      = words v (ix2 (⟨i.val / 4, by omega⟩ : Fin 8) l) &&& 4042322160#32 := by
    rfl
  rw [h1, BitVec.getLsbD_and, BitVec.getLsbD_and]
  rw [mask_bit ⟨8 * (i.val % 4) + q, by omega⟩, mask8_bit ⟨q, hq⟩]
  have hw := words_bit v (⟨i.val / 4, by omega⟩ : Fin 8) l (8 * (i.val % 4) + q) (by omega) i (by show i.val = 4 * (i.val / 4) + _; omega)
  have e : (8 * (i.val % 4) + q) % 8 = q := by omega
  rw [hw, e]

theorem lo_apply (v : Vec Ideal S1x32x128 .i8) (i : Fin 32) (l : Fin 128) :
    lo v (ix2 i l) = (((16 * Spec.low (v (ix3 0 i l)) : ℤ) : ℝ) : EReal) := by
  rw [← Spec.low16, ← lo_byte]
  rfl

theorem hi_apply (v : Vec Ideal S1x32x128 .i8) (i : Fin 32) (l : Fin 128) :
    hi v (ix2 i l) = (((16 * Spec.high (v (ix3 0 i l)) : ℤ) : ℝ) : EReal) := by
  rw [← Spec.high16, ← hi_byte]
  rfl

theorem norm_lane : ∀ n : Fin 128, (Scalar.select (IntOp.cmpi CmpIPredicate.slt (BitVec.ofNat 32 n.val) 0#32)
    (IntOp.addi (BitVec.ofNat 32 n.val) 128#32) (BitVec.ofNat 32 n.val)).toNat % 128 = n.val := by decide +kernel

/-- A gather whose lane is a number below 128. -/
theorem gather_apply (s : FVec Ideal S32x128 .f32) (ix : IVec S32x128 32) (i : Fin 32) (l n : Fin 128)
    (h : ix (ix2 i l) = BitVec.ofNat 32 n.val) : gather s ix (ix2 i l) = s (ix2 i n) := by
  unfold gather
  pointwise [h]
  congr 2
  exact Fin.ext (norm_lane n)

theorem sidx_word : ∀ (c : Fin 16) (l : Fin 128), IntOp.addi (BitVec.ofNat 32 (8 * c.val)) (IntOp.shrsi .vector (BitVec.ofNat 32 l.val) 4#32)
    = BitVec.ofNat 32 (8 * c.val + l.val / 16) := by decide +kernel

theorem sidx_apply (c : Fin 16) (i : Fin 32) (l : Fin 128) :
    sidx (8 * c.val) (iota .tc S32x128 32 [1] iota_S32x128_d1_w32) (ix2 i l) = BitVec.ofNat 32 (8 * c.val + l.val / 16) := by
  pointwise [sidx]
  exact sidx_word c l

/-- The scale of a sixteenth taken back. -/
theorem sixteenth_apply (s : Vec Ideal S1x32x128 .f32) (i : Fin 32) (l : Fin 128) :
    sixteenth s (ix2 i l) = s (ix3 0 i l) * (((1 / 16 : ℝ)) : EReal) := by
  pointwise [sixteenth]
  congr 1
  simp [Ideal.ofBits, Ideal.ieee]
  rw [← EReal.coe_mul]
  norm_num

theorem scaled (n : ℤ) (s : EReal) : (((16 * n : ℤ) : ℝ) : EReal) * (s * ((1 / 16 : ℝ) : EReal)) = ((n : ℝ) : EReal) * s := by
  rw [mul_comm s, ← mul_assoc, ← EReal.coe_mul]
  congr 2
  push_cast
  ring

/-- One lane of the sum over the shards, each a decoded half byte times its scale. -/
theorem sum8_apply (x0 x1 x2 x3 x4 x5 x6 x7 s0 s1 s2 s3 s4 s5 s6 s7 : FVec Ideal S32x128 .f32) (ix : IVec S32x128 32) (i : Fin 32) (l n : Fin 128)
    (h : ix (ix2 i l) = BitVec.ofNat 32 n.val) :
    sum8 x0 x1 x2 x3 x4 x5 x6 x7 s0 s1 s2 s3 s4 s5 s6 s7 ix (ix2 i l)
      = x0 (ix2 i l) * s0 (ix2 i n) + x1 (ix2 i l) * s1 (ix2 i n) + x2 (ix2 i l) * s2 (ix2 i n) + x3 (ix2 i l) * s3 (ix2 i n)
        + x4 (ix2 i l) * s4 (ix2 i n) + x5 (ix2 i l) * s5 (ix2 i n) + x6 (ix2 i l) * s6 (ix2 i n) + x7 (ix2 i l) * s7 (ix2 i n) := by
  have g := fun s => gather_apply s ix i l n h
  pointwise [sum8, g]

theorem word808 : ∀ l : Fin 128, IntOp.cmpi CmpIPredicate.slt (BitVec.ofNat 32 l.val) 64#32 = if l.val < 64 then 1#1 else 0#1 := by decide +kernel
theorem word809 : ∀ l : Fin 128, IntOp.cmpi CmpIPredicate.eq (IntOp.andi (BitVec.ofNat 32 l.val) 1#32) 0#32
    = if l.val % 2 = 0 then 1#1 else 0#1 := by decide +kernel

theorem pay808 (i : Fin 32) (l : Fin 128) : k0_pay808 (ix2 i l) = if l.val < 64 then 1#1 else 0#1 := by
  rw [← word808]
  pointwise [k0_pay808]
theorem pay809 (i : Fin 32) (l : Fin 128) : k0_pay809 (ix2 i l) = if l.val % 2 = 0 then 1#1 else 0#1 := by
  rw [← word809]
  pointwise [k0_pay809]

theorem word810 : ∀ l : Fin 128, Scalar.select (if l.val % 2 = 0 then 1#1 else 0#1) (IntOp.shrsi .vector (BitVec.ofNat 32 l.val) 1#32)
    (IntOp.addi (IntOp.shrsi .vector (BitVec.ofNat 32 l.val) 1#32) 64#32) = BitVec.ofNat 32 (if l.val % 2 = 0 then l.val / 2 else l.val / 2 + 64) := by decide +kernel
theorem word811 : ∀ l : Fin 128, Scalar.select (if l.val % 2 = 0 then 1#1 else 0#1)
    (IntOp.addi (IntOp.shrsi .vector (BitVec.ofNat 32 l.val) 1#32) 64#32) (IntOp.shrsi .vector (BitVec.ofNat 32 l.val) 1#32) = BitVec.ofNat 32 (if l.val % 2 = 0 then l.val / 2 + 64 else l.val / 2) := by decide +kernel

theorem pay810 (i : Fin 32) (l : Fin 128) : k0_pay810 (ix2 i l) = BitVec.ofNat 32 (if l.val % 2 = 0 then l.val / 2 else l.val / 2 + 64) := by
  rw [← word810, ← pay809 i l]
  pointwise [k0_pay810]
theorem pay811 (i : Fin 32) (l : Fin 128) : k0_pay811 (ix2 i l) = BitVec.ofNat 32 (if l.val % 2 = 0 then l.val / 2 + 64 else l.val / 2) := by
  rw [← word811, ← pay809 i l]
  pointwise [k0_pay811]

theorem lanesA_apply (e o : FVec Ideal S32x128 .f32) (i : Fin 32) (l : Fin 128) :
    lanesA e o (ix2 i l) = if l.val % 2 = 0 then e (ix2 i ⟨l.val / 2, by omega⟩) else o (ix2 i ⟨l.val / 2 + 64, by omega⟩) := by
  unfold lanesA
  have hl := l.isLt
  by_cases h : l.val % 2 = 0
  · rw [if_pos h, gather_apply _ _ i l ⟨l.val / 2, by omega⟩ ((pay810 i l).trans (by rw [if_pos h]))]
    show Scalar.select (k0_pay808 _) _ _ = _
    rw [pay808, if_pos (by show l.val / 2 < 64; omega)]
    rfl
  · rw [if_neg h, gather_apply _ _ i l ⟨l.val / 2 + 64, by omega⟩ ((pay810 i l).trans (by rw [if_neg h]))]
    show Scalar.select (k0_pay808 _) _ _ = _
    rw [pay808, if_neg (by show ¬ l.val / 2 + 64 < 64; omega)]
    rfl

theorem lanesB_apply (e o : FVec Ideal S32x128 .f32) (i : Fin 32) (l : Fin 128) :
    lanesB e o (ix2 i l) = if l.val % 2 = 0 then e (ix2 i ⟨l.val / 2 + 64, by omega⟩) else o (ix2 i ⟨l.val / 2, by omega⟩) := by
  unfold lanesB
  have hl := l.isLt
  by_cases h : l.val % 2 = 0
  · rw [if_pos h, gather_apply _ _ i l ⟨l.val / 2 + 64, by omega⟩ ((pay811 i l).trans (by rw [if_pos h]))]
    show Scalar.select (k0_pay808 _) _ _ = _
    rw [pay808, if_neg (by show ¬ l.val / 2 + 64 < 64; omega)]
    rfl
  · rw [if_neg h, gather_apply _ _ i l ⟨l.val / 2, by omega⟩ ((pay811 i l).trans (by rw [if_neg h]))]
    show Scalar.select (k0_pay808 _) _ _ = _
    rw [pay808, if_pos (by show l.val / 2 < 64; omega)]
    rfl

theorem half0_apply (e o : FVec Ideal S32x128 .f32) (x : Vec Ideal S32x128 .bf16) (i : Fin 32) (l : Fin 128) :
    half0 e o x (ix2 i l) = (if l.val % 2 = 0 then e (ix2 i ⟨l.val / 2, by omega⟩) else o (ix2 i ⟨l.val / 2, by omega⟩)) + x (ix2 i l) := by
  show Scalar.select (k0_pay809 (ix2 i l)) (lanesA e o (ix2 i l)) (lanesB e o (ix2 i l)) + x (ix2 i l) = _
  rw [pay809, lanesA_apply, lanesB_apply]
  by_cases h : l.val % 2 = 0
  · simp only [if_pos h]; rfl
  · simp only [if_neg h]; rfl

theorem half1_apply (e o : FVec Ideal S32x128 .f32) (x : Vec Ideal S32x128 .bf16) (i : Fin 32) (l : Fin 128) :
    half1 e o x (ix2 i l) = (if l.val % 2 = 0 then e (ix2 i ⟨l.val / 2 + 64, by omega⟩) else o (ix2 i ⟨l.val / 2 + 64, by omega⟩)) + x (ix2 i l) := by
  show Scalar.select (k0_pay809 (ix2 i l)) (lanesB e o (ix2 i l)) (lanesA e o (ix2 i l)) + x (ix2 i l) = _
  rw [pay809, lanesA_apply, lanesB_apply]
  by_cases h : l.val % 2 = 0
  · simp only [if_pos h]; rfl
  · simp only [if_neg h]; rfl

end Cert.RecvIdeal.Trip

end
-- ==== Proof.RecvCol.lean ====
/- One trip of the first loop in its blocks' own indices: each tile is its columns of the residual rows, and what the loop leaves. -/
module

public import proofs.«01_k».proof.Proof.RecvTile

@[expose] public section

set_option maxRecDepth 16384

noncomputable section

namespace Cert.RecvIdeal.Val

open Cert.RecvIdeal Cert.RecvIdeal.Gen Cert.RecvIdeal.Trip Idealize.ShloMosaic Idealize.ShloMosaic.TcCoe Idealize.SL.Sem

/-- A load of a whole buffer's rectangle, at an index. -/
theorem ldr {s : Shape} {e : EltTy} {arg : Memref sig .tc .vmem s e} (harg : arg.IsWhole) (X : Vec Ideal s e) {off off' : Fin s.rank → ℕ} (h : off = off')
    (size : Fin s.rank → ℕ) (inb) (x : (Rect.unit off size inb).shape.Idx) (i : s.Idx) (hi : ∀ a, (i a : ℕ) = off' a + x a) :
    View.readAt (Elt Ideal) arg.view (Rect.unit off size inb).toLoadRect (harg.unread X) x = X i := by
  subst h
  rw [View.readAt_eq_ld, harg.read_unread]
  exact View.ld_unit_apply_of X off size inb x i hi

theorem trips4 (k : Fin k0_t1_loop.trips) : k.val < 4 := k.isLt

/-- The lanes' numbers. -/
abbrev iota0 : IVec S32x128 32 := iota .tc S32x128 32 [1] iota_S32x128_d1_w32

section Block

variable (x0 : Vec Ideal S8x32x8192 .i8) (x1 : Vec Ideal S8x32x512 .f32) (x2 : Vec Ideal S32x16384 .bf16) (x3 : Vec Ideal S1x16384 .f32)

/-- Row `i` of the block of the residual, and the row of weights. -/
def H (i : Fin 32) : Fin 16384 → EReal :=
  Spec.hcol (fun r q => x0 (ix3 r i q)) (fun r g => x1 (ix3 r i g)) (fun j => x2 (ix2 i j))
def W (j : Fin 16384) : EReal := x3 (ix2 0 j)

end Block

section Loads

variable {arg1 : Memref sig .tc .vmem S8x32x8192 .i8} (harg1 : arg1.IsWhole) {arg2 : Memref sig .tc .vmem S8x32x512 .f32} (harg2 : arg2.IsWhole)
  {arg3 : Memref sig .tc .vmem S32x16384 .bf16} (harg3 : arg3.IsWhole) {arg4 : Memref sig .tc .vmem S1x16384 .f32} (harg4 : arg4.IsWhole)
  (x0 : Vec Ideal S8x32x8192 .i8) (x1 : Vec Ideal S8x32x512 .f32) (x2 : Vec Ideal S32x16384 .bf16) (x3 : Vec Ideal S1x16384 .f32)
  (k : Fin k0_t1_loop.trips) (c : Fin 16)

/-- The byte column of lane `l`, the scale column of lane `n`, the column of lane `l` of tile `p`. -/
def bcol (l : Fin 128) : Fin 8192 := ⟨2048 * k.val + 128 * c.val + l.val, by have := trips4 k; omega⟩
def scol (n : Fin 128) : Fin 512 := ⟨128 * k.val + n.val, by have := trips4 k; omega⟩
def col (p : Fin 2) (l : Fin 128) : Fin 16384 := ⟨4096 * k.val + 256 * c.val + 128 * p.val + l.val, by have := trips4 k; omega⟩

theorem code0_apply (i : Fin 32) (l : Fin 128) : code0 arg1 (harg1.unread x0) k c (ix3 0 i l) = x0 (ix3 0 i (bcol k c l)) :=
  ldr harg1 x0 (k0_off9_eq k c) _ _ _ _ fun a => by
    match a with
    | 0 => rfl
    | 1 => exact (Nat.zero_add _).symm
    | 2 => rfl
theorem scl0_apply (i : Fin 32) (n : Fin 128) : scl0 arg2 (harg2.unread x1) k (ix2 i n) = x1 (ix3 0 i (scol k n)) * ((1 / 16 : ℝ) : EReal) := by
  unfold scl0
  rw [sixteenth_apply]
  refine congrArg (· * _) (ldr harg2 x1 (k0_off1_eq k) _ _ _ _ fun a => ?_)
  match a with
  | 0 => rfl
  | 1 => exact (Nat.zero_add _).symm
  | 2 => rfl
theorem code1_apply (i : Fin 32) (l : Fin 128) : code1 arg1 (harg1.unread x0) k c (ix3 0 i l) = x0 (ix3 1 i (bcol k c l)) :=
  ldr harg1 x0 (k0_off10_eq k c) _ _ _ _ fun a => by
    match a with
    | 0 => rfl
    | 1 => exact (Nat.zero_add _).symm
    | 2 => rfl
theorem scl1_apply (i : Fin 32) (n : Fin 128) : scl1 arg2 (harg2.unread x1) k (ix2 i n) = x1 (ix3 1 i (scol k n)) * ((1 / 16 : ℝ) : EReal) := by
  unfold scl1
  rw [sixteenth_apply]
  refine congrArg (· * _) (ldr harg2 x1 (k0_off2_eq k) _ _ _ _ fun a => ?_)
  match a with
  | 0 => rfl
  | 1 => exact (Nat.zero_add _).symm
  | 2 => rfl
theorem code2_apply (i : Fin 32) (l : Fin 128) : code2 arg1 (harg1.unread x0) k c (ix3 0 i l) = x0 (ix3 2 i (bcol k c l)) :=
  ldr harg1 x0 (k0_off11_eq k c) _ _ _ _ fun a => by
    match a with
    | 0 => rfl
    | 1 => exact (Nat.zero_add _).symm
    | 2 => rfl
theorem scl2_apply (i : Fin 32) (n : Fin 128) : scl2 arg2 (harg2.unread x1) k (ix2 i n) = x1 (ix3 2 i (scol k n)) * ((1 / 16 : ℝ) : EReal) := by
  unfold scl2
  rw [sixteenth_apply]
  refine congrArg (· * _) (ldr harg2 x1 (k0_off3_eq k) _ _ _ _ fun a => ?_)
  match a with
  | 0 => rfl
  | 1 => exact (Nat.zero_add _).symm
  | 2 => rfl
theorem code3_apply (i : Fin 32) (l : Fin 128) : code3 arg1 (harg1.unread x0) k c (ix3 0 i l) = x0 (ix3 3 i (bcol k c l)) :=
  ldr harg1 x0 (k0_off12_eq k c) _ _ _ _ fun a => by
    match a with
    | 0 => rfl
    | 1 => exact (Nat.zero_add _).symm
    | 2 => rfl
theorem scl3_apply (i : Fin 32) (n : Fin 128) : scl3 arg2 (harg2.unread x1) k (ix2 i n) = x1 (ix3 3 i (scol k n)) * ((1 / 16 : ℝ) : EReal) := by
  unfold scl3
  rw [sixteenth_apply]
  refine congrArg (· * _) (ldr harg2 x1 (k0_off4_eq k) _ _ _ _ fun a => ?_)
  match a with
  | 0 => rfl
  | 1 => exact (Nat.zero_add _).symm
  | 2 => rfl
theorem code4_apply (i : Fin 32) (l : Fin 128) : code4 arg1 (harg1.unread x0) k c (ix3 0 i l) = x0 (ix3 4 i (bcol k c l)) :=
  ldr harg1 x0 (k0_off13_eq k c) _ _ _ _ fun a => by
    match a with
    | 0 => rfl
    | 1 => exact (Nat.zero_add _).symm
    | 2 => rfl
theorem scl4_apply (i : Fin 32) (n : Fin 128) : scl4 arg2 (harg2.unread x1) k (ix2 i n) = x1 (ix3 4 i (scol k n)) * ((1 / 16 : ℝ) : EReal) := by
  unfold scl4
  rw [sixteenth_apply]
  refine congrArg (· * _) (ldr harg2 x1 (k0_off5_eq k) _ _ _ _ fun a => ?_)
  match a with
  | 0 => rfl
  | 1 => exact (Nat.zero_add _).symm
  | 2 => rfl
theorem code5_apply (i : Fin 32) (l : Fin 128) : code5 arg1 (harg1.unread x0) k c (ix3 0 i l) = x0 (ix3 5 i (bcol k c l)) :=
  ldr harg1 x0 (k0_off14_eq k c) _ _ _ _ fun a => by
    match a with
    | 0 => rfl
    | 1 => exact (Nat.zero_add _).symm
    | 2 => rfl
theorem scl5_apply (i : Fin 32) (n : Fin 128) : scl5 arg2 (harg2.unread x1) k (ix2 i n) = x1 (ix3 5 i (scol k n)) * ((1 / 16 : ℝ) : EReal) := by
  unfold scl5
  rw [sixteenth_apply]
  refine congrArg (· * _) (ldr harg2 x1 (k0_off6_eq k) _ _ _ _ fun a => ?_)
  match a with
  | 0 => rfl
  | 1 => exact (Nat.zero_add _).symm
  | 2 => rfl
theorem code6_apply (i : Fin 32) (l : Fin 128) : code6 arg1 (harg1.unread x0) k c (ix3 0 i l) = x0 (ix3 6 i (bcol k c l)) :=
  ldr harg1 x0 (k0_off15_eq k c) _ _ _ _ fun a => by
    match a with
    | 0 => rfl
    | 1 => exact (Nat.zero_add _).symm
    | 2 => rfl
theorem scl6_apply (i : Fin 32) (n : Fin 128) : scl6 arg2 (harg2.unread x1) k (ix2 i n) = x1 (ix3 6 i (scol k n)) * ((1 / 16 : ℝ) : EReal) := by
  unfold scl6
  rw [sixteenth_apply]
  refine congrArg (· * _) (ldr harg2 x1 (k0_off7_eq k) _ _ _ _ fun a => ?_)
  match a with
  | 0 => rfl
  | 1 => exact (Nat.zero_add _).symm
  | 2 => rfl
theorem code7_apply (i : Fin 32) (l : Fin 128) : code7 arg1 (harg1.unread x0) k c (ix3 0 i l) = x0 (ix3 7 i (bcol k c l)) :=
  ldr harg1 x0 (k0_off16_eq k c) _ _ _ _ fun a => by
    match a with
    | 0 => rfl
    | 1 => exact (Nat.zero_add _).symm
    | 2 => rfl
theorem scl7_apply (i : Fin 32) (n : Fin 128) : scl7 arg2 (harg2.unread x1) k (ix2 i n) = x1 (ix3 7 i (scol k n)) * ((1 / 16 : ℝ) : EReal) := by
  unfold scl7
  rw [sixteenth_apply]
  refine congrArg (· * _) (ldr harg2 x1 (k0_off8_eq k) _ _ _ _ fun a => ?_)
  match a with
  | 0 => rfl
  | 1 => exact (Nat.zero_add _).symm
  | 2 => rfl

theorem xld_apply (p : Fin 2) (i : Fin 32) (l : Fin 128) : xld arg3 (harg3.unread x2) k c p (ix2 i l) = x2 (ix2 i (col k c p l)) :=
  ldr harg3 x2 (k0_off17_eq k c p) _ _ _ _ fun a => by
    match a with
    | 0 => exact (Nat.zero_add _).symm
    | 1 => rfl

/-- The scale lane of a byte lane. -/
def slane (l : Fin 128) : Fin 128 := ⟨8 * c.val + l.val / 16, by omega⟩

theorem even_apply (i : Fin 32) (l : Fin 128) : even arg1 arg2 iota0 (harg1.unread x0) (harg2.unread x1) k c (ix2 i l)
    = ∑ r : Fin 8, ((Spec.low (x0 (ix3 r i (bcol k c l))) : ℝ) : EReal) * x1 (ix3 r i (scol k (slane c l))) := by
  unfold even
  rw [sum8_apply _ _ _ _ _ _ _ _ _ _ _ _ _ _ _ _ _ i l (slane c l) (sidx_apply c i l), Fin.sum_univ_eight]
  simp only [lo_apply, code0_apply harg1, scl0_apply harg2, code1_apply harg1, scl1_apply harg2, code2_apply harg1, scl2_apply harg2, code3_apply harg1, scl3_apply harg2, code4_apply harg1, scl4_apply harg2, code5_apply harg1, scl5_apply harg2, code6_apply harg1, scl6_apply harg2, code7_apply harg1, scl7_apply harg2, scaled]

theorem odd_apply (i : Fin 32) (l : Fin 128) : odd arg1 arg2 iota0 (harg1.unread x0) (harg2.unread x1) k c (ix2 i l)
    = ∑ r : Fin 8, ((Spec.high (x0 (ix3 r i (bcol k c l))) : ℝ) : EReal) * x1 (ix3 r i (scol k (slane c l))) := by
  unfold odd
  rw [sum8_apply _ _ _ _ _ _ _ _ _ _ _ _ _ _ _ _ _ i l (slane c l) (sidx_apply c i l), Fin.sum_univ_eight]
  simp only [hi_apply, code0_apply harg1, scl0_apply harg2, code1_apply harg1, scl1_apply harg2, code2_apply harg1, scl2_apply harg2, code3_apply harg1, scl3_apply harg2, code4_apply harg1, scl4_apply harg2, code5_apply harg1, scl5_apply harg2, code6_apply harg1, scl6_apply harg2, code7_apply harg1, scl7_apply harg2, scaled]

/-- A column of the residual, from its byte lane. -/
theorem hcol_lane (p : Fin 2) (i : Fin 32) (l m : Fin 128) (hm : m.val = l.val / 2 + 64 * p.val) (x : EReal) (hx : x = x2 (ix2 i (col k c p l))) :
    (if l.val % 2 = 0 then even arg1 arg2 iota0 (harg1.unread x0) (harg2.unread x1) k c (ix2 i m)
      else odd arg1 arg2 iota0 (harg1.unread x0) (harg2.unread x1) k c (ix2 i m)) + x = H x0 x1 x2 i (col k c p l) := by
  rw [even_apply, odd_apply, hx]
  unfold H Spec.hcol
  have hb : bcol k c m = ⟨(col k c p l).val / 2, by omega⟩ := Fin.ext (by
    show 2048 * k.val + 128 * c.val + m.val = (4096 * k.val + 256 * c.val + 128 * p.val + l.val) / 2
    omega)
  have hs : scol k (slane c m) = ⟨(col k c p l).val / 32, by omega⟩ := Fin.ext (by
    show 128 * k.val + (8 * c.val + m.val / 16) = (4096 * k.val + 256 * c.val + 128 * p.val + l.val) / 32
    omega)
  have hp : (col k c p l).val % 2 = l.val % 2 := by
    show (4096 * k.val + 256 * c.val + 128 * p.val + l.val) % 2 = l.val % 2
    omega
  rw [hb, hs]
  unfold Spec.half
  rw [hp]
  by_cases h : l.val % 2 = 0
  · simp only [if_pos h]
  · simp only [if_neg h]

theorem tile_apply (p : Fin 2) (i : Fin 32) (l : Fin 128) :
    tile arg1 arg2 arg3 iota0 (harg1.unread x0) (harg2.unread x1) (harg3.unread x2) k c p (ix2 i l) = H x0 x1 x2 i (col k c p l) := by
  match p with
  | 0 =>
    show half0 _ _ _ (ix2 i l) = _
    rw [half0_apply]
    exact hcol_lane harg1 harg2 x0 x1 x2 k c 0 i l _ (by show l.val / 2 = _; simp) _ (xld_apply harg3 x2 k c 0 i l)
  | 1 =>
    show half1 _ _ _ (ix2 i l) = _
    rw [half1_apply]
    exact hcol_lane harg1 harg2 x0 x1 x2 k c 1 i l _ rfl _ (xld_apply harg3 x2 k c 1 i l)

theorem wtile_apply (p : Fin 2) (i : Fin 32) (l : Fin 128) :
    wtile arg1 arg2 arg3 arg4 iota0 (harg1.unread x0) (harg2.unread x1) (harg3.unread x2) (harg4.unread x3) k c p (ix2 i l)
      = H x0 x1 x2 i (col k c p l) * W x3 (col k c p l) := by
  show tile arg1 arg2 arg3 iota0 _ _ _ k c p (ix2 i l) * broadcastTo S32x128 _ broadcasts_S1x128_S32x128 (ix2 i l) = _
  rw [tile_apply]
  refine congrArg (fun z : EReal => H x0 x1 x2 i (col k c p l) * z) ?_
  pointwise []
  refine ldr harg4 x3 (k0_off18_eq k c p) _ _ _ _ fun a => ?_
  match a with
  | 0 => rfl
  | 1 => rfl

/-- One step of the carried pair. -/
theorem carry_apply (a : FVec Ideal S32x128 .f32 × FVec Ideal S32x128 .f32) (i : Fin 32) (l : Fin 128) :
    (carry arg1 arg2 arg3 arg4 iota0 (harg1.unread x0) (harg2.unread x1) (harg3.unread x2) (harg4.unread x3) k c a).1 (ix2 i l)
      = a.1 (ix2 i l) + H x0 x1 x2 i (col k c 0 l) * H x0 x1 x2 i (col k c 0 l) + H x0 x1 x2 i (col k c 1 l) * H x0 x1 x2 i (col k c 1 l) ∧
    (carry arg1 arg2 arg3 arg4 iota0 (harg1.unread x0) (harg2.unread x1) (harg3.unread x2) (harg4.unread x3) k c a).2 (ix2 i l)
      = max (max (a.2 (ix2 i l)) (Spec.mag (H x0 x1 x2 i (col k c 0 l) * W x3 (col k c 0 l)))) (Spec.mag (H x0 x1 x2 i (col k c 1 l) * W x3 (col k c 1 l))) := by
  rw [← wtile_apply harg1 harg2 harg3 harg4, ← wtile_apply harg1 harg2 harg3 harg4, ← tile_apply harg1 harg2 harg3, ← tile_apply harg1 harg2 harg3]
  exact ⟨rfl, rfl⟩

end Loads

end Cert.RecvIdeal.Val

end
-- ==== Proof.RecvLoop.lean ====
/- The first loop as a whole: what its stores hold at an index, and the carried sums and maxima after any number of trips. -/
module

public import proofs.«01_k».proof.Proof.RecvCol

@[expose] public section

set_option maxRecDepth 16384

noncomputable section

namespace Cert.RecvIdeal.Val

open Cert.RecvIdeal Cert.RecvIdeal.Gen Cert.RecvIdeal.Trip Idealize.ShloMosaic Idealize.ShloMosaic.TcCoe Idealize.SL.Sem

/-- Where a store's rectangle puts an index. -/
theorem emb_unit {s : Shape} {off off' : Fin s.rank → ℕ} (h : off = off') (size : Fin s.rank → ℕ) (inb)
    (x : (Rect.unit off size inb).shape.Idx) (i : s.Idx) (hi : ∀ a, (i a : ℕ) = off' a + x a) : (Rect.unit off size inb).emb x = i := by
  subst h
  exact funext fun a => Fin.ext ((Rect.idx_unit_val off size inb x a).trans (hi a).symm)

theorem cast_self (v : FVec Ideal S32x128 .f32) (h) (i : Fin 32) (l : Fin 128) : shapeCast S32x128 v h (ix2 i l) = v (ix2 i l) := by
  pointwise []

section Pieces

variable {arg1 : Memref sig .tc .vmem S8x32x8192 .i8} (harg1 : arg1.IsWhole) {arg2 : Memref sig .tc .vmem S8x32x512 .f32} (harg2 : arg2.IsWhole)
  {arg3 : Memref sig .tc .vmem S32x16384 .bf16} (harg3 : arg3.IsWhole) {arg4 : Memref sig .tc .vmem S1x16384 .f32} (harg4 : arg4.IsWhole)
  (x0 : Vec Ideal S8x32x8192 .i8) (x1 : Vec Ideal S8x32x512 .f32) (x2 : Vec Ideal S32x16384 .bf16) (x3 : Vec Ideal S1x16384 .f32)
  (k : Fin k0_t1_loop.trips)

/-- The residual block, and it times its weights. -/
def G (y : S32x16384.Idx) : EReal := H x0 x1 x2 (y 0) (y 1)
def GW (y : S32x16384.Idx) : EReal := H x0 x1 x2 (y 0) (y 1) * W x3 (y 1)

theorem emb_tile (c : Fin 16) (p : Fin 2) (inb) (i : Fin 32) (l : Fin 128) :
    (Rect.unit (s := S32x16384) (k0_off17 k (BitVec.ofNat 32 c.val) (BitVec.ofNat 32 (128 * p.val))) S32x128.size inb).emb (ix2 i l) = ix2 i (col k c p l) :=
  emb_unit (k0_off17_eq k c p) _ inb (ix2 i l) _ fun a => by
    match a with
    | 0 => exact (Nat.zero_add _).symm
    | 1 => rfl

theorem stored_G (c : Fin 16) : ∀ p ∈ stored arg1 arg2 arg3 iota0 (harg1.unread x0) (harg2.unread x1) (harg3.unread x2) k c,
    ∀ x : p.1.shape.Idx, p.2 x = G x0 x1 x2 (p.1.emb x) := by
  intro p hp
  unfold stored at hp
  rcases List.mem_cons.1 hp with rfl | hp
  · intro x
    obtain ⟨i, l, rfl⟩ : ∃ i : Fin 32, ∃ l : Fin 128, x = ix2 i l := ⟨x 0, x 1, eq_ix2 x⟩
    exact (tile_apply harg1 harg2 harg3 x0 x1 x2 k c 1 i l).trans (congrArg (G x0 x1 x2) (emb_tile k c 1 (k0_off17_inb k c 1) i l)).symm
  rcases List.mem_cons.1 hp with rfl | hp
  · intro x
    obtain ⟨i, l, rfl⟩ : ∃ i : Fin 32, ∃ l : Fin 128, x = ix2 i l := ⟨x 0, x 1, eq_ix2 x⟩
    exact (tile_apply harg1 harg2 harg3 x0 x1 x2 k c 0 i l).trans (congrArg (G x0 x1 x2) (emb_tile k c 0 (k0_off17_inb k c 0) i l)).symm
  · exact absurd hp List.not_mem_nil

theorem wstored_G (c : Fin 16) : ∀ p ∈ wstored arg1 arg2 arg3 arg4 iota0 (harg1.unread x0) (harg2.unread x1) (harg3.unread x2) (harg4.unread x3) k c,
    ∀ x : p.1.shape.Idx, p.2 x = GW x0 x1 x2 x3 (p.1.emb x) := by
  intro p hp
  unfold wstored at hp
  rcases List.mem_cons.1 hp with rfl | hp
  · intro x
    obtain ⟨i, l, rfl⟩ : ∃ i : Fin 32, ∃ l : Fin 128, x = ix2 i l := ⟨x 0, x 1, eq_ix2 x⟩
    refine Eq.trans ?_ (congrArg (GW x0 x1 x2 x3) (emb_tile k c 1 (k0_off17_inb k c 1) i l)).symm
    exact (cast_self _ shapeCasts_S32x128_S32x128 i l).trans (wtile_apply harg1 harg2 harg3 harg4 x0 x1 x2 x3 k c 1 i l)
  rcases List.mem_cons.1 hp with rfl | hp
  · intro x
    obtain ⟨i, l, rfl⟩ : ∃ i : Fin 32, ∃ l : Fin 128, x = ix2 i l := ⟨x 0, x 1, eq_ix2 x⟩
    refine Eq.trans ?_ (congrArg (GW x0 x1 x2 x3) (emb_tile k c 0 (k0_off17_inb k c 0) i l)).symm
    exact (cast_self _ shapeCasts_S32x128_S32x128 i l).trans (wtile_apply harg1 harg2 harg3 harg4 x0 x1 x2 x3 k c 0 i l)
  · exact absurd hp List.not_mem_nil

/-- The carried pair after `n` pieces of 128 columns. -/
def Carried (n : ℕ) (a : FVec Ideal S32x128 .f32 × FVec Ideal S32x128 .f32) : Prop :=
  ∀ (i : Fin 32) (l : Fin 128),
    a.1 (ix2 i l) = (∑ q ∈ Finset.range n, Spec.at' (fun j => H x0 x1 x2 i j * H x0 x1 x2 i j) q l) ∧
    ∀ b, a.2 (ix2 i l) ≤ b ↔ 0 ≤ b ∧ ∀ q < n, Spec.at' (fun j => Spec.mag (H x0 x1 x2 i j * W x3 j)) q l ≤ b

theorem at_col (f : Fin 16384 → EReal) (c : Fin 16) (p : Fin 2) (l : Fin 128) (n : ℕ) (hn : n = 32 * k.val + 2 * c.val + p.val) :
    Spec.at' f n l = f (col k c p l) := by
  have hk := trips4 k
  unfold Spec.at'
  rw [dif_pos (show 128 * n + l.val < 16384 by omega)]
  exact congrArg f (Fin.ext (by
    show 128 * n + l.val = 4096 * k.val + 256 * c.val + 128 * p.val + l.val
    omega))

theorem carried_step (c : Fin 16) (n : ℕ) (hn : n = 32 * k.val + 2 * c.val) (a : FVec Ideal S32x128 .f32 × FVec Ideal S32x128 .f32)
    (h : Carried x0 x1 x2 x3 n a) :
    Carried x0 x1 x2 x3 (n + 2) (carry arg1 arg2 arg3 arg4 iota0 (harg1.unread x0) (harg2.unread x1) (harg3.unread x2) (harg4.unread x3) k c a) := by
  intro i l
  obtain ⟨e1, e2⟩ := carry_apply harg1 harg2 harg3 harg4 x0 x1 x2 x3 k c a i l
  obtain ⟨h1, h2⟩ := h i l
  have a0 := fun f => at_col k f c 0 l n hn
  have a1 := fun f => at_col k f c 1 l (n + 1) (by rw [hn]; rfl)
  refine ⟨?_, fun b => ?_⟩
  · rw [e1, h1, Finset.sum_range_succ, Finset.sum_range_succ, a0, a1]
  · rw [e2, max_le_iff, max_le_iff, h2, ← a0 (fun j => Spec.mag (H x0 x1 x2 i j * W x3 j)), ← a1 (fun j => Spec.mag (H x0 x1 x2 i j * W x3 j))]
    constructor
    · rintro ⟨⟨⟨hb, hq⟩, hb0⟩, hb1⟩
      refine ⟨hb, fun q hlt => ?_⟩
      rcases (show q < n ∨ q = n ∨ q = n + 1 by omega) with h | rfl | rfl
      · exact hq q h
      · exact hb0
      · exact hb1
    · rintro ⟨hb, hq⟩
      exact ⟨⟨⟨hb, fun q h => hq q (by omega)⟩, hq n (by omega)⟩, hq (n + 1) (by omega)⟩

end Pieces

section Loop

variable (c : Dev nD) (i : grid0.Coords) (arg1 : Memref sig .tc .vmem S8x32x8192 .i8) (harg1 : arg1.IsWhole) (arg2 : Memref sig .tc .vmem S8x32x512 .f32) (harg2 : arg2.IsWhole) (arg3 : Memref sig .tc .vmem S32x16384 .bf16) (harg3 : arg3.IsWhole) (arg4 : Memref sig .tc .vmem S1x16384 .f32) (harg4 : arg4.IsWhole) (arg5 : Memref sig .tc .vmem S32x16384 .bf16) (harg5 : arg5.IsWhole) (arg6 : Memref sig .tc .vmem S32x16384 .fp8e4m3) (harg6 : arg6.IsWhole) (arg7 : Memref sig .tc .vmem S32x128 .f32) (harg7 : arg7.IsWhole) (arg8 : Memref sig .tc .vmem S32x16384 .f32) (harg8 : arg8.IsWhole)
  (x0 : Vec Ideal S8x32x8192 .i8) (x1 : Vec Ideal S8x32x512 .f32) (x2 : Vec Ideal S32x16384 .bf16) (x3 : Vec Ideal S1x16384 .f32)

/-- The loop's state before trip `n`. -/
abbrev st (n : ℕ) := st_k0_t1 (F := Ideal) Variants.none c none i arg1 harg1 arg2 harg2 arg3 harg3 arg4 harg4 arg5 harg5 arg6 harg6 arg7 harg7 arg8 harg8 iota0 (harg1.unread x0) (harg2.unread x1) (harg3.unread x2) (harg4.unread x3) (k0_pay812, k0_pay812) n

theorem st_facts : ∀ n, n ≤ 4 →
    (∀ p ∈ (st c i arg1 harg1 arg2 harg2 arg3 harg3 arg4 harg4 arg5 harg5 arg6 harg6 arg7 harg7 arg8 harg8 x0 x1 x2 x3 n).2.1, ∀ x : p.1.shape.Idx, p.2 x = G x0 x1 x2 (p.1.emb x)) ∧
    (∀ p ∈ (st c i arg1 harg1 arg2 harg2 arg3 harg3 arg4 harg4 arg5 harg5 arg6 harg6 arg7 harg7 arg8 harg8 x0 x1 x2 x3 n).2.2, ∀ x : p.1.shape.Idx, p.2 x = GW x0 x1 x2 x3 (p.1.emb x)) ∧
    Carried x0 x1 x2 x3 (32 * n) (st c i arg1 harg1 arg2 harg2 arg3 harg3 arg4 harg4 arg5 harg5 arg6 harg6 arg7 harg7 arg8 harg8 x0 x1 x2 x3 n).1
  | 0, _ => by
    refine ⟨fun p hp => absurd hp List.not_mem_nil, fun p hp => absurd hp List.not_mem_nil, fun i l => ?_⟩
    have h0 : (k0_pay812 (F := Ideal)) (ix2 i l) = 0 := by
      pointwise [k0_pay812]
    refine ⟨h0.trans (by simp), fun b => ?_⟩
    show k0_pay812 (F := Ideal) (ix2 i l) ≤ b ↔ _
    rw [h0]
    simp
  | n + 1, hn => by
    obtain ⟨hs, hw, hc⟩ := st_facts n (by omega)
    have hk : n < k0_t1_loop.trips := hn
    have e := st_k0_t1_succ (F := Ideal) Variants.none c none i arg1 harg1 arg2 harg2 arg3 harg3 arg4 harg4 arg5 harg5 arg6 harg6 arg7 harg7 arg8 harg8 iota0 (harg1.unread x0) (harg2.unread x1) (harg3.unread x2) (harg4.unread x3) (k0_pay812, k0_pay812) ⟨n, hk⟩
    have es := stores Variants.none c none i arg1 harg1 arg2 harg2 arg3 harg3 arg4 harg4 arg5 harg5 arg6 harg6 arg7 harg7 arg8 harg8 iota0 (harg1.unread x0) (harg2.unread x1) (harg3.unread x2) (harg4.unread x3) ⟨n, hk⟩ (st c i arg1 harg1 arg2 harg2 arg3 harg3 arg4 harg4 arg5 harg5 arg6 harg6 arg7 harg7 arg8 harg8 x0 x1 x2 x3 n).1
    have ew := wstores Variants.none c none i arg1 harg1 arg2 harg2 arg3 harg3 arg4 harg4 arg5 harg5 arg6 harg6 arg7 harg7 arg8 harg8 iota0 (harg1.unread x0) (harg2.unread x1) (harg3.unread x2) (harg4.unread x3) ⟨n, hk⟩ (st c i arg1 harg1 arg2 harg2 arg3 harg3 arg4 harg4 arg5 harg5 arg6 harg6 arg7 harg7 arg8 harg8 x0 x1 x2 x3 n).1
    have ec := carries Variants.none c none i arg1 harg1 arg2 harg2 arg3 harg3 arg4 harg4 arg5 harg5 arg6 harg6 arg7 harg7 arg8 harg8 iota0 (harg1.unread x0) (harg2.unread x1) (harg3.unread x2) (harg4.unread x3) ⟨n, hk⟩ (st c i arg1 harg1 arg2 harg2 arg3 harg3 arg4 harg4 arg5 harg5 arg6 harg6 arg7 harg7 arg8 harg8 x0 x1 x2 x3 n).1
    have e1 := (congrArg (fun s => s.2.1) e).trans (congrArg (· ++ (st c i arg1 harg1 arg2 harg2 arg3 harg3 arg4 harg4 arg5 harg5 arg6 harg6 arg7 harg7 arg8 harg8 x0 x1 x2 x3 n).2.1) es)
    have e2 := (congrArg (fun s => s.2.2) e).trans (congrArg (· ++ (st c i arg1 harg1 arg2 harg2 arg3 harg3 arg4 harg4 arg5 harg5 arg6 harg6 arg7 harg7 arg8 harg8 x0 x1 x2 x3 n).2.2) ew)
    have e3 := (congrArg (fun s => s.1) e).trans ec
    refine ⟨fun p hp => ?_, fun p hp => ?_, ?_⟩
    · rcases List.mem_append.1 (e1 ▸ hp) with hp | hp
      · obtain ⟨d, -, hd⟩ := List.mem_flatMap.1 hp
        exact stored_G harg1 harg2 harg3 x0 x1 x2 ⟨n, hk⟩ d p hd
      · exact hs p hp
    · rcases List.mem_append.1 (e2 ▸ hp) with hp | hp
      · obtain ⟨d, -, hd⟩ := List.mem_flatMap.1 hp
        exact wstored_G harg1 harg2 harg3 harg4 x0 x1 x2 x3 ⟨n, hk⟩ d p hd
      · exact hw p hp
    · have s := carried_step harg1 harg2 harg3 harg4 x0 x1 x2 x3 ⟨n, hk⟩
      have r := s 15 (32 * n + 30) rfl _ (s 14 (32 * n + 28) rfl _ (s 13 (32 * n + 26) rfl _ (s 12 (32 * n + 24) rfl _ (s 11 (32 * n + 22) rfl _ (s 10 (32 * n + 20) rfl _ (s 9 (32 * n + 18) rfl _ (s 8 (32 * n + 16) rfl _ (s 7 (32 * n + 14) rfl _ (s 6 (32 * n + 12) rfl _ (s 5 (32 * n + 10) rfl _ (s 4 (32 * n + 8) rfl _ (s 3 (32 * n + 6) rfl _ (s 2 (32 * n + 4) rfl _ (s 1 (32 * n + 2) rfl _ (s 0 (32 * n + 0) rfl _ (hc))))))))))))))))
      rw [show 32 * (n + 1) = 32 * n + 30 + 2 by omega]
      exact e3 ▸ r

end Loop

end Cert.RecvIdeal.Val

end
-- ==== Proof.RecvVal.lean ====
/- One grid point of the first kernel in its blocks' own indices: the residual rows, their codes, their scales. -/
module

public import proofs.«01_k».proof.Proof.RecvFrame
public import proofs.«01_k».proof.Proof.RecvLoop

@[expose] public section

set_option maxRecDepth 65536

noncomputable section

namespace Cert.RecvIdeal.Val

open Cert.RecvIdeal Cert.RecvIdeal.Gen Cert.RecvIdeal.Trip Idealize.ShloMosaic Idealize.ShloMosaic.TcCoe Idealize.ShloMosaic.Tactic Idealize.SL.Sem

/-! ## The row's factors -/

theorem pay816_apply (s : FVec Ideal S32x128 .f32) (i : Fin 32) (z : Fin 1) :
    k0_pay816 s (ix2 i z) = Ideal.div Spec.one (Ideal.sqrt (Ideal.div (∑ l : Fin 128, s (ix2 i l)) Spec.c16384 + Spec.eps)) := by
  pointwise [k0_pay816]

theorem pay817_apply (s x : FVec Ideal S32x128 .f32) (i : Fin 32) (z : Fin 1) :
    k0_pay817 s x (ix2 i z) = Spec.top (fun l : Fin 128 => x (ix2 i l)) * k0_pay816 s (ix2 i z) := by
  pointwise [k0_pay817]
  rfl

theorem pay1_apply (s x : FVec Ideal S32x128 .f32) (i : Fin 32) (z : Fin 1) :
    k0_pay1 (k0_pay817 s x) (k0_pay818 s x) (ix2 i z) = Spec.qscale (k0_pay817 s x (ix2 i z)) := by
  pointwise [k0_pay1, k0_pay818]
  rfl

/-! ## The second loop -/

section Codes

variable (arg8 : Memref sig .tc .vmem S32x16384 .f32) (v32 v35 : FVec Ideal S32x1 .f32) (v37 : IVec S32x1 1) (X8 : BufTy.Contents (Elt Ideal) arg8.view.ty)
  (k : Fin k0_t2_loop.trips)

/-- The codes of one load. -/
def quant (v : Vec Ideal S32x128 .f32) : FVec Ideal S32x128 .fp8e4m3 :=
  truncf .fp8e4m3 (minimumf (broadcast S32x128 (Scalar.ofBits .f32 0x43E00000#32))
    (maximumf (broadcast S32x128 (Scalar.ofBits .f32 0xC3E00000#32))
      (mulf v (broadcastTo S32x128 (k0_pay3 v32 v35 v37) broadcasts_S32x1_S32x128)))) bitsLt_fp8e4m3_f32

def qpiece (r : Fin 8) : View.Piece (Elt Ideal) S32x16384 .fp8e4m3 :=
  ⟨Rect.unit (s := S32x16384) (k0_off19 k (BitVec.ofNat 32 r.val)) S32x128.size (k0_off19_inb k r),
    quant v32 v35 v37 (View.readAt (Elt Ideal) arg8.view (Rect.unit (s := S32x16384) (k0_off19 k (BitVec.ofNat 32 r.val)) S32x128.size (k0_off19_inb k r)).toLoadRect X8)⟩

end Codes

theorem qstores (c : Dev nD) (i : grid0.Coords) (arg1 : Memref sig .tc .vmem S8x32x8192 .i8) (harg1 : arg1.IsWhole) (arg2 : Memref sig .tc .vmem S8x32x512 .f32) (harg2 : arg2.IsWhole) (arg3 : Memref sig .tc .vmem S32x16384 .bf16) (harg3 : arg3.IsWhole) (arg4 : Memref sig .tc .vmem S1x16384 .f32) (harg4 : arg4.IsWhole) (arg5 : Memref sig .tc .vmem S32x16384 .bf16) (harg5 : arg5.IsWhole) (arg6 : Memref sig .tc .vmem S32x16384 .fp8e4m3) (harg6 : arg6.IsWhole) (arg7 : Memref sig .tc .vmem S32x128 .f32) (harg7 : arg7.IsWhole) (arg8 : Memref sig .tc .vmem S32x16384 .f32) (harg8 : arg8.IsWhole) (v32 v35 : FVec Ideal S32x1 .f32) (v37 : IVec S32x1 1)
    (X8 : BufTy.Contents (Elt Ideal) arg8.view.ty) (k : Fin k0_t2_loop.trips) :
    tripL_k0_t2 (F := Ideal) Variants.none c none i arg1 harg1 arg2 harg2 arg3 harg3 arg4 harg4 arg5 harg5 arg6 harg6 arg7 harg7 arg8 harg8 v32 v35 v37 X8 k = [7, 6, 5, 4, 3, 2, 1, 0].map (qpiece arg8 v32 v35 v37 X8 k) := by
  unfold tripL_k0_t2 trip_k0_t2
  dsimp only
  sl_kernel_rfl

section Point

variable (c : Dev nD) (i : grid0.Coords) (arg1 : Memref sig .tc .vmem S8x32x8192 .i8) (harg1 : arg1.IsWhole) (arg2 : Memref sig .tc .vmem S8x32x512 .f32) (harg2 : arg2.IsWhole) (arg3 : Memref sig .tc .vmem S32x16384 .bf16) (harg3 : arg3.IsWhole) (arg4 : Memref sig .tc .vmem S1x16384 .f32) (harg4 : arg4.IsWhole) (arg5 : Memref sig .tc .vmem S32x16384 .bf16) (harg5 : arg5.IsWhole) (arg6 : Memref sig .tc .vmem S32x16384 .fp8e4m3) (harg6 : arg6.IsWhole) (arg7 : Memref sig .tc .vmem S32x128 .f32) (harg7 : arg7.IsWhole) (arg8 : Memref sig .tc .vmem S32x16384 .f32) (harg8 : arg8.IsWhole)
  (x0 : Vec Ideal S8x32x8192 .i8) (x1 : Vec Ideal S8x32x512 .f32) (x2 : Vec Ideal S32x16384 .bf16) (x3 : Vec Ideal S1x16384 .f32)

theorem L4_eq : (kernelRun0_A (F := Ideal) c i arg1 harg1 arg2 harg2 arg3 harg3 arg4 harg4 arg5 harg5 arg6 harg6 arg7 harg7 arg8 harg8 x0 x1 x2 x3).1 = (st c i arg1 harg1 arg2 harg2 arg3 harg3 arg4 harg4 arg5 harg5 arg6 harg6 arg7 harg7 arg8 harg8 x0 x1 x2 x3 4).2.1 := rfl

theorem L5_eq : (kernelRun0_A (F := Ideal) c i arg1 harg1 arg2 harg2 arg3 harg3 arg4 harg4 arg5 harg5 arg6 harg6 arg7 harg7 arg8 harg8 x0 x1 x2 x3).2.1
    = pb_k0_t2 (F := Ideal) Variants.none c none i arg1 harg1 arg2 harg2 arg3 harg3 arg4 harg4 arg5 harg5 arg6 harg6 arg7 harg7 arg8 harg8 (k0_pay816 (st c i arg1 harg1 arg2 harg2 arg3 harg3 arg4 harg4 arg5 harg5 arg6 harg6 arg7 harg7 arg8 harg8 x0 x1 x2 x3 4).1.1)
      (k0_pay817 (st c i arg1 harg1 arg2 harg2 arg3 harg3 arg4 harg4 arg5 harg5 arg6 harg6 arg7 harg7 arg8 harg8 x0 x1 x2 x3 4).1.1 (st c i arg1 harg1 arg2 harg2 arg3 harg3 arg4 harg4 arg5 harg5 arg6 harg6 arg7 harg7 arg8 harg8 x0 x1 x2 x3 4).1.2) (k0_pay818 (st c i arg1 harg1 arg2 harg2 arg3 harg3 arg4 harg4 arg5 harg5 arg6 harg6 arg7 harg7 arg8 harg8 x0 x1 x2 x3 4).1.1 (st c i arg1 harg1 arg2 harg2 arg3 harg3 arg4 harg4 arg5 harg5 arg6 harg6 arg7 harg7 arg8 harg8 x0 x1 x2 x3 4).1.2)
      (harg8.unread (View.canon (st c i arg1 harg1 arg2 harg2 arg3 harg3 arg4 harg4 arg5 harg5 arg6 harg6 arg7 harg7 arg8 harg8 x0 x1 x2 x3 4).2.2)) 16 := rfl

theorem L6_eq : (kernelRun0_A (F := Ideal) c i arg1 harg1 arg2 harg2 arg3 harg3 arg4 harg4 arg5 harg5 arg6 harg6 arg7 harg7 arg8 harg8 x0 x1 x2 x3).2.2.1
    = [⟨Rect.unit (s := S32x128) ![0, 0] S32x128.size inb_S32x128_S32x128_0_0,
        k0_pay2 (k0_pay817 (st c i arg1 harg1 arg2 harg2 arg3 harg3 arg4 harg4 arg5 harg5 arg6 harg6 arg7 harg7 arg8 harg8 x0 x1 x2 x3 4).1.1 (st c i arg1 harg1 arg2 harg2 arg3 harg3 arg4 harg4 arg5 harg5 arg6 harg6 arg7 harg7 arg8 harg8 x0 x1 x2 x3 4).1.2) (k0_pay818 (st c i arg1 harg1 arg2 harg2 arg3 harg3 arg4 harg4 arg5 harg5 arg6 harg6 arg7 harg7 arg8 harg8 x0 x1 x2 x3 4).1.1 (st c i arg1 harg1 arg2 harg2 arg3 harg3 arg4 harg4 arg5 harg5 arg6 harg6 arg7 harg7 arg8 harg8 x0 x1 x2 x3 4).1.2)⟩] := rfl

/-- The scratch between the loops. -/
theorem scr_apply (y : S32x16384.Idx) : View.canon (st c i arg1 harg1 arg2 harg2 arg3 harg3 arg4 harg4 arg5 harg5 arg6 harg6 arg7 harg7 arg8 harg8 x0 x1 x2 x3 4).2.2 y = GW x0 x1 x2 x3 y := by
  have cv : ∃ p ∈ (st c i arg1 harg1 arg2 harg2 arg3 harg3 arg4 harg4 arg5 harg5 arg6 harg6 arg7 harg7 arg8 harg8 x0 x1 x2 x3 4).2.2, y ∈ p.1.set :=
    cover_scr c i arg1 harg1 arg2 harg2 arg3 harg3 arg4 harg4 arg5 harg5 arg6 harg6 arg7 harg7 arg8 harg8 iota0 (harg1.unread x0) (harg2.unread x1) (harg3.unread x2) (harg4.unread x3) (k0_pay812, k0_pay812) y
  exact View.canon_apply_of_pieces (GW x0 x1 x2 x3) _ (st_facts c i arg1 harg1 arg2 harg2 arg3 harg3 arg4 harg4 arg5 harg5 arg6 harg6 arg7 harg7 arg8 harg8 x0 x1 x2 x3 4 le_rfl).2.1 y cv

/-- The inverse root, and the scale, of a row. -/
theorem inv_apply (r : Fin 32) (z : Fin 1) : k0_pay816 (st c i arg1 harg1 arg2 harg2 arg3 harg3 arg4 harg4 arg5 harg5 arg6 harg6 arg7 harg7 arg8 harg8 x0 x1 x2 x3 4).1.1 (ix2 r z) = Spec.inv (H x0 x1 x2 r) := by
  rw [pay816_apply]
  have h : ∀ l : Fin 128, (st c i arg1 harg1 arg2 harg2 arg3 harg3 arg4 harg4 arg5 harg5 arg6 harg6 arg7 harg7 arg8 harg8 x0 x1 x2 x3 4).1.1 (ix2 r l) = _ := fun l => ((st_facts c i arg1 harg1 arg2 harg2 arg3 harg3 arg4 harg4 arg5 harg5 arg6 harg6 arg7 harg7 arg8 harg8 x0 x1 x2 x3 4 le_rfl).2.2 r l).1
  rw [Finset.sum_congr rfl fun l _ => h l, Spec.lane_sum (fun j => H x0 x1 x2 r j * H x0 x1 x2 r j)]
  rfl

theorem scale_apply (r : Fin 32) (z : Fin 1) :
    k0_pay1 (k0_pay817 (st c i arg1 harg1 arg2 harg2 arg3 harg3 arg4 harg4 arg5 harg5 arg6 harg6 arg7 harg7 arg8 harg8 x0 x1 x2 x3 4).1.1 (st c i arg1 harg1 arg2 harg2 arg3 harg3 arg4 harg4 arg5 harg5 arg6 harg6 arg7 harg7 arg8 harg8 x0 x1 x2 x3 4).1.2) (k0_pay818 (st c i arg1 harg1 arg2 harg2 arg3 harg3 arg4 harg4 arg5 harg5 arg6 harg6 arg7 harg7 arg8 harg8 x0 x1 x2 x3 4).1.1 (st c i arg1 harg1 arg2 harg2 arg3 harg3 arg4 harg4 arg5 harg5 arg6 harg6 arg7 harg7 arg8 harg8 x0 x1 x2 x3 4).1.2) (ix2 r z)
      = Spec.lateScale (H x0 x1 x2 r) (W x3) := by
  rw [pay1_apply, pay817_apply, inv_apply]
  have h : ∀ l : Fin 128, ∀ b, (st c i arg1 harg1 arg2 harg2 arg3 harg3 arg4 harg4 arg5 harg5 arg6 harg6 arg7 harg7 arg8 harg8 x0 x1 x2 x3 4).1.2 (ix2 r l) ≤ b ↔ _ := fun l => ((st_facts c i arg1 harg1 arg2 harg2 arg3 harg3 arg4 harg4 arg5 harg5 arg6 harg6 arg7 harg7 arg8 harg8 x0 x1 x2 x3 4 le_rfl).2.2 r l).2
  rw [Spec.lane_top (fun j => Spec.mag (H x0 x1 x2 r j * W x3 j)) (fun j => Spec.mag_nonneg _) _ h]
  rfl

/-- THE RESIDUAL a point stores. -/
theorem out4 (y : S32x16384.Idx) : out0_A_4 (F := Ideal) c i arg1 harg1 arg2 harg2 arg3 harg3 arg4 harg4 arg5 harg5 arg6 harg6 arg7 harg7 arg8 harg8 x0 x1 x2 x3 y = H x0 x1 x2 (y 0) (y 1) := by
  unfold out0_A_4
  rw [View.read_writes_eq_canon _ _ _ (cover0_A_4 (F := Ideal) c i arg1 harg1 arg2 harg2 arg3 harg3 arg4 harg4 arg5 harg5 arg6 harg6 arg7 harg7 arg8 harg8 x0 x1 x2 x3)]
  refine View.canon_apply_of_pieces (G x0 x1 x2) _ ?_ y (cover0_A_4 (F := Ideal) c i arg1 harg1 arg2 harg2 arg3 harg3 arg4 harg4 arg5 harg5 arg6 harg6 arg7 harg7 arg8 harg8 x0 x1 x2 x3 y)
  rw [L4_eq]
  exact (st_facts c i arg1 harg1 arg2 harg2 arg3 harg3 arg4 harg4 arg5 harg5 arg6 harg6 arg7 harg7 arg8 harg8 x0 x1 x2 x3 4 le_rfl).1

/-- THE SCALES a point stores. -/
theorem out6 (r : Fin 32) (l : Fin 128) : out0_A_6 (F := Ideal) c i arg1 harg1 arg2 harg2 arg3 harg3 arg4 harg4 arg5 harg5 arg6 harg6 arg7 harg7 arg8 harg8 x0 x1 x2 x3 (ix2 r l) = Spec.rowScale (Spec.normed (H x0 x1 x2 r) (W x3)) := by
  unfold out0_A_6
  rw [View.read_writes_eq_canon _ _ _ (cover0_A_6 (F := Ideal) c i arg1 harg1 arg2 harg2 arg3 harg3 arg4 harg4 arg5 harg5 arg6 harg6 arg7 harg7 arg8 harg8 x0 x1 x2 x3)]
  refine (View.canon_apply_of_pieces (fun y : S32x128.Idx => Spec.rowScale (Spec.normed (H x0 x1 x2 (y 0)) (W x3))) _ ?_ (ix2 r l) (cover0_A_6 (F := Ideal) c i arg1 harg1 arg2 harg2 arg3 harg3 arg4 harg4 arg5 harg5 arg6 harg6 arg7 harg7 arg8 harg8 x0 x1 x2 x3 (ix2 r l)))
  rw [L6_eq]
  intro p hp x
  obtain rfl := List.mem_singleton.1 hp
  obtain ⟨a, b, rfl⟩ : ∃ a : Fin 32, ∃ b : Fin 128, x = ix2 a b := ⟨x 0, x 1, eq_ix2 x⟩
  have he : (Rect.unit (s := S32x128) ![0, 0] S32x128.size inb_S32x128_S32x128_0_0).emb (ix2 a b) = ix2 a b :=
    emb_unit (s := S32x128) (off := ![0, 0]) (off' := ![0, 0]) rfl _ _ (ix2 a b) _ fun d => by
      match d with
      | 0 => exact (Nat.zero_add _).symm
      | 1 => exact (Nat.zero_add _).symm
  refine Eq.trans ?_ (congrArg (fun y : S32x128.Idx => Spec.rowScale (Spec.normed (H x0 x1 x2 (y 0)) (W x3))) he).symm
  show k0_pay2 (F := Ideal) _ _ (ix2 a b) = Spec.rowScale (Spec.normed (H x0 x1 x2 a) (W x3))
  rw [← Spec.lateScale_eq, ← scale_apply c i arg1 harg1 arg2 harg2 arg3 harg3 arg4 harg4 arg5 harg5 arg6 harg6 arg7 harg7 arg8 harg8 x0 x1 x2 x3 a 0]
  pointwise [k0_pay2]

/-- The codes' pieces, after any number of the second loop's trips. -/
theorem codes_facts : ∀ n, n ≤ 16 → ∀ p ∈ pb_k0_t2 (F := Ideal) Variants.none c none i arg1 harg1 arg2 harg2 arg3 harg3 arg4 harg4 arg5 harg5 arg6 harg6 arg7 harg7 arg8 harg8 (k0_pay816 (st c i arg1 harg1 arg2 harg2 arg3 harg3 arg4 harg4 arg5 harg5 arg6 harg6 arg7 harg7 arg8 harg8 x0 x1 x2 x3 4).1.1)
      (k0_pay817 (st c i arg1 harg1 arg2 harg2 arg3 harg3 arg4 harg4 arg5 harg5 arg6 harg6 arg7 harg7 arg8 harg8 x0 x1 x2 x3 4).1.1 (st c i arg1 harg1 arg2 harg2 arg3 harg3 arg4 harg4 arg5 harg5 arg6 harg6 arg7 harg7 arg8 harg8 x0 x1 x2 x3 4).1.2) (k0_pay818 (st c i arg1 harg1 arg2 harg2 arg3 harg3 arg4 harg4 arg5 harg5 arg6 harg6 arg7 harg7 arg8 harg8 x0 x1 x2 x3 4).1.1 (st c i arg1 harg1 arg2 harg2 arg3 harg3 arg4 harg4 arg5 harg5 arg6 harg6 arg7 harg7 arg8 harg8 x0 x1 x2 x3 4).1.2)
      (harg8.unread (View.canon (st c i arg1 harg1 arg2 harg2 arg3 harg3 arg4 harg4 arg5 harg5 arg6 harg6 arg7 harg7 arg8 harg8 x0 x1 x2 x3 4).2.2)) n,
    ∀ x : p.1.shape.Idx, p.2 x = (fun y : S32x16384.Idx => Spec.rowCode (Spec.normed (H x0 x1 x2 (y 0)) (W x3)) (y 1) : S32x16384.Idx → EReal) (p.1.emb x)
  | 0, _, p, hp => absurd hp List.not_mem_nil
  | n + 1, hn, p, hp => by
    have hk : n < k0_t2_loop.trips := hn
    have e := (pb_k0_t2_succ (F := Ideal) Variants.none c none i arg1 harg1 arg2 harg2 arg3 harg3 arg4 harg4 arg5 harg5 arg6 harg6 arg7 harg7 arg8 harg8 (k0_pay816 (st c i arg1 harg1 arg2 harg2 arg3 harg3 arg4 harg4 arg5 harg5 arg6 harg6 arg7 harg7 arg8 harg8 x0 x1 x2 x3 4).1.1)
      (k0_pay817 (st c i arg1 harg1 arg2 harg2 arg3 harg3 arg4 harg4 arg5 harg5 arg6 harg6 arg7 harg7 arg8 harg8 x0 x1 x2 x3 4).1.1 (st c i arg1 harg1 arg2 harg2 arg3 harg3 arg4 harg4 arg5 harg5 arg6 harg6 arg7 harg7 arg8 harg8 x0 x1 x2 x3 4).1.2) (k0_pay818 (st c i arg1 harg1 arg2 harg2 arg3 harg3 arg4 harg4 arg5 harg5 arg6 harg6 arg7 harg7 arg8 harg8 x0 x1 x2 x3 4).1.1 (st c i arg1 harg1 arg2 harg2 arg3 harg3 arg4 harg4 arg5 harg5 arg6 harg6 arg7 harg7 arg8 harg8 x0 x1 x2 x3 4).1.2)
      (harg8.unread (View.canon (st c i arg1 harg1 arg2 harg2 arg3 harg3 arg4 harg4 arg5 harg5 arg6 harg6 arg7 harg7 arg8 harg8 x0 x1 x2 x3 4).2.2)) ⟨n, hk⟩)
    rcases List.mem_append.1 (e ▸ hp) with hp | hp
    · rw [qstores] at hp
      obtain ⟨r, -, rfl⟩ := List.mem_map.1 hp
      intro x
      obtain ⟨a, b, rfl⟩ : ∃ a : Fin 32, ∃ b : Fin 128, x = ix2 a b := ⟨x 0, x 1, eq_ix2 x⟩
      have hj : 1024 * n + 128 * r.val + b.val < 16384 := by omega
      have he : (Rect.unit (s := S32x16384) (k0_off19 ⟨n, hk⟩ (BitVec.ofNat 32 r.val)) S32x128.size (k0_off19_inb ⟨n, hk⟩ r)).emb (ix2 a b)
          = ix2 a ⟨1024 * n + 128 * r.val + b.val, hj⟩ :=
        emb_unit (s := S32x16384) (k0_off19_eq ⟨n, hk⟩ r) _ _ (ix2 a b) _ fun d => by
          match d with
          | 0 => exact (Nat.zero_add _).symm
          | 1 => rfl
      have hl := (ldr harg8 (View.canon (st c i arg1 harg1 arg2 harg2 arg3 harg3 arg4 harg4 arg5 harg5 arg6 harg6 arg7 harg7 arg8 harg8 x0 x1 x2 x3 4).2.2) (k0_off19_eq ⟨n, hk⟩ r) S32x128.size (k0_off19_inb ⟨n, hk⟩ r) (ix2 a b)
        (ix2 a ⟨1024 * n + 128 * r.val + b.val, hj⟩) fun d => by
          match d with
          | 0 => exact (Nat.zero_add _).symm
          | 1 => rfl).trans (scr_apply c i arg1 harg1 arg2 harg2 arg3 harg3 arg4 harg4 arg5 harg5 arg6 harg6 arg7 harg7 arg8 harg8 x0 x1 x2 x3 _)
      refine Eq.trans ?_ (congrArg (fun y : S32x16384.Idx => Spec.rowCode (Spec.normed (H x0 x1 x2 (y 0)) (W x3)) (y 1)) he).symm
      show quant _ _ _ _ (ix2 a b) = Spec.rowCode (Spec.normed (H x0 x1 x2 a) (W x3)) ⟨1024 * n + 128 * r.val + b.val, hj⟩
      rw [← Spec.lateCode_eq]
      unfold Spec.lateCode
      rw [← scale_apply c i arg1 harg1 arg2 harg2 arg3 harg3 arg4 harg4 arg5 harg5 arg6 harg6 arg7 harg7 arg8 harg8 x0 x1 x2 x3 a 0, ← inv_apply c i arg1 harg1 arg2 harg2 arg3 harg3 arg4 harg4 arg5 harg5 arg6 harg6 arg7 harg7 arg8 harg8 x0 x1 x2 x3 a 0]
      change _ = GW x0 x1 x2 x3 (ix2 a ⟨1024 * n + 128 * r.val + b.val, hj⟩) at hl
      have hg : GW x0 x1 x2 x3 (ix2 a ⟨1024 * n + 128 * r.val + b.val, hj⟩)
        = H x0 x1 x2 a ⟨1024 * n + 128 * r.val + b.val, hj⟩ * W x3 ⟨1024 * n + 128 * r.val + b.val, hj⟩ := rfl
      rw [← hg, ← hl]
      pointwise [quant, k0_pay3]
    · exact codes_facts n (by omega) p hp

/-- THE CODES a point stores. -/
theorem out5 (y : S32x16384.Idx) : out0_A_5 (F := Ideal) c i arg1 harg1 arg2 harg2 arg3 harg3 arg4 harg4 arg5 harg5 arg6 harg6 arg7 harg7 arg8 harg8 x0 x1 x2 x3 y = Spec.rowCode (Spec.normed (H x0 x1 x2 (y 0)) (W x3)) (y 1) := by
  unfold out0_A_5
  rw [View.read_writes_eq_canon _ _ _ (cover0_A_5 (F := Ideal) c i arg1 harg1 arg2 harg2 arg3 harg3 arg4 harg4 arg5 harg5 arg6 harg6 arg7 harg7 arg8 harg8 x0 x1 x2 x3)]
  refine View.canon_apply_of_pieces (fun y : S32x16384.Idx => Spec.rowCode (Spec.normed (H x0 x1 x2 (y 0)) (W x3)) (y 1)) _ ?_ y (cover0_A_5 (F := Ideal) c i arg1 harg1 arg2 harg2 arg3 harg3 arg4 harg4 arg5 harg5 arg6 harg6 arg7 harg7 arg8 harg8 x0 x1 x2 x3 y)
  rw [L5_eq]
  exact codes_facts c i arg1 harg1 arg2 harg2 arg3 harg3 arg4 harg4 arg5 harg5 arg6 harg6 arg7 harg7 arg8 harg8 x0 x1 x2 x3 16 le_rfl

end Point

end Cert.RecvIdeal.Val

end
-- ==== Proof.RecvOut.lean ====
/- The first kernel's three result arrays as functions of the arrays it was launched on, and its run. -/
module

public import proofs.«01_k».proof.Proof.RecvVal
public import Idealize.ShloMosaic.Lib.Pipeline.ValueKit
public import Idealize.ShloMosaic.Lib.Pointwise
public import Idealize.ShloMosaic.Lib.Claim

@[expose] public section

noncomputable section

namespace Cert.RecvIdeal.Out

open Cert.RecvIdeal Cert.RecvIdeal.Gen Cert.RecvIdeal.Val Idealize.ShloMosaic Idealize.ShloMosaic.TcCoe Idealize.SL.Sem

variable (m : (ℓ : Loc nD τ sig) → Buf (Elt Ideal) ℓ) (ρ : Dev nD → PrngReg)

/-- The arrays as launched. -/
abbrev X0 (c : Dev nD) : S8x1280x8192.Idx → BitVec 8 := m ((c.tc : Thread nD τ).loc main_arg0)
abbrev X1 (c : Dev nD) : S8x1280x512.Idx → EReal := m ((c.tc : Thread nD τ).loc main_arg1)
abbrev X2 (c : Dev nD) : S1280x16384.Idx → EReal := m ((c.tc : Thread nD τ).loc main_arg2)
abbrev X3 (c : Dev nD) : S1x16384.Idx → EReal := m ((c.tc : Thread nD τ).loc main_arg3)

/-- Row `i` of the residual, the weights, and the norm of the row. -/
def hrow (c : Dev nD) (i : Fin 1280) : Fin 16384 → EReal :=
  Spec.hcol (fun r q => X0 m c (ix3 r i q)) (fun r g => X1 m c (ix3 r i g)) (fun j => X2 m c (ix2 i j))
def wrow (c : Dev nD) (j : Fin 16384) : EReal := X3 m c (ix2 0 j)
def nrow (c : Dev nD) (i : Fin 1280) : Fin 16384 → EReal := Spec.normed (hrow m c i) (wrow m c)

/-- The point's windows begin at row `32 t`. -/
theorem idx : ∀ t : Fin cfg0.N, win0_0.index t = ![0, t.val, 0] ∧ win0_1.index t = ![0, t.val, 0] ∧ win0_2.index t = ![t.val, 0]
    ∧ win0_3.index t = ![0, 0] ∧ win0_4.index t = ![t.val, 0] ∧ win0_5.index t = ![t.val, 0] ∧ win0_6.index t = ![t.val, 0] :=
  (by decide +kernel : ∀ t : Fin grid0.N, _)

/-- The row of the array that is row `i` of block `t`. -/
abbrev row (t : Fin cfg0.N) (i : Fin 32) : Fin 1280 := ⟨32 * t.val + i.val, by have : t.val < 40 := t.isLt; omega⟩

/-- A block's residual rows and weights are the array's. -/
theorem block_row (c : Dev nD) (t : Fin cfg0.N) (i : Fin 32) : H (iblk m c 0 t) (iblk m c 1 t) (iblk m c 2 t) i = hrow m c (row t i) := by
  have h0 : ∀ (r : Fin 8) (q : Fin 8192), (iblk m c 0 t : Vec Ideal S8x32x8192 .i8) (ix3 r i q) = X0 m c (ix3 r (row t i) q) := fun r q => by
    blk_point [iblk, idx t]
  have h1 : ∀ (r : Fin 8) (g : Fin 512), (iblk m c 1 t : Vec Ideal S8x32x512 .f32) (ix3 r i g) = X1 m c (ix3 r (row t i) g) := fun r g => by
    blk_point [iblk, idx t]
  have h2 : ∀ j : Fin 16384, (iblk m c 2 t : Vec Ideal S32x16384 .bf16) (ix2 i j) = X2 m c (ix2 (row t i) j) := fun j => by
    blk_point [iblk, idx t]
  have e0 : (fun r q => (iblk m c 0 t : Vec Ideal S8x32x8192 .i8) (ix3 r i q)) = fun r q => X0 m c (ix3 r (row t i) q) :=
    funext fun r => funext fun q => h0 r q
  have e1 : (fun r g => (iblk m c 1 t : Vec Ideal S8x32x512 .f32) (ix3 r i g)) = fun r g => X1 m c (ix3 r (row t i) g) :=
    funext fun r => funext fun g => h1 r g
  have e2 : (fun j => (iblk m c 2 t : Vec Ideal S32x16384 .bf16) (ix2 i j)) = fun j => X2 m c (ix2 (row t i) j) := funext h2
  unfold H hrow
  rw [e0, e1, e2]

theorem block_w (c : Dev nD) (t : Fin cfg0.N) : W (iblk m c 3 t) = wrow m c := by
  funext j
  unfold W wrow
  blk_point [iblk, idx t]

theorem emb4 (t : Fin cfg0.N) (i : Fin 32) (j : Fin 16384) :
    (((cfg0.win 4).blk t).view.emb (ix2 i j) : S1280x16384.Idx) = ix2 (row t i) j := by
  funext a
  apply Fin.ext
  match a with
  | 0 =>
    blk_simp; blk_point [idx t]
    exact congrArg (· + i.val) (Nat.mul_comm _ _)
  | 1 => blk_simp; blk_point [idx t]

theorem emb5 (t : Fin cfg0.N) (i : Fin 32) (j : Fin 16384) :
    (((cfg0.win 5).blk t).view.emb (ix2 i j) : S1280x16384.Idx) = ix2 (row t i) j := by
  funext a
  apply Fin.ext
  match a with
  | 0 =>
    blk_simp; blk_point [idx t]
    exact congrArg (· + i.val) (Nat.mul_comm _ _)
  | 1 => blk_simp; blk_point [idx t]

theorem emb6 (t : Fin cfg0.N) (i : Fin 32) (j : Fin 128) :
    (((cfg0.win 6).blk t).view.emb (ix2 i j) : S1280x128.Idx) = ix2 (row t i) j := by
  funext a
  apply Fin.ext
  match a with
  | 0 =>
    blk_simp; blk_point [idx t]
    exact congrArg (· + i.val) (Nat.mul_comm _ _)
  | 1 => blk_simp; blk_point [idx t]

/-- THE RESIDUAL. -/
theorem residual (c : Dev nD) : (dats m 0 c).arrAt 4 cfg0.N
    = (fun y : S1280x16384.Idx => hrow m c (y 0) (y 1) : S1280x16384.Idx → EReal) := by
  refine (dats m 0 c).arrAt_eq_of_covers 4 _ (by decide +kernel) fun t hf y => ?_
  obtain ⟨i, j, rfl⟩ : ∃ i : Fin 32, ∃ j : Fin 16384, y = ix2 i j := ⟨y 0, y 1, eq_ix2 y⟩
  rw [emb4]
  blk_simp
  rw [after0_4]
  exact (out4 c _ _ _ _ _ _ _ _ _ _ _ _ _ _ _ _ _ _ _ _ _ (ix2 i j)).trans (congrFun (block_row m c t i) j)

/-- THE CODES of the norm. -/
theorem codes (c : Dev nD) : (dats m 0 c).arrAt 5 cfg0.N
    = (fun y : S1280x16384.Idx => Spec.rowCode (nrow m c (y 0)) (y 1) : S1280x16384.Idx → EReal) := by
  refine (dats m 0 c).arrAt_eq_of_covers 5 _ (by decide +kernel) fun t hf y => ?_
  obtain ⟨i, j, rfl⟩ : ∃ i : Fin 32, ∃ j : Fin 16384, y = ix2 i j := ⟨y 0, y 1, eq_ix2 y⟩
  rw [emb5]
  blk_simp
  rw [after0_5]
  refine (out5 c _ _ _ _ _ _ _ _ _ _ _ _ _ _ _ _ _ _ _ _ _ (ix2 i j)).trans ?_
  rw [block_w]
  exact congrArg (fun f => Spec.rowCode (Spec.normed f (wrow m c)) j) (block_row m c t i)

/-- THE SCALES of the norm, each row's the same on 128 lanes. -/
theorem scales (c : Dev nD) : (dats m 0 c).arrAt 6 cfg0.N
    = (fun y : S1280x128.Idx => Spec.rowScale (nrow m c (y 0)) : S1280x128.Idx → EReal) := by
  refine (dats m 0 c).arrAt_eq_of_covers 6 _ (by decide +kernel) fun t hf y => ?_
  obtain ⟨i, j, rfl⟩ : ∃ i : Fin 32, ∃ j : Fin 128, y = ix2 i j := ⟨y 0, y 1, eq_ix2 y⟩
  rw [emb6]
  blk_simp
  rw [after0_6]
  refine (out6 c _ _ _ _ _ _ _ _ _ _ _ _ _ _ _ _ _ _ _ _ _ i j).trans ?_
  rw [block_w]
  exact congrArg (fun f => Spec.rowScale (Spec.normed f (wrow m c))) (block_row m c t i)

/-- THE RUN: the three result arrays named, the arguments unchanged. -/
theorem run : θ_run defs (onTc (τ := τ) (main (F := Ideal))) ⟨m, fun _ => 0, ρ⟩ (fun r => ∀ c : Dev nD,
      r.2.mem ((c.tc : Thread nD τ).loc main_v0_0) = (fun y : S1280x16384.Idx => hrow m c (y 0) (y 1) : S1280x16384.Idx → EReal)
      ∧ r.2.mem ((c.tc : Thread nD τ).loc main_v0_1) = (fun y : S1280x16384.Idx => Spec.rowCode (nrow m c (y 0)) (y 1) : S1280x16384.Idx → EReal)
      ∧ r.2.mem ((c.tc : Thread nD τ).loc main_v0_2) = (fun y : S1280x128.Idx => Spec.rowScale (nrow m c (y 0)) : S1280x128.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (residual m c), ((h.1 c).1 5).trans (codes m c), ((h.1 c).1 6).trans (scales m c), h.2 c⟩)
    (θ_run_and (run_main m ρ) (unchanged m ρ))

end Cert.RecvIdeal.Out

end
-- ==== Proof.RecvRef.lean ====
/- The first reference: its three result arrays are the residual, and the codes and the scales of its norm. -/
module

public import proofs.«01_k».proof.Proof.RecvSpec
public import proofs.«01_k».proof.Proof.Gen.RecvReferenceIdeal.Frame
public import Idealize.ShloMosaic.Lib.Pipeline.ValueKit
public import Idealize.ShloMosaic.Lib.Pointwise
public import Idealize.ShloMosaic.Lib.Claim

@[expose] public section

noncomputable section

namespace Cert.RecvReferenceIdeal.Ref

open Cert.RecvReferenceIdeal Cert.RecvReferenceIdeal.Gen Idealize.ShloMosaic Idealize.ShloMosaic.TcCoe Idealize.SL.Sem

/-! ## One shard's two halves -/

theorem groups_apply {α : Type} (w : S1280x512x16.Idx → α) (i : Fin 1280) (q : Fin 8192) :
    shapeCast S1280x8192 w shapeCasts_S1280x512x16_S1280x8192 (ix2 i q) = w (ix3 i ⟨q.val / 16, by omega⟩ ⟨q.val % 16, by omega⟩) := by
  unfold shapeCast
  refine congrArg w (Shape.reshapeEquiv_eq_of_vals _ _ _ _ _ (rowMajor_val3 _ 8192 16 rfl rfl) (rowMajor_val2 _ 8192 rfl) ?_)
  show i.val * 8192 + q.val / 16 * 16 + q.val % 16 = i.val * 8192 + q.val
  omega

theorem unit_apply {α : Type} (w : S1280x512.Idx → α) (i : Fin 1280) (g : Fin 512) :
    shapeCast S1280x512x1 w shapeCasts_S1280x512_S1280x512x1 (ix3 i g 0) = w (ix2 i g) := by
  unfold shapeCast
  refine congrArg w (Shape.reshapeEquiv_eq_of_vals _ _ _ _ _ (rowMajor_val2 _ 512 rfl) (rowMajor_val3 _ 512 1 rfl rfl) ?_)
  show i.val * 512 + g.val = i.val * 512 + g.val * 1 + 0
  omega

theorem flat_apply {α : Type} (w : S1x1280x512.Idx → α) (i : Fin 1280) (g : Fin 512) :
    shapeCast S1280x512 w shapeCasts_S1x1280x512_S1280x512 (ix2 i g) = w (ix3 0 i g) := by
  unfold shapeCast
  refine congrArg w (Shape.reshapeEquiv_eq_of_vals _ _ _ _ _ (rowMajor_val3 _ 655360 512 rfl rfl) (rowMajor_val2 _ 512 rfl) ?_)
  show 0 * 655360 + i.val * 512 + g.val = i.val * 512 + g.val
  omega

theorem bytes_apply (v : Vec Ideal S1x1280x8192 .i8) (i : Fin 1280) (q : Fin 8192) :
    k0_pay4 v (ix2 i q) = (v (ix3 0 i q) : BitVec 8).setWidth 32 := by
  show (shapeCast S1280x8192 v shapeCasts_S1x1280x8192_S1280x8192 (ix2 i q) : BitVec 8).setWidth 32 = _
  unfold shapeCast
  refine congrArg (fun x => (v x : BitVec 8).setWidth 32) (Shape.reshapeEquiv_eq_of_vals _ _ _ _ _ (rowMajor_val3 _ 10485760 8192 rfl rfl) (rowMajor_val2 _ 8192 rfl) ?_)
  show 0 * 10485760 + i.val * 8192 + q.val = i.val * 8192 + q.val
  omega

theorem cast_self {α : Type} {S : Shape} (w : S.Idx → α) (h : S.ShapeCasts S) : shapeCast S w h = w := by
  funext x
  unfold shapeCast
  exact congrArg w (Shape.reshapeEquiv_eq_of_vals _ _ _ _ _ rfl rfl rfl)

theorem scale_apply (s : Vec Ideal S1x1280x512 .f32) (i : Fin 1280) (q : Fin 8192) :
    k0_pay5 s (ix2 i q) = s (ix3 0 i ⟨q.val / 16, by omega⟩) := by
  unfold k0_pay5
  rw [groups_apply, cast_self]
  pointwise [unit_apply, flat_apply]

theorem low_apply (v : Vec Ideal S1x1280x8192 .i8) (s : Vec Ideal S1x1280x512 .f32) (i : Fin 1280) (q : Fin 8192) :
    k0_pay6 v s (ix2 i q) = ((Spec.low (v (ix3 0 i q)) : ℝ) : EReal) * s (ix3 0 i ⟨q.val / 16, by omega⟩) := by
  rw [← scale_apply s i q]
  have h : shrsi (shli (k0_pay4 v) (broadcast S1280x8192 28#32)) (broadcast S1280x8192 28#32) (ix2 i q)
      = ((v (ix3 0 i q) : BitVec 8).setWidth 32 <<< 28).sshiftRight 28 := by
    rw [← bytes_apply]
    rfl
  show (((shrsi (shli (k0_pay4 v) (broadcast S1280x8192 28#32)) (broadcast S1280x8192 28#32) (ix2 i q)).toInt : ℝ) : EReal) * k0_pay5 s (ix2 i q) = _
  rw [h]
  rfl

theorem high_apply (v : Vec Ideal S1x1280x8192 .i8) (s : Vec Ideal S1x1280x512 .f32) (i : Fin 1280) (q : Fin 8192) :
    k0_pay7 v s (ix2 i q) = ((Spec.high (v (ix3 0 i q)) : ℝ) : EReal) * s (ix3 0 i ⟨q.val / 16, by omega⟩) := by
  rw [← scale_apply s i q]
  have h : shrsi (shli (k0_pay4 v) (broadcast S1280x8192 24#32)) (broadcast S1280x8192 28#32) (ix2 i q)
      = ((v (ix3 0 i q) : BitVec 8).setWidth 32 <<< 24).sshiftRight 28 := by
    rw [← bytes_apply]
    rfl
  show (((shrsi (shli (k0_pay4 v) (broadcast S1280x8192 24#32)) (broadcast S1280x8192 28#32) (ix2 i q)).toInt : ℝ) : EReal) * k0_pay5 s (ix2 i q) = _
  rw [h]
  rfl

/-! ## The residual -/

/-- The halves side by side, the low ones in the even columns. -/
def both (e o : FVec Ideal S1280x8192 .f32) : FVec Ideal S1280x16384 .f32 :=
  shapeCast S1280x16384 (concatenate S1280x8192x2 2 [⟨S1280x8192x1, shapeCast S1280x8192x1 e shapeCasts_S1280x8192_S1280x8192x1⟩,
    ⟨S1280x8192x1, shapeCast S1280x8192x1 o shapeCasts_S1280x8192_S1280x8192x1⟩] concatenates_S1280x8192x1_S1280x8192x1_S1280x8192x2_d2)
    shapeCasts_S1280x8192x2_S1280x16384

theorem join_apply {α : Type} (w : S1280x8192x2.Idx → α) (i : Fin 1280) (j : Fin 16384) :
    shapeCast S1280x16384 w shapeCasts_S1280x8192x2_S1280x16384 (ix2 i j) = w (ix3 i ⟨j.val / 2, by omega⟩ ⟨j.val % 2, by omega⟩) := by
  unfold shapeCast
  refine congrArg w (Shape.reshapeEquiv_eq_of_vals _ _ _ _ _ (rowMajor_val3 _ 16384 2 rfl rfl) (rowMajor_val2 _ 16384 rfl) ?_)
  show i.val * 16384 + j.val / 2 * 2 + j.val % 2 = i.val * 16384 + j.val
  omega

theorem one_apply {α : Type} (w : S1280x8192.Idx → α) (i : Fin 1280) (q : Fin 8192) :
    shapeCast S1280x8192x1 w shapeCasts_S1280x8192_S1280x8192x1 (ix3 i q 0) = w (ix2 i q) := by
  unfold shapeCast
  refine congrArg w (Shape.reshapeEquiv_eq_of_vals _ _ _ _ _ (rowMajor_val2 _ 8192 rfl) (rowMajor_val3 _ 8192 1 rfl rfl) ?_)
  show i.val * 8192 + q.val = i.val * 8192 + q.val * 1 + 0
  omega

theorem both_apply (e o : FVec Ideal S1280x8192 .f32) (i : Fin 1280) (j : Fin 16384) :
    both e o (ix2 i j) = if j.val % 2 = 0 then e (ix2 i ⟨j.val / 2, by omega⟩) else o (ix2 i ⟨j.val / 2, by omega⟩) := by
  unfold both
  rw [join_apply]
  pointwise [one_apply]
  by_cases h : j.val % 2 = 0
  · exact (dif_pos (Nat.lt_one_iff.2 h)).trans (if_pos h).symm
  · exact (dif_neg fun h' => h (Nat.lt_one_iff.1 h')).trans (if_neg h).symm

section Block

variable (x0 : Vec Ideal S8x1280x8192 .i8) (x1 : Vec Ideal S8x1280x512 .f32) (x2 : Vec Ideal S1280x16384 .bf16) (x3 : Vec Ideal S1x16384 .f32)

/-- A shard's bytes and scales, as they are loaded. -/
theorem byte0 (i : Fin 1280) (q : Fin 8192) : View.ld x0 r0_0 (ix3 0 i q) = x0 (ix3 0 i q) :=
  View.ld_unit_apply_of _ _ _ _ _ (ix3 0 i q) fun a => by
    match a with
    | 0 => rfl
    | 1 => exact (Nat.zero_add _).symm
    | 2 => exact (Nat.zero_add _).symm
theorem scl0 (i : Fin 1280) (g : Fin 512) : View.ld x1 r0_1 (ix3 0 i g) = x1 (ix3 0 i g) :=
  View.ld_unit_apply_of _ _ _ _ _ (ix3 0 i g) fun a => by
    match a with
    | 0 => rfl
    | 1 => exact (Nat.zero_add _).symm
    | 2 => exact (Nat.zero_add _).symm
theorem byte1 (i : Fin 1280) (q : Fin 8192) : View.ld x0 r0_2 (ix3 0 i q) = x0 (ix3 1 i q) :=
  View.ld_unit_apply_of _ _ _ _ _ (ix3 1 i q) fun a => by
    match a with
    | 0 => rfl
    | 1 => exact (Nat.zero_add _).symm
    | 2 => exact (Nat.zero_add _).symm
theorem scl1 (i : Fin 1280) (g : Fin 512) : View.ld x1 r0_3 (ix3 0 i g) = x1 (ix3 1 i g) :=
  View.ld_unit_apply_of _ _ _ _ _ (ix3 1 i g) fun a => by
    match a with
    | 0 => rfl
    | 1 => exact (Nat.zero_add _).symm
    | 2 => exact (Nat.zero_add _).symm
theorem byte2 (i : Fin 1280) (q : Fin 8192) : View.ld x0 r0_4 (ix3 0 i q) = x0 (ix3 2 i q) :=
  View.ld_unit_apply_of _ _ _ _ _ (ix3 2 i q) fun a => by
    match a with
    | 0 => rfl
    | 1 => exact (Nat.zero_add _).symm
    | 2 => exact (Nat.zero_add _).symm
theorem scl2 (i : Fin 1280) (g : Fin 512) : View.ld x1 r0_5 (ix3 0 i g) = x1 (ix3 2 i g) :=
  View.ld_unit_apply_of _ _ _ _ _ (ix3 2 i g) fun a => by
    match a with
    | 0 => rfl
    | 1 => exact (Nat.zero_add _).symm
    | 2 => exact (Nat.zero_add _).symm
theorem byte3 (i : Fin 1280) (q : Fin 8192) : View.ld x0 r0_6 (ix3 0 i q) = x0 (ix3 3 i q) :=
  View.ld_unit_apply_of _ _ _ _ _ (ix3 3 i q) fun a => by
    match a with
    | 0 => rfl
    | 1 => exact (Nat.zero_add _).symm
    | 2 => exact (Nat.zero_add _).symm
theorem scl3 (i : Fin 1280) (g : Fin 512) : View.ld x1 r0_7 (ix3 0 i g) = x1 (ix3 3 i g) :=
  View.ld_unit_apply_of _ _ _ _ _ (ix3 3 i g) fun a => by
    match a with
    | 0 => rfl
    | 1 => exact (Nat.zero_add _).symm
    | 2 => exact (Nat.zero_add _).symm
theorem byte4 (i : Fin 1280) (q : Fin 8192) : View.ld x0 r0_8 (ix3 0 i q) = x0 (ix3 4 i q) :=
  View.ld_unit_apply_of _ _ _ _ _ (ix3 4 i q) fun a => by
    match a with
    | 0 => rfl
    | 1 => exact (Nat.zero_add _).symm
    | 2 => exact (Nat.zero_add _).symm
theorem scl4 (i : Fin 1280) (g : Fin 512) : View.ld x1 r0_9 (ix3 0 i g) = x1 (ix3 4 i g) :=
  View.ld_unit_apply_of _ _ _ _ _ (ix3 4 i g) fun a => by
    match a with
    | 0 => rfl
    | 1 => exact (Nat.zero_add _).symm
    | 2 => exact (Nat.zero_add _).symm
theorem byte5 (i : Fin 1280) (q : Fin 8192) : View.ld x0 r0_10 (ix3 0 i q) = x0 (ix3 5 i q) :=
  View.ld_unit_apply_of _ _ _ _ _ (ix3 5 i q) fun a => by
    match a with
    | 0 => rfl
    | 1 => exact (Nat.zero_add _).symm
    | 2 => exact (Nat.zero_add _).symm
theorem scl5 (i : Fin 1280) (g : Fin 512) : View.ld x1 r0_11 (ix3 0 i g) = x1 (ix3 5 i g) :=
  View.ld_unit_apply_of _ _ _ _ _ (ix3 5 i g) fun a => by
    match a with
    | 0 => rfl
    | 1 => exact (Nat.zero_add _).symm
    | 2 => exact (Nat.zero_add _).symm
theorem byte6 (i : Fin 1280) (q : Fin 8192) : View.ld x0 r0_12 (ix3 0 i q) = x0 (ix3 6 i q) :=
  View.ld_unit_apply_of _ _ _ _ _ (ix3 6 i q) fun a => by
    match a with
    | 0 => rfl
    | 1 => exact (Nat.zero_add _).symm
    | 2 => exact (Nat.zero_add _).symm
theorem scl6 (i : Fin 1280) (g : Fin 512) : View.ld x1 r0_13 (ix3 0 i g) = x1 (ix3 6 i g) :=
  View.ld_unit_apply_of _ _ _ _ _ (ix3 6 i g) fun a => by
    match a with
    | 0 => rfl
    | 1 => exact (Nat.zero_add _).symm
    | 2 => exact (Nat.zero_add _).symm
theorem byte7 (i : Fin 1280) (q : Fin 8192) : View.ld x0 r0_14 (ix3 0 i q) = x0 (ix3 7 i q) :=
  View.ld_unit_apply_of _ _ _ _ _ (ix3 7 i q) fun a => by
    match a with
    | 0 => rfl
    | 1 => exact (Nat.zero_add _).symm
    | 2 => exact (Nat.zero_add _).symm
theorem scl7 (i : Fin 1280) (g : Fin 512) : View.ld x1 r0_15 (ix3 0 i g) = x1 (ix3 7 i g) :=
  View.ld_unit_apply_of _ _ _ _ _ (ix3 7 i g) fun a => by
    match a with
    | 0 => rfl
    | 1 => exact (Nat.zero_add _).symm
    | 2 => exact (Nat.zero_add _).symm

/-- The sums of the shards' low halves, and of their high halves. -/
def lows : FVec Ideal S1280x8192 .f32 :=
  addf (addf (addf (addf (addf (addf (addf (k0_pay6 (View.ld x0 r0_0) (View.ld x1 r0_1)) (k0_pay6 (View.ld x0 r0_2) (View.ld x1 r0_3))) (k0_pay6 (View.ld x0 r0_4) (View.ld x1 r0_5))) (k0_pay6 (View.ld x0 r0_6) (View.ld x1 r0_7))) (k0_pay6 (View.ld x0 r0_8) (View.ld x1 r0_9))) (k0_pay6 (View.ld x0 r0_10) (View.ld x1 r0_11))) (k0_pay6 (View.ld x0 r0_12) (View.ld x1 r0_13))) (k0_pay6 (View.ld x0 r0_14) (View.ld x1 r0_15))
def highs : FVec Ideal S1280x8192 .f32 :=
  addf (addf (addf (addf (addf (addf (addf (k0_pay7 (View.ld x0 r0_0) (View.ld x1 r0_1)) (k0_pay7 (View.ld x0 r0_2) (View.ld x1 r0_3))) (k0_pay7 (View.ld x0 r0_4) (View.ld x1 r0_5))) (k0_pay7 (View.ld x0 r0_6) (View.ld x1 r0_7))) (k0_pay7 (View.ld x0 r0_8) (View.ld x1 r0_9))) (k0_pay7 (View.ld x0 r0_10) (View.ld x1 r0_11))) (k0_pay7 (View.ld x0 r0_12) (View.ld x1 r0_13))) (k0_pay7 (View.ld x0 r0_14) (View.ld x1 r0_15))

theorem lows_apply (i : Fin 1280) (q : Fin 8192) : lows x0 x1 (ix2 i q)
    = ∑ r, ((Spec.low (x0 (ix3 r i q)) : ℝ) : EReal) * x1 (ix3 r i ⟨q.val / 16, by omega⟩) := by
  rw [Fin.sum_univ_eight]
  show k0_pay6 (View.ld x0 r0_0) (View.ld x1 r0_1) (ix2 i q) + k0_pay6 (View.ld x0 r0_2) (View.ld x1 r0_3) (ix2 i q) + k0_pay6 (View.ld x0 r0_4) (View.ld x1 r0_5) (ix2 i q) + k0_pay6 (View.ld x0 r0_6) (View.ld x1 r0_7) (ix2 i q) + k0_pay6 (View.ld x0 r0_8) (View.ld x1 r0_9) (ix2 i q) + k0_pay6 (View.ld x0 r0_10) (View.ld x1 r0_11) (ix2 i q) + k0_pay6 (View.ld x0 r0_12) (View.ld x1 r0_13) (ix2 i q) + k0_pay6 (View.ld x0 r0_14) (View.ld x1 r0_15) (ix2 i q) = _
  rw [low_apply, low_apply, low_apply, low_apply, low_apply, low_apply, low_apply, low_apply, byte0, scl0, byte1, scl1, byte2, scl2, byte3, scl3, byte4, scl4, byte5, scl5, byte6, scl6, byte7, scl7]

theorem highs_apply (i : Fin 1280) (q : Fin 8192) : highs x0 x1 (ix2 i q)
    = ∑ r, ((Spec.high (x0 (ix3 r i q)) : ℝ) : EReal) * x1 (ix3 r i ⟨q.val / 16, by omega⟩) := by
  rw [Fin.sum_univ_eight]
  show k0_pay7 (View.ld x0 r0_0) (View.ld x1 r0_1) (ix2 i q) + k0_pay7 (View.ld x0 r0_2) (View.ld x1 r0_3) (ix2 i q) + k0_pay7 (View.ld x0 r0_4) (View.ld x1 r0_5) (ix2 i q) + k0_pay7 (View.ld x0 r0_6) (View.ld x1 r0_7) (ix2 i q) + k0_pay7 (View.ld x0 r0_8) (View.ld x1 r0_9) (ix2 i q) + k0_pay7 (View.ld x0 r0_10) (View.ld x1 r0_11) (ix2 i q) + k0_pay7 (View.ld x0 r0_12) (View.ld x1 r0_13) (ix2 i q) + k0_pay7 (View.ld x0 r0_14) (View.ld x1 r0_15) (ix2 i q) = _
  rw [high_apply, high_apply, high_apply, high_apply, high_apply, high_apply, high_apply, high_apply, byte0, scl0, byte1, scl1, byte2, scl2, byte3, scl3, byte4, scl4, byte5, scl5, byte6, scl6, byte7, scl7]

/-- The residual, as the body computes it from the blocks. -/
def hv : FVec Ideal S1280x16384 .f32 := addf (both (lows x0 x1) (highs x0 x1)) (extf .f32 (View.ld x2 r0_16) bitsLt_bf16_f32)

theorem ld_x (y : S1280x16384.Idx) : View.ld x2 r0_16 y = x2 y :=
  View.ld_unit_apply_of _ _ _ _ _ y fun a => by
    match a with
    | 0 => exact (Nat.zero_add _).symm
    | 1 => exact (Nat.zero_add _).symm

theorem ld_w (y : S1x16384.Idx) : View.ld x3 r0_17 y = x3 y :=
  View.ld_unit_apply_of _ _ _ _ _ y fun a => by
    match a with
    | 0 => exact (Nat.zero_add _).symm
    | 1 => exact (Nat.zero_add _).symm

/-- Row `i` of the residual, and the row of weights. -/
def H (i : Fin 1280) : Fin 16384 → EReal :=
  Spec.hcol (fun r q => x0 (ix3 r i q)) (fun r g => x1 (ix3 r i g)) (fun j => x2 (ix2 i j))
def W (j : Fin 16384) : EReal := x3 (ix2 0 j)

theorem hv_apply (i : Fin 1280) (j : Fin 16384) : hv x0 x1 x2 (ix2 i j) = H x0 x1 x2 i j := by
  show both (lows x0 x1) (highs x0 x1) (ix2 i j) + View.ld x2 r0_16 (ix2 i j) = _
  rw [both_apply, ld_x, lows_apply, highs_apply]
  unfold H Spec.hcol Spec.half
  refine congrArg (· + x2 (ix2 i j)) ?_
  have e : (⟨j.val / 2 / 16, by omega⟩ : Fin 512) = ⟨j.val / 32, by omega⟩ := Fin.ext (Nat.div_div_eq_div_mul _ _ _)
  by_cases h : j.val % 2 = 0
  · simp only [if_pos h, e]
  · simp only [if_neg h, e]

end Block

/-! ## The norm, its codes and its scales -/

/-- The norm of the rows of `h` under the weights `w`. -/
def nrm (h : FVec Ideal S1280x16384 .f32) (w : Vec Ideal S1x16384 .f32) : FVec Ideal S1280x16384 .f32 :=
  mulf (divf h (broadcastTo S1280x16384 (sqrt (addf (divf (shapeCast S1280x1 (multiReduction .add [1] S1280 (mulf h h) 0x00000000#32
    reduces_S1280x16384_S1280 (.inl rfl) rfl) shapeCasts_S1280_S1280x1) (broadcast S1280x1 (Scalar.ofBits .f32 0x46800000#32)))
    (broadcast S1280x1 (Scalar.ofBits .f32 0x3727C5AC#32)))) broadcasts_S1280x1_S1280x16384))
    (broadcastTo S1280x16384 w broadcasts_S1x16384_S1280x16384)

theorem nrm_apply (h : FVec Ideal S1280x16384 .f32) (w : Vec Ideal S1x16384 .f32) (i : Fin 1280) (j : Fin 16384) :
    nrm h w (ix2 i j) = Spec.normed (fun j => h (ix2 i j)) (fun j => w (ix2 0 j)) j := by
  pointwise [nrm]
  rfl

/-- The largest magnitude of a row. -/
def tops (n : FVec Ideal S1280x16384 .f32) : FVec Ideal S1280x1 .f32 :=
  shapeCast S1280x1 (multiReduction .maximumf [1] S1280 (absf n) 0xFF800000#32 reduces_S1280x16384_S1280 (.inl rfl) rfl) shapeCasts_S1280_S1280x1

theorem tops_apply (n : FVec Ideal S1280x16384 .f32) (i : Fin 1280) (z : Fin 1) :
    tops n (ix2 i z) = Spec.top fun j : Fin 16384 => Spec.mag (n (ix2 i j)) := by
  pointwise [tops]
  rfl

theorem pay1_apply (a : FVec Ideal S1280x1 .f32) (i : Fin 1280) (z : Fin 1) :
    k0_pay1 a (k0_pay36 (F := Ideal)) (ix2 i z) = Spec.qscale (a (ix2 i z)) := by
  pointwise [k0_pay1, k0_pay36]
  rfl

theorem quant_apply (n : FVec Ideal S1280x16384 .f32) (a z : FVec Ideal S1280x1 .f32) (i : Fin 1280) (j : Fin 16384) :
    k0_pay2 n a z (ix2 i j) = Spec.qcode (n (ix2 i j)) (k0_pay1 a z (ix2 i 0)) := by
  pointwise [k0_pay2]
  rfl

theorem pay2_apply (n : FVec Ideal S1280x16384 .f32) (i : Fin 1280) (j : Fin 16384) :
    k0_pay2 n (tops n) (k0_pay36 (F := Ideal)) (ix2 i j) = Spec.rowCode (fun j => n (ix2 i j)) j := by
  rw [quant_apply, pay1_apply, tops_apply]
  unfold Spec.rowCode Spec.rowScale
  rfl

theorem pay3_apply (n : FVec Ideal S1280x16384 .f32) (i : Fin 1280) (l : Fin 128) :
    k0_pay3 (tops n) (k0_pay36 (F := Ideal)) (ix2 i l) = Spec.rowScale (fun j => n (ix2 i j)) := by
  pointwise [k0_pay3, pay1_apply, tops_apply]
  rfl

section Block

variable (x0 : Vec Ideal S8x1280x8192 .i8) (x1 : Vec Ideal S8x1280x512 .f32) (x2 : Vec Ideal S1280x16384 .bf16) (x3 : Vec Ideal S1x16384 .f32)

theorem out4_eq : k0_pay33 (k0_pay39 x0 x1 x2 x3) (k0_pay40 x0 x1 x2 x3) (k0_pay41 x0 x1 x2 x3) (k0_pay42 x0 x1 x2 x3) (View.ld x2 r0_16)
    = truncf .bf16 (hv x0 x1 x2) bitsLt_bf16_f32 := rfl
theorem pay34_eq : k0_pay34 (k0_pay39 x0 x1 x2 x3) (k0_pay40 x0 x1 x2 x3) (k0_pay41 x0 x1 x2 x3) (k0_pay42 x0 x1 x2 x3) (View.ld x2 r0_16) (View.ld x3 r0_17)
    = nrm (hv x0 x1 x2) (View.ld x3 r0_17) := rfl
theorem pay43_eq : k0_pay43 x0 x1 x2 x3 = tops (nrm (hv x0 x1 x2) (View.ld x3 r0_17)) := rfl

theorem nrm_row (i : Fin 1280) : (fun j => nrm (hv x0 x1 x2) (View.ld x3 r0_17) (ix2 i j)) = Spec.normed (H x0 x1 x2 i) (W x3) := by
  funext j
  rw [nrm_apply]
  have e1 : (fun j => hv x0 x1 x2 (ix2 i j)) = H x0 x1 x2 i := funext fun j => hv_apply x0 x1 x2 i j
  have e2 : (fun j => View.ld x3 r0_17 (ix2 0 j)) = W x3 := funext fun j => ld_w x3 (ix2 0 j)
  rw [e1, e2]

theorem st4 (i : Fin 1280) (j : Fin 16384) :
    k0_pay33 (k0_pay39 x0 x1 x2 x3) (k0_pay40 x0 x1 x2 x3) (k0_pay41 x0 x1 x2 x3) (k0_pay42 x0 x1 x2 x3) (View.ld x2 r0_16) (ix2 i j)
      = H x0 x1 x2 i j := by
  rw [out4_eq]
  exact hv_apply x0 x1 x2 i j

theorem st5 (i : Fin 1280) (j : Fin 16384) :
    k0_pay2 (k0_pay34 (k0_pay39 x0 x1 x2 x3) (k0_pay40 x0 x1 x2 x3) (k0_pay41 x0 x1 x2 x3) (k0_pay42 x0 x1 x2 x3) (View.ld x2 r0_16) (View.ld x3 r0_17))
      (k0_pay43 x0 x1 x2 x3) (k0_pay44 x0 x1 x2 x3) (ix2 i j) = Spec.rowCode (Spec.normed (H x0 x1 x2 i) (W x3)) j := by
  rw [pay34_eq, pay43_eq]
  exact (pay2_apply _ i j).trans (congrArg (fun f => Spec.rowCode f j) (nrm_row x0 x1 x2 x3 i))

theorem st6 (i : Fin 1280) (l : Fin 128) :
    k0_pay3 (k0_pay43 x0 x1 x2 x3) (k0_pay44 x0 x1 x2 x3) (ix2 i l) = Spec.rowScale (Spec.normed (H x0 x1 x2 i) (W x3)) := by
  rw [pay43_eq]
  exact (pay3_apply _ i l).trans (congrArg Spec.rowScale (nrm_row x0 x1 x2 x3 i))

end Block

/-! ## The arrays -/

variable (m : (ℓ : Loc nD τ sig) → Buf (Elt Ideal) ℓ) (ρ : Dev nD → PrngReg)

/-- The arrays as launched. -/
abbrev X0 (c : Dev nD) : S8x1280x8192.Idx → BitVec 8 := m ((c.tc : Thread nD τ).loc main_arg0)
abbrev X1 (c : Dev nD) : S8x1280x512.Idx → EReal := m ((c.tc : Thread nD τ).loc main_arg1)
abbrev X2 (c : Dev nD) : S1280x16384.Idx → EReal := m ((c.tc : Thread nD τ).loc main_arg2)
abbrev X3 (c : Dev nD) : S1x16384.Idx → EReal := m ((c.tc : Thread nD τ).loc main_arg3)

/-- Row `i` of the residual, the weights, and the norm of the row. -/
def hrow (c : Dev nD) (i : Fin 1280) : Fin 16384 → EReal :=
  Spec.hcol (fun r q => X0 m c (ix3 r i q)) (fun r g => X1 m c (ix3 r i g)) (fun j => X2 m c (ix2 i j))
def wrow (c : Dev nD) (j : Fin 16384) : EReal := X3 m c (ix2 0 j)
def nrow (c : Dev nD) (i : Fin 1280) : Fin 16384 → EReal := Spec.normed (hrow m c i) (wrow m c)

theorem idx : ∀ t : Fin cfg0.N, win0_0.index t = ![0, 0, 0] ∧ win0_1.index t = ![0, 0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The staged arrays are the arrays. -/
theorem block_row (c : Dev nD) (t : Fin cfg0.N) (i : Fin 1280) : H (iblk m c 0 t) (iblk m c 1 t) (iblk m c 2 t) i = hrow m c i := by
  have h0 : ∀ (r : Fin 8) (q : Fin 8192), (iblk m c 0 t : Vec Ideal S8x1280x8192 .i8) (ix3 r i q) = X0 m c (ix3 r i q) := fun r q => by
    blk_point [iblk, idx t]
  have h1 : ∀ (r : Fin 8) (g : Fin 512), (iblk m c 1 t : Vec Ideal S8x1280x512 .f32) (ix3 r i g) = X1 m c (ix3 r i g) := fun r g => by
    blk_point [iblk, idx t]
  have h2 : ∀ j : Fin 16384, (iblk m c 2 t : Vec Ideal S1280x16384 .bf16) (ix2 i j) = X2 m c (ix2 i j) := fun j => by
    blk_point [iblk, idx t]
  have e0 : (fun r q => (iblk m c 0 t : Vec Ideal S8x1280x8192 .i8) (ix3 r i q)) = fun r q => X0 m c (ix3 r i q) :=
    funext fun r => funext fun q => h0 r q
  have e1 : (fun r g => (iblk m c 1 t : Vec Ideal S8x1280x512 .f32) (ix3 r i g)) = fun r g => X1 m c (ix3 r i g) :=
    funext fun r => funext fun g => h1 r g
  have e2 : (fun j => (iblk m c 2 t : Vec Ideal S1280x16384 .bf16) (ix2 i j)) = fun j => X2 m c (ix2 i j) := funext h2
  unfold H hrow
  rw [e0, e1, e2]

theorem block_w (c : Dev nD) (t : Fin cfg0.N) : W (iblk m c 3 t) = wrow m c := by
  funext j
  unfold W wrow
  blk_point [iblk, idx t]

theorem zero2 : (![0, 0] : Fin 2 → ℕ) = fun _ => 0 := by decide

/-- THE RESIDUAL. -/
theorem residual (c : Dev nD) : (dats m 0 c).arrAt 4 cfg0.N = (fun y : S1280x16384.Idx => hrow m c (y 0) (y 1) : S1280x16384.Idx → EReal) := by
  refine (dats m 0 c).arrAt_eq_of_covers 4 _ (by decide +kernel) fun t hf y => ?_
  have e : ((cfg0.win 4).blk t).view.emb y = (y : S1280x16384.Idx) := by
    funext a
    apply Fin.ext
    match a with
    | 0 => blk_simp; blk_point [idx t]
    | 1 => blk_simp; blk_point [idx t]
  rw [e]
  blk_simp
  rw [after0_4]; unfold out0_4
  obtain ⟨i, j, rfl⟩ : ∃ i : Fin 1280, ∃ j : Fin 16384, y = ix2 i j := ⟨y 0, y 1, eq_ix2 y⟩
  refine (congrFun (View.canon_unit_zero zero2 _ _) (ix2 i j)).trans ?_
  exact (st4 _ _ _ _ i j).trans (congrFun (block_row m c t i) j)

/-- THE CODES of the norm. -/
theorem codes (c : Dev nD) : (dats m 0 c).arrAt 5 cfg0.N = (fun y : S1280x16384.Idx => Spec.rowCode (nrow m c (y 0)) (y 1) : S1280x16384.Idx → EReal) := by
  refine (dats m 0 c).arrAt_eq_of_covers 5 _ (by decide +kernel) fun t hf y => ?_
  have e : ((cfg0.win 5).blk t).view.emb y = (y : S1280x16384.Idx) := by
    funext a
    apply Fin.ext
    match a with
    | 0 => blk_simp; blk_point [idx t]
    | 1 => blk_simp; blk_point [idx t]
  rw [e]
  blk_simp
  rw [after0_5]; unfold out0_5
  obtain ⟨i, j, rfl⟩ : ∃ i : Fin 1280, ∃ j : Fin 16384, y = ix2 i j := ⟨y 0, y 1, eq_ix2 y⟩
  refine (congrFun (View.canon_unit_zero zero2 _ _) (ix2 i j)).trans ?_
  refine (st5 _ _ _ _ i j).trans ?_
  rw [block_w]
  exact congrArg (fun f => Spec.rowCode (Spec.normed f (wrow m c)) j) (block_row m c t i)

/-- THE SCALES of the norm, each row's the same on 128 lanes. -/
theorem scales (c : Dev nD) : (dats m 0 c).arrAt 6 cfg0.N = (fun y : S1280x128.Idx => Spec.rowScale (nrow m c (y 0)) : S1280x128.Idx → EReal) := by
  refine (dats m 0 c).arrAt_eq_of_covers 6 _ (by decide +kernel) fun t hf y => ?_
  have e : ((cfg0.win 6).blk t).view.emb y = (y : S1280x128.Idx) := by
    funext a
    apply Fin.ext
    match a with
    | 0 => blk_simp; blk_point [idx t]
    | 1 => blk_simp; blk_point [idx t]
  rw [e]
  blk_simp
  rw [after0_6]; unfold out0_6
  obtain ⟨i, j, rfl⟩ : ∃ i : Fin 1280, ∃ j : Fin 128, y = ix2 i j := ⟨y 0, y 1, eq_ix2 y⟩
  refine (congrFun (View.canon_unit_zero zero2 _ _) (ix2 i j)).trans ?_
  refine (st6 _ _ _ _ i j).trans ?_
  rw [block_w]
  exact congrArg (fun f => Spec.rowScale (Spec.normed f (wrow m c))) (block_row m c t i)

/-- THE RUN: the three result arrays named, the arguments unchanged. -/
theorem run : θ_run defs (onTc (τ := τ) (main (F := Ideal))) ⟨m, fun _ => 0, ρ⟩ (fun r => ∀ c : Dev nD,
      r.2.mem ((c.tc : Thread nD τ).loc main_v0_0) = (fun y : S1280x16384.Idx => hrow m c (y 0) (y 1) : S1280x16384.Idx → EReal)
      ∧ r.2.mem ((c.tc : Thread nD τ).loc main_v0_1) = (fun y : S1280x16384.Idx => Spec.rowCode (nrow m c (y 0)) (y 1) : S1280x16384.Idx → EReal)
      ∧ r.2.mem ((c.tc : Thread nD τ).loc main_v0_2) = (fun y : S1280x128.Idx => Spec.rowScale (nrow m c (y 0)) : S1280x128.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (residual m c), ((h.1 c).1 5).trans (codes m c), ((h.1 c).1 6).trans (scales m c), h.2 c⟩)
    (θ_run_and (run_main m ρ) (unchanged m ρ))

end Cert.RecvReferenceIdeal.Ref

end
-- ==== Proof.RecvValue.lean ====
/- The first equation: launched on equal arguments, the first kernel and its reference end with equal results. -/
module

public import proofs.«01_k».proof.Defs
public import proofs.«01_k».proof.Proof.RecvOut
public import proofs.«01_k».proof.Proof.RecvRef

@[expose] public section

noncomputable section

namespace Cert.Proof

open Idealize.ShloMosaic Idealize.ShloMosaic.TcCoe Idealize.SL.Sem

/-- Over the extended reals the first kernel's residual, and the codes and scales of its norm, are the reference's. -/
theorem algebraic_recv : @Cert.algebraic_RecvIdeal_RecvReferenceIdeal Cert.RecvIdeal.Gen.facts Cert.RecvReferenceIdeal.Gen.facts := by
  intro m g m' g' _ h
  have hh : ∀ c : Dev Cert.RecvIdeal.nD, Cert.RecvReferenceIdeal.Ref.hrow m' c = Cert.RecvIdeal.Out.hrow m c := fun c => by
    obtain ⟨h0, h1, h2, -⟩ := h c
    have e0 : Cert.RecvReferenceIdeal.Ref.X0 m' c = Cert.RecvIdeal.Out.X0 m c := h0
    have e1 : Cert.RecvReferenceIdeal.Ref.X1 m' c = Cert.RecvIdeal.Out.X1 m c := h1
    have e2 : Cert.RecvReferenceIdeal.Ref.X2 m' c = Cert.RecvIdeal.Out.X2 m c := h2
    unfold Cert.RecvReferenceIdeal.Ref.hrow Cert.RecvIdeal.Out.hrow
    rw [e0, e1, e2]
  have hw : ∀ c : Dev Cert.RecvIdeal.nD, Cert.RecvReferenceIdeal.Ref.wrow m' c = Cert.RecvIdeal.Out.wrow m c := fun c => by
    have e3 : Cert.RecvReferenceIdeal.Ref.X3 m' c = Cert.RecvIdeal.Out.X3 m c := (h c).2.2.2
    unfold Cert.RecvReferenceIdeal.Ref.wrow Cert.RecvIdeal.Out.wrow
    rw [e3]
  have hn : ∀ c : Dev Cert.RecvIdeal.nD, Cert.RecvReferenceIdeal.Ref.nrow m' c = Cert.RecvIdeal.Out.nrow m c := fun c => by
    unfold Cert.RecvReferenceIdeal.Ref.nrow Cert.RecvIdeal.Out.nrow
    rw [hh, hw]
  refine ⟨fun c => (fun y => Cert.RecvIdeal.Out.hrow m c (y 0) (y 1) : Cert.RecvIdeal.S1280x16384.Idx → EReal),
    fun c => (fun y => Spec.rowCode (Cert.RecvIdeal.Out.nrow m c (y 0)) (y 1) : Cert.RecvIdeal.S1280x16384.Idx → EReal),
    fun c => (fun y => Spec.rowScale (Cert.RecvIdeal.Out.nrow m c (y 0)) : Cert.RecvIdeal.S1280x128.Idx → EReal),
    Cert.RecvIdeal.Out.run m g,
    (θ_run _ _ _).mono (fun r hr c => ?_) (Cert.RecvReferenceIdeal.Ref.run m' g')⟩
  exact ⟨(hr c).1.trans (funext fun y => congrFun (congrFun (hh c) (y 0)) (y 1)),
    (hr c).2.1.trans (funext fun y => congrArg (fun f => Spec.rowCode f (y 1)) (congrFun (hn c) (y 0))),
    (hr c).2.2.1.trans (funext fun y => congrArg Spec.rowScale (congrFun (hn c) (y 0))), (hr c).2.2.2⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownReferenceIdeal
public import proofs.«01_k».proof.Proof.Gen.DownReferenceIdeal.Skeleton
public import proofs.«01_k».proof.Proof.Gen.DownReferenceIdeal.Launch
public import proofs.«01_k».proof.Proof.Gen.DownReferenceIdeal.Points
public import proofs.«01_k».proof.Proof.Gen.DownReferenceIdeal.Frame
public import proofs.«01_k».proof.Proof.Gen.Recv
public import proofs.«01_k».proof.Proof.Gen.Recv.Skeleton
public import proofs.«01_k».proof.Proof.Gen.Recv.Loops
public import proofs.«01_k».proof.Proof.Gen.Recv.Launch
public import proofs.«01_k».proof.Proof.Gen.Recv.Points
public import proofs.«01_k».proof.Proof.Gen.RecvIdeal
public import proofs.«01_k».proof.Proof.Gen.RecvIdeal.Skeleton
public import proofs.«01_k».proof.Proof.Gen.RecvIdeal.Loops
public import proofs.«01_k».proof.Proof.Gen.RecvIdeal.Launch
public import proofs.«01_k».proof.Proof.Gen.RecvIdeal.Points
public import proofs.«01_k».proof.Proof.Gen.RecvReferenceIdeal
public import proofs.«01_k».proof.Proof.Gen.RecvReferenceIdeal.Skeleton
public import proofs.«01_k».proof.Proof.Gen.RecvReferenceIdeal.Launch
public import proofs.«01_k».proof.Proof.Gen.RecvReferenceIdeal.Points
public import proofs.«01_k».proof.Proof.Gen.RecvReferenceIdeal.Frame
public import proofs.«01_k».proof.Proof.Gen.ReferenceIdeal.Value
public import proofs.«01_k».proof.Proof.Gen.DownReferenceIdeal.Value
public import proofs.«01_k».proof.Proof.Value
public import proofs.«01_k».proof.Proof.DownFrame
public import proofs.«01_k».proof.Proof.DownValue
public import proofs.«01_k».proof.Proof.RecvPlainFrame
public import proofs.«01_k».proof.Proof.RecvFrame
public import proofs.«01_k».proof.Proof.RecvValue
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Down.Gen.facts, Cert.DownIdeal.Gen.facts, Cert.DownReferenceIdeal.Gen.facts,
  Cert.Recv.Gen.facts, Cert.RecvIdeal.Gen.facts, Cert.RecvReferenceIdeal.Gen.facts,
  fun m ρ _ => Cert.Kernel.Gen.frame m ρ, fun m ρ _ => Cert.KernelIdeal.Gen.frame m ρ, fun m ρ _ => Cert.ReferenceIdeal.Gen.frame m ρ,
  fun m ρ _ => Cert.Down.Gen.frame m ρ, fun m ρ _ => Cert.DownIdeal.Gen.frame m ρ, fun m ρ _ => Cert.DownReferenceIdeal.Gen.frame m ρ,
  fun m ρ _ => Cert.Recv.Gen.frame m ρ, fun m ρ _ => Cert.RecvIdeal.Gen.frame m ρ, fun m ρ _ => Cert.RecvReferenceIdeal.Gen.frame m ρ,
  trivial, algebraic, trivial, algebraic_down, trivial, algebraic_recv⟩

end Cert.Proof

end
